-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_CrossOut (m : (ℓ : Loc Cert.CrossOut.nD Cert.CrossOut.τ Cert.CrossOut.sig) → Buf (Elt Bits) ℓ) : Prop :=
  True

def Pre_CrossOutIdeal (m : (ℓ : Loc Cert.CrossOutIdeal.nD Cert.CrossOutIdeal.τ Cert.CrossOutIdeal.sig) → Buf (Elt Ideal) ℓ) : Prop :=
  True

def Pre_CrossOutReferenceIdeal (m : (ℓ : Loc Cert.CrossOutReferenceIdeal.nD Cert.CrossOutReferenceIdeal.τ Cert.CrossOutReferenceIdeal.sig) → Buf (Elt Ideal) ℓ) : Prop :=
  True

def Pre_HyenaOut (m : (ℓ : Loc Cert.HyenaOut.nD Cert.HyenaOut.τ Cert.HyenaOut.sig) → Buf (Elt Bits) ℓ) : Prop :=
  True

def Pre_HyenaOutIdeal (m : (ℓ : Loc Cert.HyenaOutIdeal.nD Cert.HyenaOutIdeal.τ Cert.HyenaOutIdeal.sig) → Buf (Elt Ideal) ℓ) : Prop :=
  True

def Pre_HyenaOutReferenceIdeal (m : (ℓ : Loc Cert.HyenaOutReferenceIdeal.nD Cert.HyenaOutReferenceIdeal.τ Cert.HyenaOutReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_CrossIn (m : (ℓ : Loc Cert.CrossIn.nD Cert.CrossIn.τ Cert.CrossIn.sig) → Buf (Elt Bits) ℓ) : Prop :=
  True

def Pre_CrossInIdeal (m : (ℓ : Loc Cert.CrossInIdeal.nD Cert.CrossInIdeal.τ Cert.CrossInIdeal.sig) → Buf (Elt Ideal) ℓ) : Prop :=
  True

def Pre_CrossInReferenceIdeal (m : (ℓ : Loc Cert.CrossInReferenceIdeal.nD Cert.CrossInReferenceIdeal.τ Cert.CrossInReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2))
      ∧ r.2.sem = fun _ => 0)

def quiescent_CrossOut [hCrossOut : Cert.CrossOut.Facts] : Prop :=
  ∀ (m : (ℓ : Loc Cert.CrossOut.nD Cert.CrossOut.τ Cert.CrossOut.sig) → Buf (Elt Bits) ℓ) (g : Dev Cert.CrossOut.nD → PrngReg), Pre_CrossOut m →
    θ_run (Cert.CrossOut.defs (F := Bits)) (onTc (τ := Cert.CrossOut.τ) (Cert.CrossOut.main (F := Bits))) ⟨m, fun _ => 0, g⟩ (fun r => (∀ c : Dev Cert.CrossOut.nD,
      r.2.mem ((c.tc : Thread Cert.CrossOut.nD Cert.CrossOut.τ).loc Cert.CrossOut.main_arg0) = m ((c.tc : Thread Cert.CrossOut.nD Cert.CrossOut.τ).loc Cert.CrossOut.main_arg0)
      ∧ r.2.mem ((c.tc : Thread Cert.CrossOut.nD Cert.CrossOut.τ).loc Cert.CrossOut.main_arg1) = m ((c.tc : Thread Cert.CrossOut.nD Cert.CrossOut.τ).loc Cert.CrossOut.main_arg1)
      ∧ r.2.mem ((c.tc : Thread Cert.CrossOut.nD Cert.CrossOut.τ).loc Cert.CrossOut.main_arg2) = m ((c.tc : Thread Cert.CrossOut.nD Cert.CrossOut.τ).loc Cert.CrossOut.main_arg2))
      ∧ r.2.sem = fun _ => 0)

def quiescent_CrossOutIdeal [hCrossOutIdeal : Cert.CrossOutIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg), Pre_CrossOutIdeal m →
    θ_run (Cert.CrossOutIdeal.defs (F := Ideal)) (onTc (τ := Cert.CrossOutIdeal.τ) (Cert.CrossOutIdeal.main (F := Ideal))) ⟨m, fun _ => 0, g⟩ (fun r => (∀ c : Dev Cert.CrossOutIdeal.nD,
      r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
      ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
      ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2))
      ∧ r.2.sem = fun _ => 0)

def quiescent_CrossOutReferenceIdeal [hCrossOutReferenceIdeal : Cert.CrossOutReferenceIdeal.Facts] : Prop :=
  ∀ (m : (ℓ : Loc Cert.CrossOutReferenceIdeal.nD Cert.CrossOutReferenceIdeal.τ Cert.CrossOutReferenceIdeal.sig) → Buf (Elt Ideal) ℓ) (g : Dev Cert.CrossOutReferenceIdeal.nD → PrngReg), Pre_CrossOutReferenceIdeal m →
    θ_run (Cert.CrossOutReferenceIdeal.defs (F := Ideal)) (onTc (τ := Cert.CrossOutReferenceIdeal.τ) (Cert.CrossOutReferenceIdeal.main (F := Ideal))) ⟨m, fun _ => 0, g⟩ (fun r => (∀ c : Dev Cert.CrossOutReferenceIdeal.nD,
      r.2.mem ((c.tc : Thread Cert.CrossOutReferenceIdeal.nD Cert.CrossOutReferenceIdeal.τ).loc Cert.CrossOutReferenceIdeal.main_arg0) = m ((c.tc : Thread Cert.CrossOutReferenceIdeal.nD Cert.CrossOutReferenceIdeal.τ).loc Cert.CrossOutReferenceIdeal.main_arg0)
      ∧ r.2.mem ((c.tc : Thread Cert.CrossOutReferenceIdeal.nD Cert.CrossOutReferenceIdeal.τ).loc Cert.CrossOutReferenceIdeal.main_arg1) = m ((c.tc : Thread Cert.CrossOutReferenceIdeal.nD Cert.CrossOutReferenceIdeal.τ).loc Cert.CrossOutReferenceIdeal.main_arg1)
      ∧ r.2.mem ((c.tc : Thread Cert.CrossOutReferenceIdeal.nD Cert.CrossOutReferenceIdeal.τ).loc Cert.CrossOutReferenceIdeal.main_arg2) = m ((c.tc : Thread Cert.CrossOutReferenceIdeal.nD Cert.CrossOutReferenceIdeal.τ).loc Cert.CrossOutReferenceIdeal.main_arg2))
      ∧ r.2.sem = fun _ => 0)

def quiescent_HyenaOut [hHyenaOut : Cert.HyenaOut.Facts] : Prop :=
  ∀ (m : (ℓ : Loc Cert.HyenaOut.nD Cert.HyenaOut.τ Cert.HyenaOut.sig) → Buf (Elt Bits) ℓ) (g : Dev Cert.HyenaOut.nD → PrngReg), Pre_HyenaOut m →
    θ_run (Cert.HyenaOut.defs (F := Bits)) (onTc (τ := Cert.HyenaOut.τ) (Cert.HyenaOut.main (F := Bits))) ⟨m, fun _ => 0, g⟩ (fun r => (∀ c : Dev Cert.HyenaOut.nD,
      r.2.mem ((c.tc : Thread Cert.HyenaOut.nD Cert.HyenaOut.τ).loc Cert.HyenaOut.main_arg0) = m ((c.tc : Thread Cert.HyenaOut.nD Cert.HyenaOut.τ).loc Cert.HyenaOut.main_arg0)
      ∧ r.2.mem ((c.tc : Thread Cert.HyenaOut.nD Cert.HyenaOut.τ).loc Cert.HyenaOut.main_arg1) = m ((c.tc : Thread Cert.HyenaOut.nD Cert.HyenaOut.τ).loc Cert.HyenaOut.main_arg1)
      ∧ r.2.mem ((c.tc : Thread Cert.HyenaOut.nD Cert.HyenaOut.τ).loc Cert.HyenaOut.main_arg2) = m ((c.tc : Thread Cert.HyenaOut.nD Cert.HyenaOut.τ).loc Cert.HyenaOut.main_arg2))
      ∧ r.2.sem = fun _ => 0)

def quiescent_HyenaOutIdeal [hHyenaOutIdeal : Cert.HyenaOutIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg), Pre_HyenaOutIdeal m →
    θ_run (Cert.HyenaOutIdeal.defs (F := Ideal)) (onTc (τ := Cert.HyenaOutIdeal.τ) (Cert.HyenaOutIdeal.main (F := Ideal))) ⟨m, fun _ => 0, g⟩ (fun r => (∀ c : Dev Cert.HyenaOutIdeal.nD,
      r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
      ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
      ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2))
      ∧ r.2.sem = fun _ => 0)

def quiescent_HyenaOutReferenceIdeal [hHyenaOutReferenceIdeal : Cert.HyenaOutReferenceIdeal.Facts] : Prop :=
  ∀ (m : (ℓ : Loc Cert.HyenaOutReferenceIdeal.nD Cert.HyenaOutReferenceIdeal.τ Cert.HyenaOutReferenceIdeal.sig) → Buf (Elt Ideal) ℓ) (g : Dev Cert.HyenaOutReferenceIdeal.nD → PrngReg), Pre_HyenaOutReferenceIdeal m →
    θ_run (Cert.HyenaOutReferenceIdeal.defs (F := Ideal)) (onTc (τ := Cert.HyenaOutReferenceIdeal.τ) (Cert.HyenaOutReferenceIdeal.main (F := Ideal))) ⟨m, fun _ => 0, g⟩ (fun r => (∀ c : Dev Cert.HyenaOutReferenceIdeal.nD,
      r.2.mem ((c.tc : Thread Cert.HyenaOutReferenceIdeal.nD Cert.HyenaOutReferenceIdeal.τ).loc Cert.HyenaOutReferenceIdeal.main_arg0) = m ((c.tc : Thread Cert.HyenaOutReferenceIdeal.nD Cert.HyenaOutReferenceIdeal.τ).loc Cert.HyenaOutReferenceIdeal.main_arg0)
      ∧ r.2.mem ((c.tc : Thread Cert.HyenaOutReferenceIdeal.nD Cert.HyenaOutReferenceIdeal.τ).loc Cert.HyenaOutReferenceIdeal.main_arg1) = m ((c.tc : Thread Cert.HyenaOutReferenceIdeal.nD Cert.HyenaOutReferenceIdeal.τ).loc Cert.HyenaOutReferenceIdeal.main_arg1)
      ∧ r.2.mem ((c.tc : Thread Cert.HyenaOutReferenceIdeal.nD Cert.HyenaOutReferenceIdeal.τ).loc Cert.HyenaOutReferenceIdeal.main_arg2) = m ((c.tc : Thread Cert.HyenaOutReferenceIdeal.nD Cert.HyenaOutReferenceIdeal.τ).loc Cert.HyenaOutReferenceIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2))
      ∧ r.2.sem = fun _ => 0)

def quiescent_CrossIn [hCrossIn : Cert.CrossIn.Facts] : Prop :=
  ∀ (m : (ℓ : Loc Cert.CrossIn.nD Cert.CrossIn.τ Cert.CrossIn.sig) → Buf (Elt Bits) ℓ) (g : Dev Cert.CrossIn.nD → PrngReg), Pre_CrossIn m →
    θ_run (Cert.CrossIn.defs (F := Bits)) (onTc (τ := Cert.CrossIn.τ) (Cert.CrossIn.main (F := Bits))) ⟨m, fun _ => 0, g⟩ (fun r => (∀ c : Dev Cert.CrossIn.nD,
      r.2.mem ((c.tc : Thread Cert.CrossIn.nD Cert.CrossIn.τ).loc Cert.CrossIn.main_arg0) = m ((c.tc : Thread Cert.CrossIn.nD Cert.CrossIn.τ).loc Cert.CrossIn.main_arg0)
      ∧ r.2.mem ((c.tc : Thread Cert.CrossIn.nD Cert.CrossIn.τ).loc Cert.CrossIn.main_arg1) = m ((c.tc : Thread Cert.CrossIn.nD Cert.CrossIn.τ).loc Cert.CrossIn.main_arg1)
      ∧ r.2.mem ((c.tc : Thread Cert.CrossIn.nD Cert.CrossIn.τ).loc Cert.CrossIn.main_arg2) = m ((c.tc : Thread Cert.CrossIn.nD Cert.CrossIn.τ).loc Cert.CrossIn.main_arg2))
      ∧ r.2.sem = fun _ => 0)

def quiescent_CrossInIdeal [hCrossInIdeal : Cert.CrossInIdeal.Facts] : Prop :=
  ∀ (m : (ℓ : Loc Cert.CrossInIdeal.nD Cert.CrossInIdeal.τ Cert.CrossInIdeal.sig) → Buf (Elt Ideal) ℓ) (g : Dev Cert.CrossInIdeal.nD → PrngReg), Pre_CrossInIdeal m →
    θ_run (Cert.CrossInIdeal.defs (F := Ideal)) (onTc (τ := Cert.CrossInIdeal.τ) (Cert.CrossInIdeal.main (F := Ideal))) ⟨m, fun _ => 0, g⟩ (fun r => (∀ c : Dev Cert.CrossInIdeal.nD,
      r.2.mem ((c.tc : Thread Cert.CrossInIdeal.nD Cert.CrossInIdeal.τ).loc Cert.CrossInIdeal.main_arg0) = m ((c.tc : Thread Cert.CrossInIdeal.nD Cert.CrossInIdeal.τ).loc Cert.CrossInIdeal.main_arg0)
      ∧ r.2.mem ((c.tc : Thread Cert.CrossInIdeal.nD Cert.CrossInIdeal.τ).loc Cert.CrossInIdeal.main_arg1) = m ((c.tc : Thread Cert.CrossInIdeal.nD Cert.CrossInIdeal.τ).loc Cert.CrossInIdeal.main_arg1)
      ∧ r.2.mem ((c.tc : Thread Cert.CrossInIdeal.nD Cert.CrossInIdeal.τ).loc Cert.CrossInIdeal.main_arg2) = m ((c.tc : Thread Cert.CrossInIdeal.nD Cert.CrossInIdeal.τ).loc Cert.CrossInIdeal.main_arg2))
      ∧ r.2.sem = fun _ => 0)

def quiescent_CrossInReferenceIdeal [hCrossInReferenceIdeal : Cert.CrossInReferenceIdeal.Facts] : Prop :=
  ∀ (m : (ℓ : Loc Cert.CrossInReferenceIdeal.nD Cert.CrossInReferenceIdeal.τ Cert.CrossInReferenceIdeal.sig) → Buf (Elt Ideal) ℓ) (g : Dev Cert.CrossInReferenceIdeal.nD → PrngReg), Pre_CrossInReferenceIdeal m →
    θ_run (Cert.CrossInReferenceIdeal.defs (F := Ideal)) (onTc (τ := Cert.CrossInReferenceIdeal.τ) (Cert.CrossInReferenceIdeal.main (F := Ideal))) ⟨m, fun _ => 0, g⟩ (fun r => (∀ c : Dev Cert.CrossInReferenceIdeal.nD,
      r.2.mem ((c.tc : Thread Cert.CrossInReferenceIdeal.nD Cert.CrossInReferenceIdeal.τ).loc Cert.CrossInReferenceIdeal.main_arg0) = m ((c.tc : Thread Cert.CrossInReferenceIdeal.nD Cert.CrossInReferenceIdeal.τ).loc Cert.CrossInReferenceIdeal.main_arg0)
      ∧ r.2.mem ((c.tc : Thread Cert.CrossInReferenceIdeal.nD Cert.CrossInReferenceIdeal.τ).loc Cert.CrossInReferenceIdeal.main_arg1) = m ((c.tc : Thread Cert.CrossInReferenceIdeal.nD Cert.CrossInReferenceIdeal.τ).loc Cert.CrossInReferenceIdeal.main_arg1)
      ∧ r.2.mem ((c.tc : Thread Cert.CrossInReferenceIdeal.nD Cert.CrossInReferenceIdeal.τ).loc Cert.CrossInReferenceIdeal.main_arg2) = m ((c.tc : Thread Cert.CrossInReferenceIdeal.nD Cert.CrossInReferenceIdeal.τ).loc Cert.CrossInReferenceIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v3) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v3) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2))

def preserves_CrossOut_CrossOutIdeal : Prop :=
  True

def algebraic_CrossOutIdeal_CrossOutReferenceIdeal [hCrossOutIdeal : Cert.CrossOutIdeal.Facts] [hCrossOutReferenceIdeal : Cert.CrossOutReferenceIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg)
    (m' : (ℓ : Loc Cert.CrossOutReferenceIdeal.nD Cert.CrossOutReferenceIdeal.τ Cert.CrossOutReferenceIdeal.sig) → Buf (Elt Ideal) ℓ) (g' : Dev Cert.CrossOutReferenceIdeal.nD → PrngReg), Pre_CrossOutIdeal m →
    (∀ c : Dev Cert.CrossOutIdeal.nD,
      m' ((c.tc : Thread Cert.CrossOutReferenceIdeal.nD Cert.CrossOutReferenceIdeal.τ).loc Cert.CrossOutReferenceIdeal.main_arg0) = m ((c.tc : Thread Cert.CrossOutIdeal.nD Cert.CrossOutIdeal.τ).loc Cert.CrossOutIdeal.main_arg0)
      ∧ m' ((c.tc : Thread Cert.CrossOutReferenceIdeal.nD Cert.CrossOutReferenceIdeal.τ).loc Cert.CrossOutReferenceIdeal.main_arg1) = m ((c.tc : Thread Cert.CrossOutIdeal.nD Cert.CrossOutIdeal.τ).loc Cert.CrossOutIdeal.main_arg1)
      ∧ m' ((c.tc : Thread Cert.CrossOutReferenceIdeal.nD Cert.CrossOutReferenceIdeal.τ).loc Cert.CrossOutReferenceIdeal.main_arg2) = m ((c.tc : Thread Cert.CrossOutIdeal.nD Cert.CrossOutIdeal.τ).loc Cert.CrossOutIdeal.main_arg2)) →
    ∃ (v0 : (c : Dev Cert.CrossOutIdeal.nD) → Buf (Elt Ideal) ((c.tc : Thread Cert.CrossOutIdeal.nD Cert.CrossOutIdeal.τ).loc Cert.CrossOutIdeal.main_v0)),
      θ_run (Cert.CrossOutIdeal.defs (F := Ideal)) (onTc (τ := Cert.CrossOutIdeal.τ) (Cert.CrossOutIdeal.main (F := Ideal))) ⟨m, fun _ => 0, g⟩ (fun r => ∀ c : Dev Cert.CrossOutIdeal.nD,
          r.2.mem ((c.tc : Thread Cert.CrossOutIdeal.nD Cert.CrossOutIdeal.τ).loc Cert.CrossOutIdeal.main_v0) = v0 c
          ∧ r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
          ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
          ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2))
      ∧ θ_run (Cert.CrossOutReferenceIdeal.defs (F := Ideal)) (onTc (τ := Cert.CrossOutReferenceIdeal.τ) (Cert.CrossOutReferenceIdeal.main (F := Ideal))) ⟨m', fun _ => 0, g'⟩ (fun r => ∀ c : Dev Cert.CrossOutReferenceIdeal.nD,
          r.2.mem ((c.tc : Thread Cert.CrossOutReferenceIdeal.nD Cert.CrossOutReferenceIdeal.τ).loc Cert.CrossOutReferenceIdeal.main_v3) = v0 c
          ∧ r.2.mem ((c.tc : Thread Cert.CrossOutReferenceIdeal.nD Cert.CrossOutReferenceIdeal.τ).loc Cert.CrossOutReferenceIdeal.main_arg0) = m' ((c.tc : Thread Cert.CrossOutReferenceIdeal.nD Cert.CrossOutReferenceIdeal.τ).loc Cert.CrossOutReferenceIdeal.main_arg0)
          ∧ r.2.mem ((c.tc : Thread Cert.CrossOutReferenceIdeal.nD Cert.CrossOutReferenceIdeal.τ).loc Cert.CrossOutReferenceIdeal.main_arg1) = m' ((c.tc : Thread Cert.CrossOutReferenceIdeal.nD Cert.CrossOutReferenceIdeal.τ).loc Cert.CrossOutReferenceIdeal.main_arg1)
          ∧ r.2.mem ((c.tc : Thread Cert.CrossOutReferenceIdeal.nD Cert.CrossOutReferenceIdeal.τ).loc Cert.CrossOutReferenceIdeal.main_arg2) = m' ((c.tc : Thread Cert.CrossOutReferenceIdeal.nD Cert.CrossOutReferenceIdeal.τ).loc Cert.CrossOutReferenceIdeal.main_arg2))

def preserves_HyenaOut_HyenaOutIdeal : Prop :=
  True

def algebraic_HyenaOutIdeal_HyenaOutReferenceIdeal [hHyenaOutIdeal : Cert.HyenaOutIdeal.Facts] [hHyenaOutReferenceIdeal : Cert.HyenaOutReferenceIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg)
    (m' : (ℓ : Loc Cert.HyenaOutReferenceIdeal.nD Cert.HyenaOutReferenceIdeal.τ Cert.HyenaOutReferenceIdeal.sig) → Buf (Elt Ideal) ℓ) (g' : Dev Cert.HyenaOutReferenceIdeal.nD → PrngReg), Pre_HyenaOutIdeal m →
    (∀ c : Dev Cert.HyenaOutIdeal.nD,
      m' ((c.tc : Thread Cert.HyenaOutReferenceIdeal.nD Cert.HyenaOutReferenceIdeal.τ).loc Cert.HyenaOutReferenceIdeal.main_arg0) = m ((c.tc : Thread Cert.HyenaOutIdeal.nD Cert.HyenaOutIdeal.τ).loc Cert.HyenaOutIdeal.main_arg0)
      ∧ m' ((c.tc : Thread Cert.HyenaOutReferenceIdeal.nD Cert.HyenaOutReferenceIdeal.τ).loc Cert.HyenaOutReferenceIdeal.main_arg1) = m ((c.tc : Thread Cert.HyenaOutIdeal.nD Cert.HyenaOutIdeal.τ).loc Cert.HyenaOutIdeal.main_arg1)
      ∧ m' ((c.tc : Thread Cert.HyenaOutReferenceIdeal.nD Cert.HyenaOutReferenceIdeal.τ).loc Cert.HyenaOutReferenceIdeal.main_arg2) = m ((c.tc : Thread Cert.HyenaOutIdeal.nD Cert.HyenaOutIdeal.τ).loc Cert.HyenaOutIdeal.main_arg2)) →
    ∃ (v0 : (c : Dev Cert.HyenaOutIdeal.nD) → Buf (Elt Ideal) ((c.tc : Thread Cert.HyenaOutIdeal.nD Cert.HyenaOutIdeal.τ).loc Cert.HyenaOutIdeal.main_v0)),
      θ_run (Cert.HyenaOutIdeal.defs (F := Ideal)) (onTc (τ := Cert.HyenaOutIdeal.τ) (Cert.HyenaOutIdeal.main (F := Ideal))) ⟨m, fun _ => 0, g⟩ (fun r => ∀ c : Dev Cert.HyenaOutIdeal.nD,
          r.2.mem ((c.tc : Thread Cert.HyenaOutIdeal.nD Cert.HyenaOutIdeal.τ).loc Cert.HyenaOutIdeal.main_v0) = v0 c
          ∧ r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
          ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
          ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2))
      ∧ θ_run (Cert.HyenaOutReferenceIdeal.defs (F := Ideal)) (onTc (τ := Cert.HyenaOutReferenceIdeal.τ) (Cert.HyenaOutReferenceIdeal.main (F := Ideal))) ⟨m', fun _ => 0, g'⟩ (fun r => ∀ c : Dev Cert.HyenaOutReferenceIdeal.nD,
          r.2.mem ((c.tc : Thread Cert.HyenaOutReferenceIdeal.nD Cert.HyenaOutReferenceIdeal.τ).loc Cert.HyenaOutReferenceIdeal.main_v2) = v0 c
          ∧ r.2.mem ((c.tc : Thread Cert.HyenaOutReferenceIdeal.nD Cert.HyenaOutReferenceIdeal.τ).loc Cert.HyenaOutReferenceIdeal.main_arg0) = m' ((c.tc : Thread Cert.HyenaOutReferenceIdeal.nD Cert.HyenaOutReferenceIdeal.τ).loc Cert.HyenaOutReferenceIdeal.main_arg0)
          ∧ r.2.mem ((c.tc : Thread Cert.HyenaOutReferenceIdeal.nD Cert.HyenaOutReferenceIdeal.τ).loc Cert.HyenaOutReferenceIdeal.main_arg1) = m' ((c.tc : Thread Cert.HyenaOutReferenceIdeal.nD Cert.HyenaOutReferenceIdeal.τ).loc Cert.HyenaOutReferenceIdeal.main_arg1)
          ∧ r.2.mem ((c.tc : Thread Cert.HyenaOutReferenceIdeal.nD Cert.HyenaOutReferenceIdeal.τ).loc Cert.HyenaOutReferenceIdeal.main_arg2) = m' ((c.tc : Thread Cert.HyenaOutReferenceIdeal.nD Cert.HyenaOutReferenceIdeal.τ).loc Cert.HyenaOutReferenceIdeal.main_arg2))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v1) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v15) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2))

def preserves_CrossIn_CrossInIdeal : Prop :=
  True

def algebraic_CrossInIdeal_CrossInReferenceIdeal [hCrossInIdeal : Cert.CrossInIdeal.Facts] [hCrossInReferenceIdeal : Cert.CrossInReferenceIdeal.Facts] : Prop :=
  ∀ (m : (ℓ : Loc Cert.CrossInIdeal.nD Cert.CrossInIdeal.τ Cert.CrossInIdeal.sig) → Buf (Elt Ideal) ℓ) (g : Dev Cert.CrossInIdeal.nD → PrngReg)
    (m' : (ℓ : Loc Cert.CrossInReferenceIdeal.nD Cert.CrossInReferenceIdeal.τ Cert.CrossInReferenceIdeal.sig) → Buf (Elt Ideal) ℓ) (g' : Dev Cert.CrossInReferenceIdeal.nD → PrngReg), Pre_CrossInIdeal m →
    (∀ c : Dev Cert.CrossInIdeal.nD,
      m' ((c.tc : Thread Cert.CrossInReferenceIdeal.nD Cert.CrossInReferenceIdeal.τ).loc Cert.CrossInReferenceIdeal.main_arg0) = m ((c.tc : Thread Cert.CrossInIdeal.nD Cert.CrossInIdeal.τ).loc Cert.CrossInIdeal.main_arg0)
      ∧ m' ((c.tc : Thread Cert.CrossInReferenceIdeal.nD Cert.CrossInReferenceIdeal.τ).loc Cert.CrossInReferenceIdeal.main_arg1) = m ((c.tc : Thread Cert.CrossInIdeal.nD Cert.CrossInIdeal.τ).loc Cert.CrossInIdeal.main_arg1)
      ∧ m' ((c.tc : Thread Cert.CrossInReferenceIdeal.nD Cert.CrossInReferenceIdeal.τ).loc Cert.CrossInReferenceIdeal.main_arg2) = m ((c.tc : Thread Cert.CrossInIdeal.nD Cert.CrossInIdeal.τ).loc Cert.CrossInIdeal.main_arg2)) →
    ∃ (v0 : (c : Dev Cert.CrossInIdeal.nD) → Buf (Elt Ideal) ((c.tc : Thread Cert.CrossInIdeal.nD Cert.CrossInIdeal.τ).loc Cert.CrossInIdeal.main_v1)),
      θ_run (Cert.CrossInIdeal.defs (F := Ideal)) (onTc (τ := Cert.CrossInIdeal.τ) (Cert.CrossInIdeal.main (F := Ideal))) ⟨m, fun _ => 0, g⟩ (fun r => ∀ c : Dev Cert.CrossInIdeal.nD,
          r.2.mem ((c.tc : Thread Cert.CrossInIdeal.nD Cert.CrossInIdeal.τ).loc Cert.CrossInIdeal.main_v1) = v0 c
          ∧ r.2.mem ((c.tc : Thread Cert.CrossInIdeal.nD Cert.CrossInIdeal.τ).loc Cert.CrossInIdeal.main_arg0) = m ((c.tc : Thread Cert.CrossInIdeal.nD Cert.CrossInIdeal.τ).loc Cert.CrossInIdeal.main_arg0)
          ∧ r.2.mem ((c.tc : Thread Cert.CrossInIdeal.nD Cert.CrossInIdeal.τ).loc Cert.CrossInIdeal.main_arg1) = m ((c.tc : Thread Cert.CrossInIdeal.nD Cert.CrossInIdeal.τ).loc Cert.CrossInIdeal.main_arg1)
          ∧ r.2.mem ((c.tc : Thread Cert.CrossInIdeal.nD Cert.CrossInIdeal.τ).loc Cert.CrossInIdeal.main_arg2) = m ((c.tc : Thread Cert.CrossInIdeal.nD Cert.CrossInIdeal.τ).loc Cert.CrossInIdeal.main_arg2))
      ∧ θ_run (Cert.CrossInReferenceIdeal.defs (F := Ideal)) (onTc (τ := Cert.CrossInReferenceIdeal.τ) (Cert.CrossInReferenceIdeal.main (F := Ideal))) ⟨m', fun _ => 0, g'⟩ (fun r => ∀ c : Dev Cert.CrossInReferenceIdeal.nD,
          r.2.mem ((c.tc : Thread Cert.CrossInReferenceIdeal.nD Cert.CrossInReferenceIdeal.τ).loc Cert.CrossInReferenceIdeal.main_v15) = v0 c
          ∧ r.2.mem ((c.tc : Thread Cert.CrossInReferenceIdeal.nD Cert.CrossInReferenceIdeal.τ).loc Cert.CrossInReferenceIdeal.main_arg0) = m' ((c.tc : Thread Cert.CrossInReferenceIdeal.nD Cert.CrossInReferenceIdeal.τ).loc Cert.CrossInReferenceIdeal.main_arg0)
          ∧ r.2.mem ((c.tc : Thread Cert.CrossInReferenceIdeal.nD Cert.CrossInReferenceIdeal.τ).loc Cert.CrossInReferenceIdeal.main_arg1) = m' ((c.tc : Thread Cert.CrossInReferenceIdeal.nD Cert.CrossInReferenceIdeal.τ).loc Cert.CrossInReferenceIdeal.main_arg1)
          ∧ r.2.mem ((c.tc : Thread Cert.CrossInReferenceIdeal.nD Cert.CrossInReferenceIdeal.τ).loc Cert.CrossInReferenceIdeal.main_arg2) = m' ((c.tc : Thread Cert.CrossInReferenceIdeal.nD Cert.CrossInReferenceIdeal.τ).loc Cert.CrossInReferenceIdeal.main_arg2))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)
      ∧ m' ((c.tc : Thread Cert.FfnInReferenceIdeal.nD Cert.FfnInReferenceIdeal.τ).loc Cert.FfnInReferenceIdeal.main_arg2) = m ((c.tc : Thread Cert.FfnInIdeal.nD Cert.FfnInIdeal.τ).loc Cert.FfnInIdeal.main_arg2)
      ∧ m' ((c.tc : Thread Cert.FfnInReferenceIdeal.nD Cert.FfnInReferenceIdeal.τ).loc Cert.FfnInReferenceIdeal.main_arg3) = m ((c.tc : Thread Cert.FfnInIdeal.nD Cert.FfnInIdeal.τ).loc Cert.FfnInIdeal.main_arg3)
      ∧ m' ((c.tc : Thread Cert.FfnInReferenceIdeal.nD Cert.FfnInReferenceIdeal.τ).loc Cert.FfnInReferenceIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v45) = v0 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)
          ∧ r.2.mem ((c.tc : Thread Cert.FfnInReferenceIdeal.nD Cert.FfnInReferenceIdeal.τ).loc Cert.FfnInReferenceIdeal.main_arg4) = m' ((c.tc : Thread Cert.FfnInReferenceIdeal.nD Cert.FfnInReferenceIdeal.τ).loc Cert.FfnInReferenceIdeal.main_arg4))

def Claim : Prop :=
  ∃ (hKernel : Cert.Kernel.Facts) (hKernelIdeal : Cert.KernelIdeal.Facts) (hReferenceIdeal : Cert.ReferenceIdeal.Facts) (hFfnOut : Cert.FfnOut.Facts) (hFfnOutIdeal : Cert.FfnOutIdeal.Facts) (hFfnOutReferenceIdeal : Cert.FfnOutReferenceIdeal.Facts) (hEvenOut : Cert.EvenOut.Facts) (hEvenOutIdeal : Cert.EvenOutIdeal.Facts) (hEvenOutReferenceIdeal : Cert.EvenOutReferenceIdeal.Facts) (hCrossOut : Cert.CrossOut.Facts) (hCrossOutIdeal : Cert.CrossOutIdeal.Facts) (hCrossOutReferenceIdeal : Cert.CrossOutReferenceIdeal.Facts) (hHyenaOut : Cert.HyenaOut.Facts) (hHyenaOutIdeal : Cert.HyenaOutIdeal.Facts) (hHyenaOutReferenceIdeal : Cert.HyenaOutReferenceIdeal.Facts) (hEvenIn : Cert.EvenIn.Facts) (hEvenInIdeal : Cert.EvenInIdeal.Facts) (hEvenInReferenceIdeal : Cert.EvenInReferenceIdeal.Facts) (hCrossIn : Cert.CrossIn.Facts) (hCrossInIdeal : Cert.CrossInIdeal.Facts) (hCrossInReferenceIdeal : Cert.CrossInReferenceIdeal.Facts) (hFfnIn : Cert.FfnIn.Facts) (hFfnInIdeal : Cert.FfnInIdeal.Facts) (hFfnInReferenceIdeal : Cert.FfnInReferenceIdeal.Facts) (hPre_qk_finite : Cert.Pre_qk_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_CrossOut (hCrossOut := hCrossOut)
    ∧ quiescent_CrossOutIdeal (hCrossOutIdeal := hCrossOutIdeal)
    ∧ quiescent_CrossOutReferenceIdeal (hCrossOutReferenceIdeal := hCrossOutReferenceIdeal)
    ∧ quiescent_HyenaOut (hHyenaOut := hHyenaOut)
    ∧ quiescent_HyenaOutIdeal (hHyenaOutIdeal := hHyenaOutIdeal)
    ∧ quiescent_HyenaOutReferenceIdeal (hHyenaOutReferenceIdeal := hHyenaOutReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_CrossIn (hCrossIn := hCrossIn)
    ∧ quiescent_CrossInIdeal (hCrossInIdeal := hCrossInIdeal)
    ∧ quiescent_CrossInReferenceIdeal (hCrossInReferenceIdeal := hCrossInReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_FfnOut_FfnOutIdeal
    ∧ algebraic_FfnOutIdeal_FfnOutReferenceIdeal (hFfnOutIdeal := hFfnOutIdeal) (hFfnOutReferenceIdeal := hFfnOutReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_CrossOut_CrossOutIdeal
    ∧ algebraic_CrossOutIdeal_CrossOutReferenceIdeal (hCrossOutIdeal := hCrossOutIdeal) (hCrossOutReferenceIdeal := hCrossOutReferenceIdeal)
    ∧ preserves_HyenaOut_HyenaOutIdeal
    ∧ algebraic_HyenaOutIdeal_HyenaOutReferenceIdeal (hHyenaOutIdeal := hHyenaOutIdeal) (hHyenaOutReferenceIdeal := hHyenaOutReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_CrossIn_CrossInIdeal
    ∧ algebraic_CrossInIdeal_CrossInReferenceIdeal (hCrossInIdeal := hCrossInIdeal) (hCrossInReferenceIdeal := hCrossInReferenceIdeal)
    ∧ preserves_FfnIn_FfnInIdeal
    ∧ algebraic_FfnInIdeal_FfnInReferenceIdeal (hFfnInIdeal := hFfnInIdeal) (hFfnInReferenceIdeal := hFfnInReferenceIdeal)
-- ==== Pre_qk_finite.lean ====
abbrev S40960x2560 : Shape := ⟨2, ![40960, 2560]⟩
abbrev S40960x5120 : Shape := ⟨2, ![40960, 5120]⟩
abbrev S_ : Shape := ⟨0, ![]⟩

class Facts : Prop where
  bcast_S_S40960x2560 : S_.BroadcastsInDim S40960x2560 (![] : Fin 0 → Fin S40960x2560.rank)
  reducesTo_S40960x2560_S_d0_1 : S40960x2560.ReducesTo [0, 1] S_
  h_S_ : 0 < S_.numel

variable [Facts]

def fn {F : FTy → Type} [FloatOps F] (main_arg0 : FVec F S40960x2560 .bf16) (main_arg1 : FVec F S40960x5120 .bf16) : IVec S_ 1 :=
  let main_v0 : FVec F S40960x2560 .bf16 := Host.absf main_arg0
  let main_cst : FVec F S_ .bf16 := constant S_ .bf16 0x7F80#16
  let main_v1 : FVec F S40960x2560 .bf16 := broadcastInDim S40960x2560 ![] bcast_S_S40960x2560 main_cst
  let main_v2 : IVec S40960x2560 1 := cmpf .olt main_v0 main_v1
  let main_c : IVec S_ 1 := constantI S_ 1 1#1
  let main_v3 : IVec S_ 1 := (fun x v => Host.reduce IntOp.andi x v reducesTo_S40960x2560_S_d0_1 h_S_) main_v2 main_c
  main_v3
-- ==== Kernel.lean ====
abbrev S40960x2560 : Shape := ⟨2, ![40960, 2560]⟩
abbrev S40960x5120 : Shape := ⟨2, ![40960, 5120]⟩
abbrev S40960x2048 : Shape := ⟨2, ![40960, 2048]⟩
abbrev S256x512 : Shape := ⟨2, ![256, 512]⟩
abbrev S8192x128 : Shape := ⟨2, ![8192, 128]⟩
abbrev S1024x128 : Shape := ⟨2, ![1024, 128]⟩
abbrev S8192x256 : Shape := ⟨2, ![8192, 256]⟩
abbrev S1024x1024 : Shape := ⟨2, ![1024, 1024]⟩
abbrev S1024x256 : Shape := ⟨2, ![1024, 256]⟩
abbrev S256x128 : Shape := ⟨2, ![256, 128]⟩
abbrev S32x128 : Shape := ⟨2, ![32, 128]⟩
abbrev S32 : Shape := ⟨1, ![32]⟩
abbrev S32x1 : Shape := ⟨2, ![32, 1]⟩

abbrev nBuf : Space → Nat
  | .hbm => 3
  | .vmem => 16
  | .smem => 0
  | _ => 0

abbrev bufTy : (tb : Table) → Fin (tcTables nBuf tb) → BufTy
  | .hbm, ⟨0, _⟩ => ⟨S40960x2560, .bf16⟩
  | .hbm, ⟨1, _⟩ => ⟨S40960x5120, .bf16⟩
  | .hbm, ⟨2, _⟩ => ⟨S40960x2048, .bf16⟩
  | .local _ .vmem, ⟨0, _⟩ => ⟨S256x512, .bf16⟩
  | .local _ .vmem, ⟨1, _⟩ => ⟨S256x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x512, .bf16⟩
  | .local _ .vmem, ⟨7, _⟩ => ⟨S256x512, .bf16⟩
  | .local _ .vmem, ⟨8, _⟩ => ⟨S1024x128, .bf16⟩
  | .local _ .vmem, ⟨9, _⟩ => ⟨S8192x256, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x256, .f32⟩
  | .local _ .vmem, ⟨14, _⟩ => ⟨S1024x128, .f32⟩
  | .local _ .vmem, ⟨15, _⟩ => ⟨S1024x128, .f32⟩
  | _, _ => ⟨S40960x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 4, 32], ![false, false, false]⟩

def k0_mult1 : BitVec 32 :=
  let c0_i32_16 : BitVec 32 := 0#32
  c0_i32_16
@[reducible] def k0_t1_loop : Scf.Loop 32 :=
  let c0_i32_23 : BitVec 32 := 0#32
  let c3_i32 : BitVec 32 := 3#32
  let v35 : BitVec 32 := Scalar.addi c0_i32_23 c3_i32
  let c1_i32 : BitVec 32 := 1#32
  ⟨c0_i32_23, v35, c1_i32⟩
def k0_mult2 (k0_t1 : Fin k0_t1_loop.trips) : BitVec 32 :=
  let c2_i32 : BitVec 32 := 2#32
  let c0_i32_23 : BitVec 32 := 0#32
  let c1_i32 : BitVec 32 := 1#32
  let arg15 : BitVec 32 := Scf.iv c0_i32_23 c1_i32 k0_t1
  let v4949 : BitVec 32 := Scalar.muli c2_i32 arg15
  let c1_i32_2534 : BitVec 32 := 1#32
  let v4950 : BitVec 32 := Scalar.addi v4949 c1_i32_2534
  let c1024_i32 : BitVec 32 := 1024#32
  let v4951 : BitVec 32 := Scalar.muli v4950 c1024_i32
  v4951
def k0_off1 (k0_t1 : Fin k0_t1_loop.trips) (c1_i32_2534 : BitVec 32) : Fin 2 → Nat :=
  let c2_i32 : BitVec 32 := 2#32
  let c0_i32_23 : BitVec 32 := 0#32
  let c1_i32 : BitVec 32 := 1#32
  let arg15 : BitVec 32 := Scf.iv c0_i32_23 c1_i32 k0_t1
  let v4949 : BitVec 32 := Scalar.muli c2_i32 arg15
  let v4950 : BitVec 32 := Scalar.addi v4949 c1_i32_2534
  let c1024_i32 : BitVec 32 := 1024#32
  let v4951 : BitVec 32 := Scalar.muli v4950 c1024_i32
  let v4952 : BitVec 32 := v4951
  let v4954 : Index := Scalar.indexCast v4952
  let c0_2537 : Index := 0#32
  ![v4954.toNat, 0]
def k0_mult3 (k0_t1 : Fin k0_t1_loop.trips) : BitVec 32 :=
  let c2_i32_2541 : BitVec 32 := 2#32
  let c0_i32_23 : BitVec 32 := 0#32
  let c1_i32 : BitVec 32 := 1#32
  let arg15 : BitVec 32 := Scf.iv c0_i32_23 c1_i32 k0_t1
  let v4960 : BitVec 32 := Scalar.muli c2_i32_2541 arg15
  let c1024_i32_3790 : BitVec 32 := 1024#32
  let v7393 : BitVec 32 := Scalar.muli v4960 c1024_i32_3790
  v7393
def k0_off2 (k0_t1 : Fin k0_t1_loop.trips) : Fin 2 → Nat :=
  let c2_i32_2541 : BitVec 32 := 2#32
  let c0_i32_23 : BitVec 32 := 0#32
  let c1_i32 : BitVec 32 := 1#32
  let arg15 : BitVec 32 := Scf.iv c0_i32_23 c1_i32 k0_t1
  let v4960 : BitVec 32 := Scalar.muli c2_i32_2541 arg15
  let c1024_i32_3790 : BitVec 32 := 1024#32
  let v7393 : BitVec 32 := Scalar.muli v4960 c1024_i32_3790
  let v7394 : BitVec 32 := v7393
  let v7396 : Index := Scalar.indexCast v7394
  let c0_3793 : Index := 0#32
  ![v7396.toNat, 0]
def k0_mult4 (k0_t1 : Fin k0_t1_loop.trips) : BitVec 32 :=
  let c2_i32_3801 : BitVec 32 := 2#32
  let c0_i32_23 : BitVec 32 := 0#32
  let c1_i32 : BitVec 32 := 1#32
  let arg15 : BitVec 32 := Scf.iv c0_i32_23 c1_i32 k0_t1
  let v7407 : BitVec 32 := Scalar.muli c2_i32_3801 arg15
  let c2_i32_3802 : BitVec 32 := 2#32
  let v7408 : BitVec 32 := Scalar.addi v7407 c2_i32_3802
  let c1024_i32_3803 : BitVec 32 := 1024#32
  let v7409 : BitVec 32 := Scalar.muli v7408 c1024_i32_3803
  v7409
def k0_mult5 (k0_t1 : Fin k0_t1_loop.trips) : BitVec 32 :=
  let c2_i32_3810 : BitVec 32 := 2#32
  let c0_i32_23 : BitVec 32 := 0#32
  let c1_i32 : BitVec 32 := 1#32
  let arg15 : BitVec 32 := Scf.iv c0_i32_23 c1_i32 k0_t1
  let v7418 : BitVec 32 := Scalar.muli c2_i32_3810 arg15
  let c1_i32_3811 : BitVec 32 := 1#32
  let v7419 : BitVec 32 := Scalar.addi v7418 c1_i32_3811
  let c1024_i32_5060 : BitVec 32 := 1024#32
  let v9852 : BitVec 32 := Scalar.muli v7419 c1024_i32_5060
  v9852
def k0_off3 (k0_t1 : Fin k0_t1_loop.trips) : Fin 2 → Nat :=
  let c2_i32_3810 : BitVec 32 := 2#32
  let c0_i32_23 : BitVec 32 := 0#32
  let c1_i32 : BitVec 32 := 1#32
  let arg15 : BitVec 32 := Scf.iv c0_i32_23 c1_i32 k0_t1
  let v7418 : BitVec 32 := Scalar.muli c2_i32_3810 arg15
  let c1_i32_3811 : BitVec 32 := 1#32
  let v7419 : BitVec 32 := Scalar.addi v7418 c1_i32_3811
  let c1024_i32_5060 : BitVec 32 := 1024#32
  let v9852 : BitVec 32 := Scalar.muli v7419 c1024_i32_5060
  let v9853 : BitVec 32 := v9852
  let v9855 : Index := Scalar.indexCast v9853
  let c0_5063 : Index := 0#32
  ![v9855.toNat, 0]
def k0_mult6 : BitVec 32 :=
  let c7168_i32 : BitVec 32 := 7168#32
  c7168_i32
def k0_mult7 : BitVec 32 :=
  let c6144_i32 : BitVec 32 := 6144#32
  c6144_i32
def k0_mult8 : BitVec 32 :=
  let c7168_i32_2511 : BitVec 32 := 7168#32
  c7168_i32_2511
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S40960x2560 : Shape := ⟨2, ![40960, 2560]⟩
abbrev S40960x5120 : Shape := ⟨2, ![40960, 5120]⟩
abbrev S40960x2048 : Shape := ⟨2, ![40960, 2048]⟩
abbrev S5x8192x4x4x128 : Shape := ⟨5, ![5, 8192, 4, 4, 128]⟩
abbrev S40960x512 : Shape := ⟨2, ![40960, 512]⟩
abbrev S5x8192x4x128 : Shape := ⟨4, ![5, 8192, 4, 128]⟩
abbrev S5x4x8192x8192x4 : Shape := ⟨5, ![5, 4, 8192, 8192, 4]⟩
abbrev S5x4x4x8192x8192 : Shape := ⟨5, ![5, 4, 4, 8192, 8192]⟩
abbrev S_ : Shape := ⟨0, ![]⟩
abbrev S5x4x4x8192 : Shape := ⟨4, ![5, 4, 4, 8192]⟩
abbrev S5x4x4x8192x1 : Shape := ⟨5, ![5, 4, 4, 8192, 1]⟩
abbrev S5x4x128x4x8192 : Shape := ⟨5, ![5, 4, 128, 4, 8192]⟩

abbrev nBuf : Space → Nat
  | .hbm => 36
  | .vmem => 0
  | .smem => 0
  | _ => 0

abbrev bufTy : (tb : Table) → Fin (tcTables nBuf tb) → BufTy
  | .hbm, ⟨0, _⟩ => ⟨S40960x2560, .bf16⟩
  | .hbm, ⟨1, _⟩ => ⟨S40960x5120, .bf16⟩
  | .hbm, ⟨2, _⟩ => ⟨S40960x2048, .bf16⟩
  | .hbm, ⟨3, _⟩ => ⟨S40960x2048, .f32⟩
  | .hbm, ⟨4, _⟩ => ⟨S5x8192x4x4x128, .f32⟩
  | .hbm, ⟨5, _⟩ => ⟨S40960x512, .bf16⟩
  | .hbm, ⟨6, _⟩ => ⟨S40960x512, .f32⟩
  | .hbm, ⟨7, _⟩ => ⟨S5x8192x4x128, .f32⟩
  | .hbm, ⟨8, _⟩ => ⟨S40960x512, .bf16⟩
  | .hbm, ⟨9, _⟩ => ⟨S40960x512, .f32⟩
  | .hbm, ⟨10, _⟩ => ⟨S5x8192x4x128, .f32⟩
  | .hbm, ⟨11, _⟩ => ⟨S5x4x8192x8192x4, .f32⟩
  | .hbm, ⟨12, _⟩ => ⟨S5x4x4x8192x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S5x4x4x8192x8192, .f32⟩
  | .hbm, ⟨17, _⟩ => ⟨S5x4x4x8192x8192, .f32⟩
  | .hbm, ⟨18, _⟩ => ⟨S_, .f32⟩
  | .hbm, ⟨19, _⟩ => ⟨S5x4x4x8192, .f32⟩
  | .hbm, ⟨20, _⟩ => ⟨S_, .f32⟩
  | .hbm, ⟨21, _⟩ => ⟨S5x4x4x8192, .f32⟩
  | .hbm, ⟨22, _⟩ => ⟨S5x4x4x8192, .f32⟩
  | .hbm, ⟨23, _⟩ => ⟨S5x4x4x8192x1, .f32⟩
  | .hbm, ⟨24, _⟩ => ⟨S5x4x4x8192x8192, .f32⟩
  | .hbm, ⟨25, _⟩ => ⟨S5x4x4x8192x8192, .f32⟩
  | .hbm, ⟨26, _⟩ => ⟨S5x4x4x8192x8192, .f32⟩
  | .hbm, ⟨27, _⟩ => ⟨S_, .f32⟩
  | .hbm, ⟨28, _⟩ => ⟨S5x4x4x8192, .f32⟩
  | .hbm, ⟨29, _⟩ => ⟨S5x4x4x8192x1, .f32⟩
  | .hbm, ⟨30, _⟩ => ⟨S5x4x4x8192x8192, .f32⟩
  | .hbm, ⟨31, _⟩ => ⟨S5x4x4x8192x8192, .f32⟩
  | .hbm, ⟨32, _⟩ => ⟨S5x4x128x4x8192, .f32⟩
  | .hbm, ⟨33, _⟩ => ⟨S5x8192x4x4x128, .f32⟩
  | .hbm, ⟨34, _⟩ => ⟨S40960x2048, .f32⟩
  | .hbm, ⟨35, _⟩ => ⟨S40960x2048, .bf16⟩
  | _, _ => ⟨S40960x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== FfnOut.lean ====
abbrev S40960x5632 : Shape := ⟨2, ![40960, 5632]⟩
abbrev S5632x2048 : Shape := ⟨2, ![5632, 2048]⟩
abbrev S40960x2048 : Shape := ⟨2, ![40960, 2048]⟩
abbrev S512x5632 : Shape := ⟨2, ![512, 5632]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S40960x5632, .bf16⟩
  | .hbm, ⟨1, _⟩ => ⟨S5632x2048, .bf16⟩
  | .hbm, ⟨2, _⟩ => ⟨S40960x2048, .f32⟩
  | .hbm, ⟨3, _⟩ => ⟨S40960x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S40960x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![80, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutIdeal.lean ====
abbrev S40960x5632 : Shape := ⟨2, ![40960, 5632]⟩
abbrev S5632x2048 : Shape := ⟨2, ![5632, 2048]⟩
abbrev S40960x2048 : Shape := ⟨2, ![40960, 2048]⟩
abbrev S512x5632 : Shape := ⟨2, ![512, 5632]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S40960x5632, .bf16⟩
  | .hbm, ⟨1, _⟩ => ⟨S5632x2048, .bf16⟩
  | .hbm, ⟨2, _⟩ => ⟨S40960x2048, .f32⟩
  | .hbm, ⟨3, _⟩ => ⟨S40960x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S40960x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![80, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutReferenceIdeal.lean ====
abbrev S40960x5632 : Shape := ⟨2, ![40960, 5632]⟩
abbrev S5632x2048 : Shape := ⟨2, ![5632, 2048]⟩
abbrev S40960x2048 : Shape := ⟨2, ![40960, 2048]⟩

abbrev nBuf : Space → Nat
  | .hbm => 7
  | .vmem => 0
  | .smem => 0
  | _ => 0

abbrev bufTy : (tb : Table) → Fin (tcTables nBuf tb) → BufTy
  | .hbm, ⟨0, _⟩ => ⟨S40960x5632, .bf16⟩
  | .hbm, ⟨1, _⟩ => ⟨S5632x2048, .bf16⟩
  | .hbm, ⟨2, _⟩ => ⟨S40960x2048, .f32⟩
  | .hbm, ⟨3, _⟩ => ⟨S40960x5632, .f32⟩
  | .hbm, ⟨4, _⟩ => ⟨S5632x2048, .f32⟩
  | .hbm, ⟨5, _⟩ => ⟨S40960x2048, .f32⟩
  | .hbm, ⟨6, _⟩ => ⟨S40960x2048, .f32⟩
  | _, _ => ⟨S40960x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenOut.lean ====
abbrev S40960x4096 : Shape := ⟨2, ![40960, 4096]⟩
abbrev S4096x2048 : Shape := ⟨2, ![4096, 2048]⟩
abbrev S40960x2048 : Shape := ⟨2, ![40960, 2048]⟩
abbrev S512x4096 : Shape := ⟨2, ![512, 4096]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S40960x4096, .bf16⟩
  | .hbm, ⟨1, _⟩ => ⟨S4096x2048, .bf16⟩
  | .hbm, ⟨2, _⟩ => ⟨S40960x2048, .f32⟩
  | .hbm, ⟨3, _⟩ => ⟨S40960x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S40960x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![80, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenOutIdeal.lean ====
abbrev S40960x4096 : Shape := ⟨2, ![40960, 4096]⟩
abbrev S4096x2048 : Shape := ⟨2, ![4096, 2048]⟩
abbrev S40960x2048 : Shape := ⟨2, ![40960, 2048]⟩
abbrev S512x4096 : Shape := ⟨2, ![512, 4096]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S40960x4096, .bf16⟩
  | .hbm, ⟨1, _⟩ => ⟨S4096x2048, .bf16⟩
  | .hbm, ⟨2, _⟩ => ⟨S40960x2048, .f32⟩
  | .hbm, ⟨3, _⟩ => ⟨S40960x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S40960x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![80, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenOutReferenceIdeal.lean ====
abbrev S40960x4096 : Shape := ⟨2, ![40960, 4096]⟩
abbrev S4096x2048 : Shape := ⟨2, ![4096, 2048]⟩
abbrev S40960x2048 : Shape := ⟨2, ![40960, 2048]⟩

abbrev nBuf : Space → Nat
  | .hbm => 7
  | .vmem => 0
  | .smem => 0
  | _ => 0

abbrev bufTy : (tb : Table) → Fin (tcTables nBuf tb) → BufTy
  | .hbm, ⟨0, _⟩ => ⟨S40960x4096, .bf16⟩
  | .hbm, ⟨1, _⟩ => ⟨S4096x2048, .bf16⟩
  | .hbm, ⟨2, _⟩ => ⟨S40960x2048, .f32⟩
  | .hbm, ⟨3, _⟩ => ⟨S40960x4096, .f32⟩
  | .hbm, ⟨4, _⟩ => ⟨S4096x2048, .f32⟩
  | .hbm, ⟨5, _⟩ => ⟨S40960x2048, .f32⟩
  | .hbm, ⟨6, _⟩ => ⟨S40960x2048, .f32⟩
  | _, _ => ⟨S40960x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CrossOut.lean ====
abbrev S40960x2048 : Shape := ⟨2, ![40960, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S40960x2048, .bf16⟩
  | .hbm, ⟨1, _⟩ => ⟨S2048x2048, .bf16⟩
  | .hbm, ⟨2, _⟩ => ⟨S40960x2048, .f32⟩
  | .hbm, ⟨3, _⟩ => ⟨S40960x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![80, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossOutIdeal.lean ====
abbrev S40960x2048 : Shape := ⟨2, ![40960, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S40960x2048, .bf16⟩
  | .hbm, ⟨1, _⟩ => ⟨S2048x2048, .bf16⟩
  | .hbm, ⟨2, _⟩ => ⟨S40960x2048, .f32⟩
  | .hbm, ⟨3, _⟩ => ⟨S40960x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![80, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossOutReferenceIdeal.lean ====
abbrev S40960x2048 : Shape := ⟨2, ![40960, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S2048x2048, .bf16⟩
  | .hbm, ⟨2, _⟩ => ⟨S40960x2048, .f32⟩
  | .hbm, ⟨3, _⟩ => ⟨S40960x2048, .f32⟩
  | .hbm, ⟨4, _⟩ => ⟨S2048x2048, .f32⟩
  | .hbm, ⟨5, _⟩ => ⟨S40960x2048, .f32⟩
  | .hbm, ⟨6, _⟩ => ⟨S40960x2048, .f32⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== HyenaOut.lean ====
abbrev S40960x2048 : Shape := ⟨2, ![40960, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S40960x2048, .f32⟩
  | .hbm, ⟨1, _⟩ => ⟨S2048x2048, .bf16⟩
  | .hbm, ⟨2, _⟩ => ⟨S40960x2048, .f32⟩
  | .hbm, ⟨3, _⟩ => ⟨S40960x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![80, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HyenaOutReferenceIdeal.lean ====
abbrev S40960x2048 : Shape := ⟨2, ![40960, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S2048x2048, .bf16⟩
  | .hbm, ⟨2, _⟩ => ⟨S40960x2048, .f32⟩
  | .hbm, ⟨3, _⟩ => ⟨S2048x2048, .f32⟩
  | .hbm, ⟨4, _⟩ => ⟨S40960x2048, .f32⟩
  | .hbm, ⟨5, _⟩ => ⟨S40960x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== EvenIn.lean ====
abbrev S40960x2048 : Shape := ⟨2, ![40960, 2048]⟩
abbrev S2048 : Shape := ⟨1, ![2048]⟩
abbrev S2048x5120 : Shape := ⟨2, ![2048, 5120]⟩
abbrev S1x2048 : Shape := ⟨2, ![1, 2048]⟩
abbrev S40960x5120 : Shape := ⟨2, ![40960, 5120]⟩
abbrev S512x2048 : Shape := ⟨2, ![512, 2048]⟩
abbrev S512x5120 : Shape := ⟨2, ![512, 5120]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x5120, .bf16⟩
  | .hbm, ⟨3, _⟩ => ⟨S1x2048, .f32⟩
  | .hbm, ⟨4, _⟩ => ⟨S40960x5120, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x5120, .bf16⟩
  | .local _ .vmem, ⟨4, _⟩ => ⟨S512x5120, .bf16⟩
  | .local _ .vmem, ⟨5, _⟩ => ⟨S512x5120, .bf16⟩
  | .local _ .vmem, ⟨6, _⟩ => ⟨S512x2048, .bf16⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![80, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenInReferenceIdeal.lean ====
abbrev S40960x2048 : Shape := ⟨2, ![40960, 2048]⟩
abbrev S2048 : Shape := ⟨1, ![2048]⟩
abbrev S2048x5120 : Shape := ⟨2, ![2048, 5120]⟩
abbrev S_ : Shape := ⟨0, ![]⟩
abbrev S40960 : Shape := ⟨1, ![40960]⟩
abbrev S40960x1 : Shape := ⟨2, ![40960, 1]⟩
abbrev S1x2048 : Shape := ⟨2, ![1, 2048]⟩
abbrev S40960x5120 : Shape := ⟨2, ![40960, 5120]⟩

abbrev nBuf : Space → Nat
  | .hbm => 22
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x5120, .bf16⟩
  | .hbm, ⟨3, _⟩ => ⟨S40960x2048, .f32⟩
  | .hbm, ⟨4, _⟩ => ⟨S_, .f32⟩
  | .hbm, ⟨5, _⟩ => ⟨S40960, .f32⟩
  | .hbm, ⟨6, _⟩ => ⟨S40960x1, .f32⟩
  | .hbm, ⟨7, _⟩ => ⟨S_, .f32⟩
  | .hbm, ⟨8, _⟩ => ⟨S40960x1, .f32⟩
  | .hbm, ⟨9, _⟩ => ⟨S40960x1, .f32⟩
  | .hbm, ⟨10, _⟩ => ⟨S_, .f32⟩
  | .hbm, ⟨11, _⟩ => ⟨S40960x1, .f32⟩
  | .hbm, ⟨12, _⟩ => ⟨S40960x1, .f32⟩
  | .hbm, ⟨13, _⟩ => ⟨S40960x1, .f32⟩
  | .hbm, ⟨14, _⟩ => ⟨S40960x2048, .f32⟩
  | .hbm, ⟨15, _⟩ => ⟨S40960x2048, .f32⟩
  | .hbm, ⟨16, _⟩ => ⟨S1x2048, .f32⟩
  | .hbm, ⟨17, _⟩ => ⟨S40960x2048, .f32⟩
  | .hbm, ⟨18, _⟩ => ⟨S40960x2048, .f32⟩
  | .hbm, ⟨19, _⟩ => ⟨S2048x5120, .f32⟩
  | .hbm, ⟨20, _⟩ => ⟨S40960x5120, .f32⟩
  | .hbm, ⟨21, _⟩ => ⟨S40960x5120, .bf16⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== CrossIn.lean ====
abbrev S40960x2048 : Shape := ⟨2, ![40960, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x2048, .bf16⟩
  | .hbm, ⟨3, _⟩ => ⟨S1x2048, .f32⟩
  | .hbm, ⟨4, _⟩ => ⟨S40960x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![40, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossInReferenceIdeal.lean ====
abbrev S40960x2048 : Shape := ⟨2, ![40960, 2048]⟩
abbrev S2048 : Shape := ⟨1, ![2048]⟩
abbrev S2048x2048 : Shape := ⟨2, ![2048, 2048]⟩
abbrev S_ : Shape := ⟨0, ![]⟩
abbrev S40960 : Shape := ⟨1, ![40960]⟩
abbrev S40960x1 : Shape := ⟨2, ![40960, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x2048, .bf16⟩
  | .hbm, ⟨3, _⟩ => ⟨S40960x2048, .f32⟩
  | .hbm, ⟨4, _⟩ => ⟨S_, .f32⟩
  | .hbm, ⟨5, _⟩ => ⟨S40960, .f32⟩
  | .hbm, ⟨6, _⟩ => ⟨S40960x1, .f32⟩
  | .hbm, ⟨7, _⟩ => ⟨S_, .f32⟩
  | .hbm, ⟨8, _⟩ => ⟨S40960x1, .f32⟩
  | .hbm, ⟨9, _⟩ => ⟨S40960x1, .f32⟩
  | .hbm, ⟨10, _⟩ => ⟨S_, .f32⟩
  | .hbm, ⟨11, _⟩ => ⟨S40960x1, .f32⟩
  | .hbm, ⟨12, _⟩ => ⟨S40960x1, .f32⟩
  | .hbm, ⟨13, _⟩ => ⟨S40960x1, .f32⟩
  | .hbm, ⟨14, _⟩ => ⟨S40960x2048, .f32⟩
  | .hbm, ⟨15, _⟩ => ⟨S40960x2048, .f32⟩
  | .hbm, ⟨16, _⟩ => ⟨S1x2048, .f32⟩
  | .hbm, ⟨17, _⟩ => ⟨S40960x2048, .f32⟩
  | .hbm, ⟨18, _⟩ => ⟨S40960x2048, .f32⟩
  | .hbm, ⟨19, _⟩ => ⟨S2048x2048, .f32⟩
  | .hbm, ⟨20, _⟩ => ⟨S40960x2048, .f32⟩
  | .hbm, ⟨21, _⟩ => ⟨S40960x2048, .bf16⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FfnIn.lean ====
abbrev S40960x2048 : Shape := ⟨2, ![40960, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S1x2048 : Shape := ⟨2, ![1, 2048]⟩
abbrev S40960x5632 : Shape := ⟨2, ![40960, 5632]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1056x2048 : Shape := ⟨2, ![1056, 2048]⟩
abbrev S1056x512 : Shape := ⟨2, ![1056, 512]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S16x512 : Shape := ⟨2, ![16, 512]⟩
abbrev S64x128 : Shape := ⟨2, ![64, 128]⟩
abbrev S1x128 : Shape := ⟨2, ![1, 128]⟩

abbrev nBuf : Space → Nat
  | .hbm => 8
  | .vmem => 24
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S1x11264, .f32⟩
  | .hbm, ⟨6, _⟩ => ⟨S1x2048, .f32⟩
  | .hbm, ⟨7, _⟩ => ⟨S40960x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S2048x512, .bf16⟩
  | .local _ .vmem, ⟨14, _⟩ => ⟨S2048x512, .bf16⟩
  | .local _ .vmem, ⟨15, _⟩ => ⟨S3x512, .f32⟩
  | .local _ .vmem, ⟨16, _⟩ => ⟨S3x512, .f32⟩
  | .local _ .vmem, ⟨17, _⟩ => ⟨S1x512, .f32⟩
  | .local _ .vmem, ⟨18, _⟩ => ⟨S1x512, .f32⟩
  | .local _ .vmem, ⟨19, _⟩ => ⟨S1024x512, .bf16⟩
  | .local _ .vmem, ⟨20, _⟩ => ⟨S1024x512, .bf16⟩
  | .local _ .vmem, ⟨21, _⟩ => ⟨S1056x2048, .bf16⟩
  | .local _ .vmem, ⟨22, _⟩ => ⟨S1056x512, .f32⟩
  | .local _ .vmem, ⟨23, _⟩ => ⟨S1056x512, .f32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![40, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2559_i32 : BitVec 32 := 2559#32
  let v2 : BitVec 32 := Scalar.minsi v1 c2559_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnInReferenceIdeal.lean ====
abbrev S40960x2048 : Shape := ⟨2, ![40960, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S40960 : Shape := ⟨1, ![40960]⟩
abbrev S40960x1 : Shape := ⟨2, ![40960, 1]⟩
abbrev S1x2048 : Shape := ⟨2, ![1, 2048]⟩
abbrev S40960x11264 : Shape := ⟨2, ![40960, 11264]⟩
abbrev S5x8192x11264 : Shape := ⟨3, ![5, 8192, 11264]⟩
abbrev S5x8194x11264 : Shape := ⟨3, ![5, 8194, 11264]⟩
abbrev S1x11264 : Shape := ⟨2, ![1, 11264]⟩
abbrev S1x1x11264 : Shape := ⟨3, ![1, 1, 11264]⟩
abbrev S5x8192x5632 : Shape := ⟨3, ![5, 8192, 5632]⟩
abbrev S40960x5632 : Shape := ⟨2, ![40960, 5632]⟩

abbrev nBuf : Space → Nat
  | .hbm => 64
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S40960x2048, .f32⟩
  | .hbm, ⟨6, _⟩ => ⟨S_, .f32⟩
  | .hbm, ⟨7, _⟩ => ⟨S40960, .f32⟩
  | .hbm, ⟨8, _⟩ => ⟨S40960x1, .f32⟩
  | .hbm, ⟨9, _⟩ => ⟨S_, .f32⟩
  | .hbm, ⟨10, _⟩ => ⟨S40960x1, .f32⟩
  | .hbm, ⟨11, _⟩ => ⟨S40960x1, .f32⟩
  | .hbm, ⟨12, _⟩ => ⟨S_, .f32⟩
  | .hbm, ⟨13, _⟩ => ⟨S40960x1, .f32⟩
  | .hbm, ⟨14, _⟩ => ⟨S40960x1, .f32⟩
  | .hbm, ⟨15, _⟩ => ⟨S40960x1, .f32⟩
  | .hbm, ⟨16, _⟩ => ⟨S40960x2048, .f32⟩
  | .hbm, ⟨17, _⟩ => ⟨S40960x2048, .f32⟩
  | .hbm, ⟨18, _⟩ => ⟨S1x2048, .f32⟩
  | .hbm, ⟨19, _⟩ => ⟨S40960x2048, .f32⟩
  | .hbm, ⟨20, _⟩ => ⟨S40960x2048, .f32⟩
  | .hbm, ⟨21, _⟩ => ⟨S2048x11264, .f32⟩
  | .hbm, ⟨22, _⟩ => ⟨S40960x11264, .f32⟩
  | .hbm, ⟨23, _⟩ => ⟨S5x8192x11264, .f32⟩
  | .hbm, ⟨24, _⟩ => ⟨S_, .i32⟩
  | .hbm, ⟨25, _⟩ => ⟨S_, .f32⟩
  | .hbm, ⟨26, _⟩ => ⟨S5x8194x11264, .f32⟩
  | .hbm, ⟨27, _⟩ => ⟨S5x8192x11264, .f32⟩
  | .hbm, ⟨28, _⟩ => ⟨S1x11264, .f32⟩
  | .hbm, ⟨29, _⟩ => ⟨S11264, .f32⟩
  | .hbm, ⟨30, _⟩ => ⟨S1x1x11264, .f32⟩
  | .hbm, ⟨31, _⟩ => ⟨S5x8192x11264, .f32⟩
  | .hbm, ⟨32, _⟩ => ⟨S5x8192x11264, .f32⟩
  | .hbm, ⟨33, _⟩ => ⟨S5x8192x11264, .f32⟩
  | .hbm, ⟨34, _⟩ => ⟨S1x11264, .f32⟩
  | .hbm, ⟨35, _⟩ => ⟨S11264, .f32⟩
  | .hbm, ⟨36, _⟩ => ⟨S1x1x11264, .f32⟩
  | .hbm, ⟨37, _⟩ => ⟨S5x8192x11264, .f32⟩
  | .hbm, ⟨38, _⟩ => ⟨S5x8192x11264, .f32⟩
  | .hbm, ⟨39, _⟩ => ⟨S5x8192x11264, .f32⟩
  | .hbm, ⟨40, _⟩ => ⟨S5x8192x11264, .f32⟩
  | .hbm, ⟨41, _⟩ => ⟨S1x11264, .f32⟩
  | .hbm, ⟨42, _⟩ => ⟨S11264, .f32⟩
  | .hbm, ⟨43, _⟩ => ⟨S1x1x11264, .f32⟩
  | .hbm, ⟨44, _⟩ => ⟨S5x8192x11264, .f32⟩
  | .hbm, ⟨45, _⟩ => ⟨S5x8192x11264, .f32⟩
  | .hbm, ⟨46, _⟩ => ⟨S5x8192x11264, .f32⟩
  | .hbm, ⟨47, _⟩ => ⟨S1x1x11264, .f32⟩
  | .hbm, ⟨48, _⟩ => ⟨S5x8192x11264, .f32⟩
  | .hbm, ⟨49, _⟩ => ⟨S5x8192x11264, .f32⟩
  | .hbm, ⟨50, _⟩ => ⟨S5x8192x5632, .f32⟩
  | .hbm, ⟨51, _⟩ => ⟨S5x8192x5632, .f32⟩
  | .hbm, ⟨52, _⟩ => ⟨S5x8192x5632, .f32⟩
  | .hbm, ⟨53, _⟩ => ⟨S5x8192x5632, .f32⟩
  | .hbm, ⟨54, _⟩ => ⟨S_, .f32⟩
  | .hbm, ⟨55, _⟩ => ⟨S5x8192x5632, .f32⟩
  | .hbm, ⟨56, _⟩ => ⟨S5x8192x5632, .f32⟩
  | .hbm, ⟨57, _⟩ => ⟨S_, .f32⟩
  | .hbm, ⟨58, _⟩ => ⟨S5x8192x5632, .f32⟩
  | .hbm, ⟨59, _⟩ => ⟨S5x8192x5632, .f32⟩
  | .hbm, ⟨60, _⟩ => ⟨S5x8192x5632, .f32⟩
  | .hbm, ⟨61, _⟩ => ⟨S5x8192x5632, .f32⟩
  | .hbm, ⟨62, _⟩ => ⟨S40960x5632, .f32⟩
  | .hbm, ⟨63, _⟩ => ⟨S40960x5632, .bf16⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Proof.Flash.Program.lean ====
/-
  THE KERNEL'S BODY, WRITTEN SHORT. The printed body spells every access of the unrolled row blocks out, some fifteen
  thousand statements. Here the same program is written with its own structure: one row block of 32 rows
  (`rowBlock`), the 32 of them (`rows`), one online-softmax update (`update`), one product of the queries with a block
  of keys (`scores`), and the parts before and after the loop over the key blocks (`initVA`, `start`, `finish`). Nothing is
  proved of them here; they are stated over any signature, so that both printings of the kernel are instances.
-/
module

public import Idealize.ShloMosaic.Lib.VecWindow
public import Idealize.ShloMosaic.Lib.Exec
public import Idealize.ShloMosaic.Lib.Tactic

@[expose] public section

noncomputable section

namespace Cert.Flash

open Idealize.ShloMosaic Idealize.ShloMosaic.TcCoe
open Idealize.SL Idealize.SL.Sem

abbrev Sqk : Shape := ⟨2, ![1024, 1024]⟩
abbrev Srow : Shape := ⟨2, ![32, 128]⟩
abbrev Scol : Shape := ⟨2, ![32, 1]⟩
abbrev Svec : Shape := ⟨1, ![32]⟩
abbrev Skv : Shape := ⟨2, ![8192, 128]⟩
abbrev Sva : Shape := ⟨2, ![8192, 256]⟩
abbrev Sq : Shape := ⟨2, ![1024, 128]⟩
abbrev Sacc : Shape := ⟨2, ![1024, 256]⟩
abbrev Swin : Shape := ⟨2, ![256, 512]⟩
abbrev Shead : Shape := ⟨2, ![256, 128]⟩

/-- The buffers of one grid point: the four windows and the eight scratch arrays, each a whole buffer. -/
structure Bufs (sig : RefSig) where
  q : Memref sig .tc .vmem Swin .bf16
  k : Memref sig .tc .vmem Skv .bf16
  v : Memref sig .tc .vmem Skv .bf16
  o : Memref sig .tc .vmem Swin .bf16
  qs : Memref sig .tc .vmem Sq .bf16
  va : Memref sig .tc .vmem Sva .bf16
  s0 : Memref sig .tc .vmem Sqk .f32
  s1 : Memref sig .tc .vmem Sqk .f32
  p : Memref sig .tc .vmem Sqk .bf16
  acc : Memref sig .tc .vmem Sacc .f32
  m : Memref sig .tc .vmem Sq .f32
  al : Memref sig .tc .vmem Sq .f32
  ho : o.IsWhole
  hqs : qs.IsWhole
  hva : va.IsWhole
  hp : p.IsWhole

/-- Two functions that are equal are equal at every argument. -/
theorem all_of_eq {α : Sort*} {β : α → Sort*} {f g : ∀ a, β a} (h : f = g) : ∀ a, f a = g a := fun a => congrFun h a

variable {F : FTy → Type} [FloatOps F] {nD : Nat} {τ : Topo} {sig : RefSig} {Λ : Labels} {α : Type}

/-- A load of the window of sizes `size` at offsets `off`, and then `k` of what was read. -/
abbrev ld {s : Shape} {e : EltTy} (b : Memref sig .tc .vmem s e) (off size : Fin s.rank → ℕ)
    (inb : ∀ a, off a + size a ≤ s.size a) (h : 0 < (Rect.unit (s := s) off size inb).shape.numel)
    (k : ((Rect.unit (s := s) off size inb).shape.Idx → Elt F e) → Prog (TpuEff nD τ sig (Elt F) Λ .tc) α) :
    Prog (TpuEff nD τ sig (Elt F) Λ .tc) α :=
  Prog.op (.load b (Rect.unit (s := s) off size inb).toLoadRect (View.loadsAt_vmem h)) k

/-- A store over the window of sizes `size` at offsets `off`, and then `k`. -/
abbrev st {s : Shape} {e : EltTy} (b : Memref sig .tc .vmem s e) (off size : Fin s.rank → ℕ)
    (inb : ∀ a, off a + size a ≤ s.size a) (w : (Rect.unit (s := s) off size inb).shape.Idx → Elt F e)
    (h : (b.access (Rect.unit (s := s) off size inb)).Stores Finset.univ)
    (k : Prog (TpuEff nD τ sig (Elt F) Λ .tc) α) :
    Prog (TpuEff nD τ sig (Elt F) Λ .tc) α :=
  Prog.op (.store b (Rect.unit (s := s) off size inb) w Finset.univ h (.inl rfl)) fun _ => k

theorem inb2 {a b x y X Y : ℕ} (h0 : a + x ≤ X) (h1 : b + y ≤ Y) :
    ∀ i : Fin 2, (![a, b] : Fin 2 → ℕ) i + (⟨2, ![x, y]⟩ : Shape).size i ≤ (⟨2, ![X, Y]⟩ : Shape).size i :=
  Fin.forall_fin_two.2 ⟨h0, h1⟩

theorem pos_Srow : 0 < Srow.numel := by decide

theorem rowIn {r : ℕ} (h : r < 32) : 32 * r + 32 ≤ 1024 := by omega

/-- The row reduction's and the casts' shape relations. -/
theorem red_row : Srow.Reduces [1] Svec := by decide
theorem cast_vec : Svec.ShapeCasts Scol := by decide
theorem bc_col : Scol.Broadcasts Srow := by decide
theorem cast_row : Srow.ShapeCasts Srow := by decide

/-- Rows of 32 at an even offset are whole words of two bf16 each. -/
theorem packed_row {r c : ℕ} (inb) :
    (Rect.unit (s := Sqk) ![32 * r, c] Srow.size inb).PackedRows (EltTy.packing .bf16) :=
  .inr ⟨le_rfl, rfl, .inl ⟨Dvd.dvd.mul_right (by decide : 2 ∣ 32) r, (by decide : 2 ∣ 32)⟩⟩

variable (B : Bufs sig)

/-- The new running maximum of a row block: of the old one and the row maximum of the eight chunks. -/
abbrev newMax (c0 c1 c2 c3 c4 c5 c6 c7 m : Srow.Idx → Elt F .f32) : FVec F Srow .f32 :=
  maximumf m (broadcastTo Srow (shapeCast Scol
    (multiReduction .maximumf [1] Svec (maximumf (maximumf (maximumf (maximumf (maximumf (maximumf (maximumf c0 c1) c2) c3) c4) c5) c6) c7)
      0xFF800000#32 red_row (.inl rfl) rfl) cast_vec) bc_col)

/-- The store of one chunk of probabilities, and then `K`. -/
abbrev chunk (r : ℕ) (hr : r < 32) (c : ℕ) (hc : c + 128 ≤ 1024) (x mn : Srow.Idx → Elt F .f32) (K : Prog (TpuEff nD τ sig (Elt F) Λ .tc) α) : Prog (TpuEff nD τ sig (Elt F) Λ .tc) α :=
  ld B.p ![32 * r, c] Srow.size (inb2 (rowIn hr) hc) pos_Srow fun _ =>
  st B.p ![32 * r, c] Srow.size (inb2 (rowIn hr) hc) (shapeCast Srow (truncf .bf16 (exp2 (subf x mn)) (by decide)) cast_row)
    (View.stores_vmem pos_Srow (B.hp.storeExact_slice rfl _ (packed_row _)) (fun _ => rfl)) K

/-- One row block of 32 rows: the new maximum, the rescaling factor and the eight chunks of probabilities; then `K`. -/
def rowBlock (s : Memref sig .tc .vmem Sqk .f32) (r : ℕ) (hr : r < 32) (K : Prog (TpuEff nD τ sig (Elt F) Λ .tc) α) : Prog (TpuEff nD τ sig (Elt F) Λ .tc) α :=
  ld s ![32 * r, 0] Srow.size (inb2 (rowIn hr) (by decide)) pos_Srow fun c0 =>
  ld s ![32 * r, 128] Srow.size (inb2 (rowIn hr) (by decide)) pos_Srow fun c1 =>
  ld s ![32 * r, 256] Srow.size (inb2 (rowIn hr) (by decide)) pos_Srow fun c2 =>
  ld s ![32 * r, 384] Srow.size (inb2 (rowIn hr) (by decide)) pos_Srow fun c3 =>
  ld s ![32 * r, 512] Srow.size (inb2 (rowIn hr) (by decide)) pos_Srow fun c4 =>
  ld s ![32 * r, 640] Srow.size (inb2 (rowIn hr) (by decide)) pos_Srow fun c5 =>
  ld s ![32 * r, 768] Srow.size (inb2 (rowIn hr) (by decide)) pos_Srow fun c6 =>
  ld s ![32 * r, 896] Srow.size (inb2 (rowIn hr) (by decide)) pos_Srow fun c7 =>
  ld B.m ![32 * r, 0] Srow.size (inb2 (rowIn hr) (by decide)) pos_Srow fun mo =>
  ld B.m ![32 * r, 0] Srow.size (inb2 (rowIn hr) (by decide)) pos_Srow fun _ =>
  st B.m ![32 * r, 0] Srow.size (inb2 (rowIn hr) (by decide)) (shapeCast Srow (newMax c0 c1 c2 c3 c4 c5 c6 c7 mo) cast_row)
    (View.stores_vmem_bits_univ pos_Srow rfl) <|
  ld B.al ![32 * r, 0] Srow.size (inb2 (rowIn hr) (by decide)) pos_Srow fun _ =>
  st B.al ![32 * r, 0] Srow.size (inb2 (rowIn hr) (by decide)) (shapeCast Srow (exp2 (subf mo (newMax c0 c1 c2 c3 c4 c5 c6 c7 mo))) cast_row)
    (View.stores_vmem_bits_univ pos_Srow rfl) <|
  chunk B r hr 0 (by decide) c0 (newMax c0 c1 c2 c3 c4 c5 c6 c7 mo) <|
  chunk B r hr 128 (by decide) c1 (newMax c0 c1 c2 c3 c4 c5 c6 c7 mo) <|
  chunk B r hr 256 (by decide) c2 (newMax c0 c1 c2 c3 c4 c5 c6 c7 mo) <|
  chunk B r hr 384 (by decide) c3 (newMax c0 c1 c2 c3 c4 c5 c6 c7 mo) <|
  chunk B r hr 512 (by decide) c4 (newMax c0 c1 c2 c3 c4 c5 c6 c7 mo) <|
  chunk B r hr 640 (by decide) c5 (newMax c0 c1 c2 c3 c4 c5 c6 c7 mo) <|
  chunk B r hr 768 (by decide) c6 (newMax c0 c1 c2 c3 c4 c5 c6 c7 mo) <|
  chunk B r hr 896 (by decide) c7 (newMax c0 c1 c2 c3 c4 c5 c6 c7 mo) <|
  K

/-- The `n` row blocks from `r` on, then `K`. -/
def rows (s : Memref sig .tc .vmem Sqk .f32) (K : Prog (TpuEff nD τ sig (Elt F) Λ .tc) α) : (n r : ℕ) → r + n ≤ 32 → Prog (TpuEff nD τ sig (Elt F) Λ .tc) α
  | 0, _, _ => K
  | n + 1, r, h => rowBlock B s r (by omega) (rows s K n (r + 1) (by omega))

/-- The contraction of the queries with a block of keys, over the head's 128 places. -/
def dotQK : DotDims Sq Sq Sqk where
  lhsContracting := [1]
  rhsContracting := [1]
  lhsNonContracting := [0]
  rhsNonContracting := [0]
  lhsBatch := []
  rhsBatch := []
  wf := by decide

/-- The contraction of the probabilities with a block of values and ones, over the block's 1024 keys. -/
def dotPV : DotDims Sqk ⟨2, ![1024, 256]⟩ Sacc where
  lhsContracting := [1]
  rhsContracting := [0]
  lhsNonContracting := [0]
  rhsNonContracting := [1]
  lhsBatch := []
  rhsBatch := []
  wf := by decide

theorem pos_Sq : 0 < Sq.numel := by decide
theorem pos_Sqk : 0 < Sqk.numel := by decide
theorem pos_Sacc : 0 < Sacc.numel := by decide
theorem cast_Sqk : Sqk.ShapeCasts Sqk := by decide
theorem cast_Sacc : Sacc.ShapeCasts Sacc := by decide
theorem conc_al : Shape.Concatenates [Sq, Sq] Sacc 1 := by decide

/-- The product of the queries with the keys at `off`, into `s`; then `K`. -/
def scores (s : Memref sig .tc .vmem Sqk .f32) (off : Fin 2 → ℕ) (inb : ∀ a, off a + Sq.size a ≤ Skv.size a) (K : Prog (TpuEff nD τ sig (Elt F) Λ .tc) α) : Prog (TpuEff nD τ sig (Elt F) Λ .tc) α :=
  ld B.qs ![0, 0] Sq.size (inb2 (by decide) (by decide)) pos_Sq fun q =>
  ld B.k off Sq.size inb pos_Sq fun k =>
  ld s ![0, 0] Sqk.size (inb2 (by decide) (by decide)) pos_Sqk fun _ =>
  st s ![0, 0] Sqk.size (inb2 (by decide) (by decide)) (shapeCast Sqk (matmul dotQK none q k (constant Sqk .f32 0x00000000#32)) cast_Sqk)
    (View.stores_vmem_bits_univ pos_Sqk rfl) K

/-- The accumulators brought up to date by the block of values and ones at `off`; then `K`. -/
def pv (off : Fin 2 → ℕ) (inb : ∀ a, off a + Sacc.size a ≤ Sva.size a) (K : Prog (TpuEff nD τ sig (Elt F) Λ .tc) α) : Prog (TpuEff nD τ sig (Elt F) Λ .tc) α :=
  ld B.p ![0, 0] Sqk.size (inb2 (by decide) (by decide)) pos_Sqk fun p =>
  ld B.va off Sacc.size inb pos_Sacc fun w =>
  ld B.al ![0, 0] Sq.size (inb2 (by decide) (by decide)) pos_Sq fun al =>
  ld B.acc ![0, 0] Sacc.size (inb2 (by decide) (by decide)) pos_Sacc fun a =>
  ld B.acc ![0, 0] Sacc.size (inb2 (by decide) (by decide)) pos_Sacc fun _ =>
  st B.acc ![0, 0] Sacc.size (inb2 (by decide) (by decide))
    (shapeCast Sacc (addf (mulf a (concatenate Sacc 1 [⟨Sq, al⟩, ⟨Sq, al⟩] conc_al))
      (matmul dotPV none p w (constant Sacc .f32 0x00000000#32))) cast_Sacc)
    (View.stores_vmem_bits_univ pos_Sacc rfl) K

/-- One update of the online softmax by the scores in `s`, whose values are those at `off`; then `K`. -/
def update (s : Memref sig .tc .vmem Sqk .f32) (off : Fin 2 → ℕ) (inb : ∀ a, off a + Sacc.size a ≤ Sva.size a) (K : Prog (TpuEff nD τ sig (Elt F) Λ .tc) α) : Prog (TpuEff nD τ sig (Elt F) Λ .tc) α :=
  rows B s (pv B off inb K) 32 0 (by decide)

theorem blockK {j : ℕ} (h : j < 8) : ∀ a, (![1024 * j, 0] : Fin 2 → ℕ) a + Sq.size a ≤ Skv.size a :=
  inb2 (by omega) (by decide)
theorem blockV {j : ℕ} (h : j < 8) : ∀ a, (![1024 * j, 0] : Fin 2 → ℕ) a + Sacc.size a ≤ Sva.size a :=
  inb2 (by omega) (by decide)

/-- One trip of the loop over the key blocks: while the scores of one block are made, the block before is added. -/
def trip (t : ℕ) (h : t < 3) (K : Prog (TpuEff nD τ sig (Elt F) Λ .tc) α) : Prog (TpuEff nD τ sig (Elt F) Λ .tc) α :=
  scores B B.s1 ![1024 * (2 * t + 1), 0] (blockK (by omega)) <|
  update B B.s0 ![1024 * (2 * t), 0] (blockV (by omega)) <|
  scores B B.s0 ![1024 * (2 * t + 2), 0] (blockK (by omega)) <|
  update B B.s1 ![1024 * (2 * t + 1), 0] (blockV (by omega)) K

theorem pos_Skv : 0 < Skv.numel := by decide
theorem pos_Shead : 0 < Shead.numel := by decide
theorem cast_Skv : Skv.ShapeCasts Skv := by decide
theorem cast_Sq : Sq.ShapeCasts Sq := by decide
theorem cast_Shead : Shead.ShapeCasts Shead := by decide

theorem packed_va {c : ℕ} (inb) : (Rect.unit (s := Sva) ![0, c] Skv.size inb).PackedRows (EltTy.packing .bf16) :=
  .inr ⟨le_rfl, rfl, .inl ⟨(by decide : 2 ∣ 0), (by decide : 2 ∣ 8192)⟩⟩
theorem packed_qs {g : ℕ} (inb) : (Rect.unit (s := Sq) ![256 * g, 0] Shead.size inb).PackedRows (EltTy.packing .bf16) :=
  .inr ⟨le_rfl, rfl, .inl ⟨Dvd.dvd.mul_right (by decide : 2 ∣ 256) g, (by decide : 2 ∣ 256)⟩⟩
theorem packed_o {c : ℕ} (inb) : (Rect.unit (s := Swin) ![0, c] Shead.size inb).PackedRows (EltTy.packing .bf16) :=
  .inr ⟨le_rfl, rfl, .inl ⟨(by decide : 2 ∣ 0), (by decide : 2 ∣ 256)⟩⟩

/-- The values beside a block of ones, written at a key head's first query tile; then `K`. -/
def initVA (K : Prog (TpuEff nD τ sig (Elt F) Λ .tc) α) : Prog (TpuEff nD τ sig (Elt F) Λ .tc) α :=
  ld B.v ![0, 0] Skv.size (inb2 (by decide) (by decide)) pos_Skv fun v =>
  ld B.va ![0, 0] Skv.size (inb2 (by decide) (by decide)) pos_Skv fun _ =>
  st B.va ![0, 0] Skv.size (inb2 (by decide) (by decide)) (shapeCast Skv v cast_Skv)
    (View.stores_vmem pos_Skv (B.hva.storeExact_slice rfl _ (packed_va _)) (fun _ => rfl)) <|
  ld B.va ![0, 128] Skv.size (inb2 (by decide) (by decide)) pos_Skv fun _ =>
  st B.va ![0, 128] Skv.size (inb2 (by decide) (by decide)) (shapeCast Skv (broadcast Skv (Scalar.ofBits .bf16 0x3F80#16)) cast_Skv)
    (View.stores_vmem pos_Skv (B.hva.storeExact_slice rfl _ (packed_va _)) (fun _ => rfl)) K

/-- One head's queries, stacked under those of the heads before it; then `K`. -/
def stack (g : ℕ) (h : g < 4) (K : Prog (TpuEff nD τ sig (Elt F) Λ .tc) α) : Prog (TpuEff nD τ sig (Elt F) Λ .tc) α :=
  ld B.q ![0, 128 * g] Shead.size (inb2 (by decide) (by omega)) pos_Shead fun q =>
  ld B.qs ![256 * g, 0] Shead.size (inb2 (by omega) (by decide)) pos_Shead fun _ =>
  st B.qs ![256 * g, 0] Shead.size (inb2 (by omega) (by decide)) (shapeCast Shead q cast_Shead)
    (View.stores_vmem pos_Shead (B.hqs.storeExact_slice rfl _ (packed_qs _)) (fun _ => rfl)) K

/-- The four heads' queries stacked, the running maximum started and the accumulators' zeros made; then `K` of these. -/
def start (K : FVec F Sacc .f32 → Prog (TpuEff nD τ sig (Elt F) Λ .tc) α) : Prog (TpuEff nD τ sig (Elt F) Λ .tc) α :=
  stack B 0 (by decide) <| stack B 1 (by decide) <| stack B 2 (by decide) <| stack B 3 (by decide) <|
  ld B.m ![0, 0] Sq.size (inb2 (by decide) (by decide)) pos_Sq fun _ =>
  st B.m ![0, 0] Sq.size (inb2 (by decide) (by decide)) (shapeCast Sq (broadcast Sq (Scalar.ofBits .f32 0xF149F2CA#32)) cast_Sq)
    (View.stores_vmem_bits_univ pos_Sq rfl) <|
  ld B.acc ![0, 0] Sacc.size (inb2 (by decide) (by decide)) pos_Sacc fun _ =>
  K (shapeCast Sacc (broadcast Sacc (Scalar.ofBits .f32 0x00000000#32)) cast_Sacc)

/-- The accumulators' start, the scores of the first block and the loop's three trips; then `K`. -/
def middleTo (z : FVec F Sacc .f32) (K : Prog (TpuEff nD τ sig (Elt F) Λ .tc) α) : Prog (TpuEff nD τ sig (Elt F) Λ .tc) α :=
  st B.acc ![0, 0] Sacc.size (inb2 (by decide) (by decide)) z (View.stores_vmem_bits_univ pos_Sacc rfl) <|
  scores B B.s0 ![0, 0] (inb2 (by decide) (by decide)) <|
  trip B 0 (by decide) <| trip B 1 (by decide) <| trip B 2 (by decide) K

/-- One head's rows of the quotients, into the head's columns of the output window; then `K`. -/
def out (x : FVec F Sq .f32) (g : ℕ) (h : g < 4) (hs : Sq.Slices ![256 * g, 0] Shead) (K : Prog (TpuEff nD τ sig (Elt F) Λ .tc) α) :
    Prog (TpuEff nD τ sig (Elt F) Λ .tc) α :=
  ld B.o ![0, 128 * g] Shead.size (inb2 (by decide) (by omega)) pos_Shead fun _ =>
  st B.o ![0, 128 * g] Shead.size (inb2 (by decide) (by omega)) (truncf .bf16 (extractStridedSlice Shead ![256 * g, 0] x hs) (by decide))
    (View.stores_vmem pos_Shead (B.ho.storeExact_slice rfl _ (packed_o _)) (fun _ => rfl)) K

/-- The quotients of the accumulators, head by head into the output window. -/
def finish : Prog (TpuEff nD τ sig (Elt F) Λ .tc) PUnit :=
  ld B.acc ![0, 0] Sq.size (inb2 (by decide) (by decide)) pos_Sq fun n =>
  ld B.acc ![0, 128] Sq.size (inb2 (by decide) (by decide)) pos_Sq fun d =>
  out B (divf n d) 0 (by decide) (by decide) <| out B (divf n d) 1 (by decide) (by decide) <|
  out B (divf n d) 2 (by decide) (by decide) <| out B (divf n d) 3 (by decide) (by decide) <| Prog.ret ⟨⟩

/-- The whole of a grid point after the values are in place. -/
def point : Prog (TpuEff nD τ sig (Elt F) Λ .tc) PUnit :=
  start B fun z => middleTo B z <|
  scores B B.s1 ![7168, 0] (inb2 (by decide) (by decide)) <|
  update B B.s0 ![6144, 0] (inb2 (by decide) (by decide)) <|
  update B B.s1 ![7168, 0] (inb2 (by decide) (by decide)) <|
  finish B

end Cert.Flash

end
-- ==== Proof.Flash.Steps.lean ====
/-
  LOADS AND STORES BY VALUES. A buffer owned at an array `x` stays so under a load, which reads a window of `x`; a
  store leaves the array with the payload put over the window. An access of the buffer's own sizes reads or leaves the
  array itself.
-/
module

public import proofs.«01_k».proof.Proof.Flash.Program

@[expose] public section

noncomputable section

namespace Cert.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig} {Λ : Labels} {α : Type}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)

section

variable {s : Shape} {e : EltTy} (b : Memref sig .tc .vmem s e) {x : s.Idx → Elt F e} {off size : Fin s.rank → ℕ}

theorem wp_ld {Q : α → sProp 𝕄} {inb : ∀ a, off a + size a ≤ s.size a} {h : 0 < (Rect.unit (s := s) off size inb).shape.numel}
    {k : ((Rect.unit (s := s) off size inb).shape.Idx → Elt F e) → Prog (TpuEff nD τ sig (Elt F) Λ .tc) α} :
    (owns (c : Thread nD τ) b fullShare x : sProp 𝕄) ⊢ iprop((owns (c : Thread nD τ) b fullShare x -∗
        wp frame (wpE defs 𝒱 c bd) E (k (VecWindow.window x off size inb)) Q)
      -∗ wp frame (wpE defs 𝒱 c bd) E (ld b off size inb h k) Q) := by
  unfold owns ld
  iintro ⟨%f, %hf, H⟩ HK
  subst hf
  iapply (wp_load 𝒱 (c : Thread nD τ) bd E (Q := Q) (m := b) (b.view.setOn_subset_set _)) $$ H
  iintro H
  iapply HK
  iexists f
  isplitr
  · ipureintro; rfl
  iexact H

theorem wp_st {Q : α → sProp 𝕄} [∀ e, Nonempty (Elt F e)] {inb : ∀ a, off a + size a ≤ s.size a} {w : (Rect.unit (s := s) off size inb).shape.Idx → Elt F e}
    {h : (b.access (Rect.unit (s := s) off size inb)).Stores Finset.univ}
    {k : Prog (TpuEff nD τ sig (Elt F) Λ .tc) α} :
    (owns (c : Thread nD τ) b fullShare x : sProp 𝕄) ⊢ iprop((owns (c : Thread nD τ) b fullShare (VecWindow.put x off size w) -∗
        wp frame (wpE defs 𝒱 c bd) E k Q)
      -∗ wp frame (wpE defs 𝒱 c bd) E (st b off size inb w h k) Q) := by
  unfold owns st
  iintro ⟨%f, %hf, H⟩ HK
  subst hf
  iapply (wp_store_writes₀ 𝒱 (c : Thread nD τ) bd E (Q := Q) (m := b) (S := b.view.set) (f := f) (b.view.set_slice_subset _)) $$ H
  iintro H
  iapply HK
  iexists _
  isplitr
  · ipureintro; exact View.read_writes_cons_put b.view f inb w [] rfl
  iexact H

/-- A load of the buffer's own sizes reads the array. -/
theorem wp_ld_full {Q : α → sProp 𝕄} {inb : ∀ a, off a + s.size a ≤ s.size a} {h : 0 < (Rect.unit (s := s) off s.size inb).shape.numel}
    {k : ((Rect.unit (s := s) off s.size inb).shape.Idx → Elt F e) → Prog (TpuEff nD τ sig (Elt F) Λ .tc) α} :
    (owns (c : Thread nD τ) b fullShare x : sProp 𝕄) ⊢ iprop((owns (c : Thread nD τ) b fullShare x -∗
        wp frame (wpE defs 𝒱 c bd) E (k x) Q)
      -∗ wp frame (wpE defs 𝒱 c bd) E (ld b off s.size inb h k) Q) := by
  have e : VecWindow.window x off s.size inb = x := funext fun y => congrArg x (funext fun a => Fin.ext (by
    show off a + 1 * (y a).val = (y a).val
    have := inb a; omega))
  have := wp_ld (defs := defs) 𝒱 c bd E b (x := x) (off := off) (size := s.size) (inb := inb) (h := h) (k := k) (Q := Q)
  rwa [e] at this

/-- A store of the buffer's own sizes leaves the payload. -/
theorem wp_st_full {Q : α → sProp 𝕄} [∀ e, Nonempty (Elt F e)] {inb : ∀ a, off a + s.size a ≤ s.size a}
    {w : (Rect.unit (s := s) off s.size inb).shape.Idx → Elt F e}
    {h : (b.access (Rect.unit (s := s) off s.size inb)).Stores Finset.univ}
    {k : Prog (TpuEff nD τ sig (Elt F) Λ .tc) α} :
    (owns (c : Thread nD τ) b fullShare x : sProp 𝕄) ⊢ iprop((owns (c : Thread nD τ) b fullShare w -∗
        wp frame (wpE defs 𝒱 c bd) E k Q)
      -∗ wp frame (wpE defs 𝒱 c bd) E (st b off s.size inb w h k) Q) := by
  have e : VecWindow.put x off s.size w = w := by
    funext y
    have h : ∀ a, off a ≤ (y a).val ∧ (y a).val < off a + s.size a := fun a => by
      have := inb a; have := (y a).isLt; omega
    show (if h : _ then w (Rect.unitLocal (s := s) (off := off) (size := s.size) y h) else x y) = w y
    rw [dif_pos h]
    exact congrArg w (funext fun a => Fin.ext (by
      show (y a).val - off a = (y a).val
      have := inb a; omega))
  have := wp_st (defs := defs) 𝒱 c bd E b (x := x) (off := off) (size := s.size) (inb := inb) (w := w) (h := h) (k := k) (Q := Q)
  rwa [e] at this

end

end Cert.Flash

end
-- ==== Proof.Flash.Update.lean ====
/-
  WHAT THE PARTS OF A GRID POINT LEAVE. Each part of the short program takes the arrays of the twelve buffers to
  others, by a plain function of arrays: a row block's statistics and probabilities (`rowStep`), those of all 32
  (`rowsStep`), the scores of a block of keys (`dots`), the accumulators (`accum`); the parts of the whole grid point
  compose to `pointSt`.
-/
module

public import proofs.«01_k».proof.Proof.Flash.Steps

@[expose] public section

noncomputable section

namespace Cert.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig} {Λ : Labels} {α : Type}
variable {Ix : Type} [DecidableEq Ix] {Name : Type} [DecidableEq Name] {U : Type} [URA U] {Lvl : Type} [Preorder Lvl]

local notation "𝕄" => MT nD τ sig Ix (Elt F) Name U Lvl

/-- The statistics of an online softmax: running maximum, rescaling factor, probabilities. -/
structure Soft (F : FTy → Type) where
  m : Sq.Idx → Elt F .f32
  al : Sq.Idx → Elt F .f32
  p : Sqk.Idx → Elt F .bf16

/-- A chunk of a row block of the scores. -/
abbrev chunkOf (S : Sqk.Idx → Elt F .f32) (r : ℕ) (hr : r < 32) (c : ℕ) (hc : c + 128 ≤ 1024) : Srow.Idx → Elt F .f32 :=
  VecWindow.window S ![32 * r, c] Srow.size (inb2 (rowIn hr) hc)

/-- A row block of the running maximum. -/
abbrev rowOf (M : Sq.Idx → Elt F .f32) (r : ℕ) (hr : r < 32) : Srow.Idx → Elt F .f32 :=
  VecWindow.window M ![32 * r, 0] Srow.size (inb2 (rowIn hr) (by decide))

/-- A row block's new maximum. -/
abbrev rowMax (S : Sqk.Idx → Elt F .f32) (M : Sq.Idx → Elt F .f32) (r : ℕ) (hr : r < 32) : Srow.Idx → Elt F .f32 :=
  newMax (chunkOf S r hr 0 (by decide)) (chunkOf S r hr 128 (by decide)) (chunkOf S r hr 256 (by decide)) (chunkOf S r hr 384 (by decide))
    (chunkOf S r hr 512 (by decide)) (chunkOf S r hr 640 (by decide)) (chunkOf S r hr 768 (by decide)) (chunkOf S r hr 896 (by decide)) (rowOf M r hr)

/-- A chunk of probabilities put in place. -/
abbrev putChunk (r : ℕ) (c : ℕ) (x mn : Srow.Idx → Elt F .f32) (P : Sqk.Idx → Elt F .bf16) : Sqk.Idx → Elt F .bf16 :=
  VecWindow.put P ![32 * r, c] Srow.size (shapeCast Srow (truncf .bf16 (exp2 (subf x mn)) (by decide)) cast_row : Srow.Idx → Elt F .bf16)

/-- What one row block leaves. -/
def rowStep (S : Sqk.Idx → Elt F .f32) (r : ℕ) (hr : r < 32) (X : Soft F) : Soft F where
  m := VecWindow.put X.m ![32 * r, 0] Srow.size (shapeCast Srow (rowMax S X.m r hr) cast_row : Srow.Idx → Elt F .f32)
  al := VecWindow.put X.al ![32 * r, 0] Srow.size (shapeCast Srow (exp2 (subf (rowOf X.m r hr) (rowMax S X.m r hr))) cast_row : Srow.Idx → Elt F .f32)
  p := putChunk r 896 (chunkOf S r hr 896 (by decide)) (rowMax S X.m r hr) <|
    putChunk r 768 (chunkOf S r hr 768 (by decide)) (rowMax S X.m r hr) <|
    putChunk r 640 (chunkOf S r hr 640 (by decide)) (rowMax S X.m r hr) <|
    putChunk r 512 (chunkOf S r hr 512 (by decide)) (rowMax S X.m r hr) <|
    putChunk r 384 (chunkOf S r hr 384 (by decide)) (rowMax S X.m r hr) <|
    putChunk r 256 (chunkOf S r hr 256 (by decide)) (rowMax S X.m r hr) <|
    putChunk r 128 (chunkOf S r hr 128 (by decide)) (rowMax S X.m r hr) <|
    putChunk r 0 (chunkOf S r hr 0 (by decide)) (rowMax S X.m r hr) X.p

/-- What the `n` row blocks from `r` on leave. -/
def rowsStep (S : Sqk.Idx → Elt F .f32) : (n r : ℕ) → r + n ≤ 32 → Soft F → Soft F
  | 0, _, _, X => X
  | n + 1, r, h, X => rowsStep S n (r + 1) (by omega) (rowStep S r (by omega) X)

/-- The scores of a block of keys. -/
abbrev dots (q k : Sq.Idx → Elt F .bf16) : Sqk.Idx → Elt F .f32 :=
  shapeCast Sqk (matmul dotQK none q k (constant Sqk .f32 0x00000000#32)) cast_Sqk

/-- The accumulators after a block of keys. -/
abbrev accum (p : Sqk.Idx → Elt F .bf16) (w : Sacc.Idx → Elt F .bf16) (al : Sq.Idx → Elt F .f32) (a : Sacc.Idx → Elt F .f32) : Sacc.Idx → Elt F .f32 :=
  shapeCast Sacc (addf (mulf a (concatenate Sacc 1 [⟨Sq, al⟩, ⟨Sq, al⟩] conc_al))
    (matmul dotPV none p w (constant Sacc .f32 0x00000000#32))) cast_Sacc

variable [∀ e, Nonempty (Elt F e)] {defs : Defs nD τ sig (Elt F) Λ} (𝒱 : Variants) (c : Dev nD) (bd : Option 𝒱.V) (E : Set Name) (B : Bufs sig)

/-- The statistics' buffers owned at `X`. -/
def softAt (X : Soft F) : sProp 𝕄 :=
  iprop(owns (c : Thread nD τ) B.m fullShare X.m ∗ owns (c : Thread nD τ) B.al fullShare X.al ∗ owns (c : Thread nD τ) B.p fullShare X.p)

theorem wp_rowBlock {Q : α → sProp 𝕄} (s : Memref sig .tc .vmem Sqk .f32) (r : ℕ) (hr : r < 32) (S : Sqk.Idx → Elt F .f32) (X : Soft F)
    (K : Prog (TpuEff nD τ sig (Elt F) Λ .tc) α) :
    (iprop(owns (c : Thread nD τ) s fullShare S ∗ softAt c B X) : sProp 𝕄)
      ⊢ iprop((owns (c : Thread nD τ) s fullShare S ∗ softAt c B (rowStep S r hr X) -∗ wp frame (wpE defs 𝒱 c bd) E K Q)
        -∗ wp frame (wpE defs 𝒱 c bd) E (rowBlock B s r hr K) Q) := by
  unfold softAt rowBlock
  iintro ⟨Hs, Hm, Ha, Hp⟩ HK
  iapply (wp_ld 𝒱 c bd E s) $$ Hs; iintro Hs
  iapply (wp_ld 𝒱 c bd E s) $$ Hs; iintro Hs
  iapply (wp_ld 𝒱 c bd E s) $$ Hs; iintro Hs
  iapply (wp_ld 𝒱 c bd E s) $$ Hs; iintro Hs
  iapply (wp_ld 𝒱 c bd E s) $$ Hs; iintro Hs
  iapply (wp_ld 𝒱 c bd E s) $$ Hs; iintro Hs
  iapply (wp_ld 𝒱 c bd E s) $$ Hs; iintro Hs
  iapply (wp_ld 𝒱 c bd E s) $$ Hs; iintro Hs
  iapply (wp_ld 𝒱 c bd E B.m) $$ Hm; iintro Hm
  iapply (wp_ld 𝒱 c bd E B.m) $$ Hm; iintro Hm
  iapply (wp_st 𝒱 c bd E B.m) $$ Hm; iintro Hm
  iapply (wp_ld 𝒱 c bd E B.al) $$ Ha; iintro Ha
  iapply (wp_st 𝒱 c bd E B.al) $$ Ha; iintro Ha
  iapply (wp_ld 𝒱 c bd E B.p) $$ Hp; iintro Hp
  iapply (wp_st 𝒱 c bd E B.p) $$ Hp; iintro Hp
  iapply (wp_ld 𝒱 c bd E B.p) $$ Hp; iintro Hp
  iapply (wp_st 𝒱 c bd E B.p) $$ Hp; iintro Hp
  iapply (wp_ld 𝒱 c bd E B.p) $$ Hp; iintro Hp
  iapply (wp_st 𝒱 c bd E B.p) $$ Hp; iintro Hp
  iapply (wp_ld 𝒱 c bd E B.p) $$ Hp; iintro Hp
  iapply (wp_st 𝒱 c bd E B.p) $$ Hp; iintro Hp
  iapply (wp_ld 𝒱 c bd E B.p) $$ Hp; iintro Hp
  iapply (wp_st 𝒱 c bd E B.p) $$ Hp; iintro Hp
  iapply (wp_ld 𝒱 c bd E B.p) $$ Hp; iintro Hp
  iapply (wp_st 𝒱 c bd E B.p) $$ Hp; iintro Hp
  iapply (wp_ld 𝒱 c bd E B.p) $$ Hp; iintro Hp
  iapply (wp_st 𝒱 c bd E B.p) $$ Hp; iintro Hp
  iapply (wp_ld 𝒱 c bd E B.p) $$ Hp; iintro Hp
  iapply (wp_st 𝒱 c bd E B.p) $$ Hp; iintro Hp
  iapply HK
  isplitl [Hs]; · iexact Hs
  isplitl [Hm]; · iexact Hm
  isplitl [Ha]; · iexact Ha
  iexact Hp

theorem wp_rows {Q : α → sProp 𝕄} (s : Memref sig .tc .vmem Sqk .f32) (S : Sqk.Idx → Elt F .f32)
    (K : Prog (TpuEff nD τ sig (Elt F) Λ .tc) α) : ∀ (n r : ℕ) (h : r + n ≤ 32) (X : Soft F),
    (iprop(owns (c : Thread nD τ) s fullShare S ∗ softAt c B X) : sProp 𝕄)
      ⊢ iprop((owns (c : Thread nD τ) s fullShare S ∗ softAt c B (rowsStep S n r h X) -∗ wp frame (wpE defs 𝒱 c bd) E K Q)
        -∗ wp frame (wpE defs 𝒱 c bd) E (rows B s K n r h) Q)
  | 0, r, h, X => by
    iintro H HK
    unfold rows rowsStep
    iapply HK
    iexact H
  | n + 1, r, h, X => by
    iintro H HK
    unfold rows rowsStep
    iapply (wp_rowBlock 𝒱 c bd E B s r _ S X) $$ H
    iintro H
    iapply (wp_rows s S K n (r + 1) _ _) $$ H
    iexact HK

theorem wp_scores {Q : α → sProp 𝕄} (s : Memref sig .tc .vmem Sqk .f32) (off : Fin 2 → ℕ) (inb : ∀ a, off a + Sq.size a ≤ Skv.size a)
    (q : Sq.Idx → Elt F .bf16) (k : Skv.Idx → Elt F .bf16) (S : Sqk.Idx → Elt F .f32) (K : Prog (TpuEff nD τ sig (Elt F) Λ .tc) α) :
    (iprop(owns (c : Thread nD τ) s fullShare S ∗ owns (c : Thread nD τ) B.qs fullShare q ∗ owns (c : Thread nD τ) B.k fullShare k) : sProp 𝕄)
      ⊢ iprop((owns (c : Thread nD τ) s fullShare (dots q (VecWindow.window k off Sq.size inb)) ∗ owns (c : Thread nD τ) B.qs fullShare q
          ∗ owns (c : Thread nD τ) B.k fullShare k -∗ wp frame (wpE defs 𝒱 c bd) E K Q)
        -∗ wp frame (wpE defs 𝒱 c bd) E (scores B s off inb K) Q) := by
  unfold scores
  iintro ⟨Hs, Hq, Hk⟩ HK
  iapply (wp_ld_full 𝒱 c bd E B.qs) $$ Hq; iintro Hq
  iapply (wp_ld 𝒱 c bd E B.k) $$ Hk; iintro Hk
  iapply (wp_ld_full 𝒱 c bd E s) $$ Hs; iintro Hs
  iapply (wp_st_full 𝒱 c bd E s) $$ Hs; iintro Hs
  iapply HK
  isplitl [Hs]; · iexact Hs
  isplitl [Hq]; · iexact Hq
  iexact Hk

theorem wp_pv {Q : α → sProp 𝕄} (off : Fin 2 → ℕ) (inb : ∀ a, off a + Sacc.size a ≤ Sva.size a)
    (X : Soft F) (w : Sva.Idx → Elt F .bf16) (a : Sacc.Idx → Elt F .f32) (K : Prog (TpuEff nD τ sig (Elt F) Λ .tc) α) :
    (iprop(softAt c B X ∗ owns (c : Thread nD τ) B.va fullShare w ∗ owns (c : Thread nD τ) B.acc fullShare a) : sProp 𝕄)
      ⊢ iprop((softAt c B X ∗ owns (c : Thread nD τ) B.va fullShare w
          ∗ owns (c : Thread nD τ) B.acc fullShare (accum X.p (VecWindow.window w off Sacc.size inb) X.al a) -∗ wp frame (wpE defs 𝒱 c bd) E K Q)
        -∗ wp frame (wpE defs 𝒱 c bd) E (pv B off inb K) Q) := by
  unfold pv softAt
  iintro ⟨⟨Hm, Ha, Hp⟩, Hw, Hc⟩ HK
  iapply (wp_ld_full 𝒱 c bd E B.p) $$ Hp; iintro Hp
  iapply (wp_ld 𝒱 c bd E B.va) $$ Hw; iintro Hw
  iapply (wp_ld_full 𝒱 c bd E B.al) $$ Ha; iintro Ha
  iapply (wp_ld_full 𝒱 c bd E B.acc) $$ Hc; iintro Hc
  iapply (wp_ld_full 𝒱 c bd E B.acc) $$ Hc; iintro Hc
  iapply (wp_st_full 𝒱 c bd E B.acc) $$ Hc; iintro Hc
  iapply HK
  isplitl [Hm Ha Hp]
  · isplitl [Hm]; · iexact Hm
    isplitl [Ha]; · iexact Ha
    iexact Hp
  isplitl [Hw]; · iexact Hw
  iexact Hc

theorem wp_update {Q : α → sProp 𝕄} (s : Memref sig .tc .vmem Sqk .f32) (off : Fin 2 → ℕ) (inb : ∀ a, off a + Sacc.size a ≤ Sva.size a)
    (S : Sqk.Idx → Elt F .f32) (X : Soft F) (w : Sva.Idx → Elt F .bf16) (a : Sacc.Idx → Elt F .f32) (K : Prog (TpuEff nD τ sig (Elt F) Λ .tc) α) :
    (iprop(owns (c : Thread nD τ) s fullShare S ∗ softAt c B X ∗ owns (c : Thread nD τ) B.va fullShare w ∗ owns (c : Thread nD τ) B.acc fullShare a) : sProp 𝕄)
      ⊢ iprop((owns (c : Thread nD τ) s fullShare S ∗ softAt c B (rowsStep S 32 0 (by decide) X) ∗ owns (c : Thread nD τ) B.va fullShare w
          ∗ owns (c : Thread nD τ) B.acc fullShare (accum (rowsStep S 32 0 (by decide) X).p (VecWindow.window w off Sacc.size inb)
            (rowsStep S 32 0 (by decide) X).al a) -∗ wp frame (wpE defs 𝒱 c bd) E K Q)
        -∗ wp frame (wpE defs 𝒱 c bd) E (update B s off inb K) Q) := by
  unfold update
  iintro ⟨Hs, HX, Hw, Hc⟩ HK
  iapply (wp_rows 𝒱 c bd E B s S _ 32 0 _ X) $$ [Hs HX]
  · isplitl [Hs]; · iexact Hs
    iexact HX
  iintro ⟨Hs, HX⟩
  iapply (wp_pv 𝒱 c bd E B off inb (rowsStep S 32 0 (by decide) X) w a K) $$ [HX Hw Hc]
  · isplitl [HX]; · iexact HX
    isplitl [Hw]; · iexact Hw
    iexact Hc
  iintro ⟨HX, Hw, Hc⟩
  iapply HK
  isplitl [Hs]; · iexact Hs
  isplitl [HX]; · iexact HX
  isplitl [Hw]; · iexact Hw
  iexact Hc

attribute [irreducible] rowsStep

end Cert.Flash

end
-- ==== Proof.Flash.Point.lean ====
/-
  A WHOLE GRID POINT. The twelve buffers held at their arrays (`held`), and what each part of the grid point's program
  leaves of them; `pointSt` is the whole.
-/
module

public import proofs.«01_k».proof.Proof.Flash.Update

@[expose] public section

noncomputable section

namespace Cert.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig} {Λ : Labels} {α : Type}
variable {Ix : Type} [DecidableEq Ix] {Name : Type} [DecidableEq Name] {U : Type} [URA U] {Lvl : Type} [Preorder Lvl]

local notation "𝕄" => MT nD τ sig Ix (Elt F) Name U Lvl

/-- The arrays of the twelve buffers. -/
structure St (F : FTy → Type) where
  q : Swin.Idx → Elt F .bf16
  k : Skv.Idx → Elt F .bf16
  v : Skv.Idx → Elt F .bf16
  o : Swin.Idx → Elt F .bf16
  qs : Sq.Idx → Elt F .bf16
  va : Sva.Idx → Elt F .bf16
  s0 : Sqk.Idx → Elt F .f32
  s1 : Sqk.Idx → Elt F .f32
  p : Sqk.Idx → Elt F .bf16
  acc : Sacc.Idx → Elt F .f32
  m : Sq.Idx → Elt F .f32
  al : Sq.Idx → Elt F .f32

/-- The statistics among them. -/
abbrev St.soft (X : St F) : Soft F := ⟨X.m, X.al, X.p⟩

/-- The scores of the block at `off`, made in the first score buffer, -/
def St.score0 (X : St F) (off : Fin 2 → ℕ) (inb : ∀ a, off a + Sq.size a ≤ Skv.size a) : St F :=
  { X with s0 := dots X.qs (VecWindow.window X.k off Sq.size inb) }
/-- and in the second. -/
def St.score1 (X : St F) (off : Fin 2 → ℕ) (inb : ∀ a, off a + Sq.size a ≤ Skv.size a) : St F :=
  { X with s1 := dots X.qs (VecWindow.window X.k off Sq.size inb) }

/-- The online softmax updated by the scores `S`, whose values are those at `off`. -/
def St.upd (X : St F) (S : Sqk.Idx → Elt F .f32) (off : Fin 2 → ℕ) (inb : ∀ a, off a + Sacc.size a ≤ Sva.size a) : St F :=
  { X with
    m := (rowsStep S 32 0 (by decide) X.soft).m
    al := (rowsStep S 32 0 (by decide) X.soft).al
    p := (rowsStep S 32 0 (by decide) X.soft).p
    acc := accum (rowsStep S 32 0 (by decide) X.soft).p (VecWindow.window X.va off Sacc.size inb) (rowsStep S 32 0 (by decide) X.soft).al X.acc }

/-- The four states of one trip of the loop: the odd block's scores made, -/
abbrev St.trip1 (X : St F) (t : ℕ) (h : t < 3) : St F := X.score1 ![1024 * (2 * t + 1), 0] (blockK (by omega))
/-- the even block added, -/
abbrev St.trip2 (X : St F) (t : ℕ) (h : t < 3) : St F := (X.trip1 t h).upd (X.trip1 t h).s0 ![1024 * (2 * t), 0] (blockV (by omega))
/-- the next even block's scores made, -/
abbrev St.trip3 (X : St F) (t : ℕ) (h : t < 3) : St F := (X.trip2 t h).score0 ![1024 * (2 * t + 2), 0] (blockK (by omega))
/-- and the odd block added. -/
def St.trip (X : St F) (t : ℕ) (h : t < 3) : St F := (X.trip3 t h).upd (X.trip3 t h).s1 ![1024 * (2 * t + 1), 0] (blockV (by omega))

/-- The values beside the ones. -/
def vaOf (v : Skv.Idx → Elt F .bf16) (w : Sva.Idx → Elt F .bf16) : Sva.Idx → Elt F .bf16 :=
  VecWindow.put (VecWindow.put w ![0, 0] Skv.size (shapeCast Skv v cast_Skv : Skv.Idx → Elt F .bf16)) ![0, 128] Skv.size
    (shapeCast Skv (broadcast Skv (Scalar.ofBits .bf16 0x3F80#16 : F .bf16)) cast_Skv : Skv.Idx → Elt F .bf16)

/-- The state with the values in place. -/
def St.setVA (X : St F) : St F := { X with va := vaOf X.v X.va }

/-- One head's queries put under those before it. -/
def stackOf (g : ℕ) (h : g < 4) (q : Swin.Idx → Elt F .bf16) (w : Sq.Idx → Elt F .bf16) : Sq.Idx → Elt F .bf16 :=
  VecWindow.put w ![256 * g, 0] Shead.size (shapeCast Shead (VecWindow.window q ![0, 128 * g] Shead.size (inb2 (by decide) (by omega))) cast_Shead : Shead.Idx → Elt F .bf16)

/-- The running maximum's start and the accumulators'. -/
abbrev m0 : Sq.Idx → Elt F .f32 := shapeCast Sq (broadcast Sq (Scalar.ofBits .f32 0xF149F2CA#32 : F .f32)) cast_Sq
abbrev a0 : Sacc.Idx → Elt F .f32 := shapeCast Sacc (broadcast Sacc (Scalar.ofBits .f32 0x00000000#32 : F .f32)) cast_Sacc

/-- The state before the loop's first scores. -/
def St.stacked (X : St F) (g : ℕ) (h : g < 4) : St F := { X with qs := stackOf g h X.q X.qs }
@[inherit_doc St.stacked] def St.setM (X : St F) (z : Sq.Idx → Elt F .f32) : St F := { X with m := z }
@[inherit_doc St.stacked] def St.setAcc (X : St F) (z : Sacc.Idx → Elt F .f32) : St F := { X with acc := z }
@[inherit_doc St.stacked] abbrev St.start1 (X : St F) : St F :=
  ((((X.stacked 0 (by decide)).stacked 1 (by decide)).stacked 2 (by decide)).stacked 3 (by decide)).setM m0
@[inherit_doc St.stacked] abbrev St.start (X : St F) : St F := X.start1.setAcc a0

/-- One head's quotients put in the output window. -/
def outOf (x : FVec F Sq .f32) (g : ℕ) (h : g < 4) (hs : Sq.Slices ![256 * g, 0] Shead) (w : Swin.Idx → Elt F .bf16) : Swin.Idx → Elt F .bf16 :=
  VecWindow.put w ![0, 128 * g] Shead.size (truncf .bf16 (extractStridedSlice Shead ![256 * g, 0] x hs) (by decide) : Shead.Idx → Elt F .bf16)

/-- The quotients of the accumulators. -/
abbrev quot (a : Sacc.Idx → Elt F .f32) : FVec F Sq .f32 :=
  divf (VecWindow.window a ![0, 0] Sq.size (inb2 (by decide) (by decide)) : Sq.Idx → Elt F .f32) (VecWindow.window a ![0, 128] Sq.size (inb2 (by decide) (by decide)) : Sq.Idx → Elt F .f32)

/-- The output window's array. -/
def outs (a : Sacc.Idx → Elt F .f32) (w : Swin.Idx → Elt F .bf16) : Swin.Idx → Elt F .bf16 :=
  outOf (quot a) 3 (by decide) (by decide) <| outOf (quot a) 2 (by decide) (by decide) <|
  outOf (quot a) 1 (by decide) (by decide) <| outOf (quot a) 0 (by decide) (by decide) w

/-- The state after the loop. -/
abbrev St.first (X : St F) : St F := X.start.score0 ![0, 0] (inb2 (by decide) (by decide))
@[inherit_doc St.first] abbrev St.loop (X : St F) : St F := ((X.first.trip 0 (by decide)).trip 1 (by decide)).trip 2 (by decide)

/-- The state after all the updates. -/
abbrev St.last1 (X : St F) : St F := X.loop.score1 ![7168, 0] (inb2 (by decide) (by decide))
@[inherit_doc St.last1] abbrev St.last2 (X : St F) : St F := X.last1.upd X.last1.s0 ![6144, 0] (inb2 (by decide) (by decide))
@[inherit_doc St.last1] def St.last (X : St F) : St F := X.last2.upd X.last2.s1 ![7168, 0] (inb2 (by decide) (by decide))

/-- One head's quotients put in the output window, among the arrays. -/
def St.putOut (X : St F) (x : FVec F Sq .f32) (g : ℕ) (h : g < 4) (hs : Sq.Slices ![256 * g, 0] Shead) : St F := { X with o := outOf x g h hs X.o }

/-- What a grid point leaves, its values in place. -/
def St.point (X : St F) : St F :=
  (((X.last.putOut (quot X.last.acc) 0 (by decide) (by decide)).putOut (quot X.last.acc) 1 (by decide) (by decide)).putOut
    (quot X.last.acc) 2 (by decide) (by decide)).putOut (quot X.last.acc) 3 (by decide) (by decide)

/-- `Y` has the windows' arrays and the values of `X`. -/
def Keeps (X Y : St F) : Prop := Y.q = X.q ∧ Y.k = X.k ∧ Y.v = X.v ∧ Y.va = X.va

theorem Keeps.trans {X Y Z : St F} (h : Keeps X Y) (h' : Keeps Y Z) : Keeps X Z :=
  ⟨h'.1.trans h.1, h'.2.1.trans h.2.1, h'.2.2.1.trans h.2.2.1, h'.2.2.2.trans h.2.2.2⟩

theorem keeps_score0 (X : St F) (off inb) : Keeps X (X.score0 off inb) := ⟨rfl, rfl, rfl, rfl⟩
theorem keeps_score1 (X : St F) (off inb) : Keeps X (X.score1 off inb) := ⟨rfl, rfl, rfl, rfl⟩
theorem keeps_upd (X : St F) (S off inb) : Keeps X (X.upd S off inb) := ⟨rfl, rfl, rfl, rfl⟩
theorem keeps_stacked (X : St F) (g h) : Keeps X (X.stacked g h) := ⟨rfl, rfl, rfl, rfl⟩
theorem keeps_setM (X : St F) (z) : Keeps X (X.setM z) := ⟨rfl, rfl, rfl, rfl⟩
theorem keeps_setAcc (X : St F) (z) : Keeps X (X.setAcc z) := ⟨rfl, rfl, rfl, rfl⟩
theorem keeps_putOut (X : St F) (x g h hs) : Keeps X (X.putOut x g h hs) := ⟨rfl, rfl, rfl, rfl⟩

theorem keeps_trip (X : St F) (t h) : Keeps X (X.trip t h) := by
  unfold St.trip
  exact (((keeps_score1 _ _ _).trans (keeps_upd _ _ _ _)).trans (keeps_score0 _ _ _)).trans (keeps_upd _ _ _ _)

theorem keeps_first (X : St F) : Keeps X X.first :=
  ((((((keeps_stacked _ _ _).trans (keeps_stacked _ _ _)).trans (keeps_stacked _ _ _)).trans (keeps_stacked _ _ _)).trans
    (keeps_setM _ _)).trans (keeps_setAcc _ _)).trans (keeps_score0 _ _ _)

theorem keeps_last (X : St F) : Keeps X X.last := by
  unfold St.last
  exact ((((((keeps_first X).trans (keeps_trip _ _ _)).trans (keeps_trip _ _ _)).trans (keeps_trip _ _ _)).trans
    (keeps_score1 _ _ _)).trans (keeps_upd _ _ _ _)).trans (keeps_upd _ _ _ _)

/-- A grid point keeps them. -/
theorem keeps_point (X : St F) : Keeps X X.point := by
  unfold St.point
  exact ((((keeps_last X).trans (keeps_putOut _ _ _ _ _)).trans (keeps_putOut _ _ _ _ _)).trans (keeps_putOut _ _ _ _ _)).trans
    (keeps_putOut _ _ _ _ _)

variable [∀ e, Nonempty (Elt F e)] {defs : Defs nD τ sig (Elt F) Λ} (𝒱 : Variants) (c : Dev nD) (bd : Option 𝒱.V) (E : Set Name) (B : Bufs sig)

/-- The twelve buffers owned at their arrays. -/
def held (X : St F) : sProp 𝕄 :=
  iprop(owns (c : Thread nD τ) B.q fullShare X.q ∗ owns (c : Thread nD τ) B.k fullShare X.k ∗ owns (c : Thread nD τ) B.v fullShare X.v ∗ owns (c : Thread nD τ) B.o fullShare X.o ∗ owns (c : Thread nD τ) B.qs fullShare X.qs ∗ owns (c : Thread nD τ) B.va fullShare X.va ∗ owns (c : Thread nD τ) B.s0 fullShare X.s0 ∗ owns (c : Thread nD τ) B.s1 fullShare X.s1 ∗ owns (c : Thread nD τ) B.p fullShare X.p ∗ owns (c : Thread nD τ) B.acc fullShare X.acc ∗ owns (c : Thread nD τ) B.m fullShare X.m ∗ owns (c : Thread nD τ) B.al fullShare X.al)

theorem wp_score0 {Q : α → sProp 𝕄} (off : Fin 2 → ℕ) (inb : ∀ a, off a + Sq.size a ≤ Skv.size a) (X : St F) (K : Prog (TpuEff nD τ sig (Elt F) Λ .tc) α) :
    (held c B X : sProp 𝕄) ⊢ iprop((held c B (X.score0 off inb) -∗ wp frame (wpE defs 𝒱 c bd) E K Q)
        -∗ wp frame (wpE defs 𝒱 c bd) E (scores B B.s0 off inb K) Q) := by
  unfold held
  iintro ⟨Hq, Hk, Hv, Ho, Hqs, Hva, Hs0, Hs1, Hp, Hacc, Hm, Hal⟩ HK
  iapply (wp_scores 𝒱 c bd E B B.s0 off inb X.qs X.k X.s0 K) $$ [Hs0 Hqs Hk]
  · isplitl [Hs0]; · iexact Hs0
    isplitl [Hqs]; · iexact Hqs
    iexact Hk
  iintro ⟨Hs0, Hqs, Hk⟩
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_upd0 {Q : α → sProp 𝕄} (off : Fin 2 → ℕ) (inb : ∀ a, off a + Sacc.size a ≤ Sva.size a) (X : St F) (K : Prog (TpuEff nD τ sig (Elt F) Λ .tc) α) :
    (held c B X : sProp 𝕄) ⊢ iprop((held c B (X.upd X.s0 off inb) -∗ wp frame (wpE defs 𝒱 c bd) E K Q)
        -∗ wp frame (wpE defs 𝒱 c bd) E (update B B.s0 off inb K) Q) := by
  unfold held
  iintro ⟨Hq, Hk, Hv, Ho, Hqs, Hva, Hs0, Hs1, Hp, Hacc, Hm, Hal⟩ HK
  iapply (wp_update 𝒱 c bd E B B.s0 off inb X.s0 X.soft X.va X.acc K) $$ [Hs0 Hm Hal Hp Hva Hacc]
  · isplitl [Hs0]; · iexact Hs0
    isplitl [Hm Hal Hp]
    · unfold softAt
      isplitl [Hm]; · iexact Hm
      isplitl [Hal]; · iexact Hal
      iexact Hp
    isplitl [Hva]; · iexact Hva
    iexact Hacc
  unfold softAt; iintro ⟨Hs0, ⟨Hm, Hal, Hp⟩, Hva, Hacc⟩
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_score1 {Q : α → sProp 𝕄} (off : Fin 2 → ℕ) (inb : ∀ a, off a + Sq.size a ≤ Skv.size a) (X : St F) (K : Prog (TpuEff nD τ sig (Elt F) Λ .tc) α) :
    (held c B X : sProp 𝕄) ⊢ iprop((held c B (X.score1 off inb) -∗ wp frame (wpE defs 𝒱 c bd) E K Q)
        -∗ wp frame (wpE defs 𝒱 c bd) E (scores B B.s1 off inb K) Q) := by
  unfold held
  iintro ⟨Hq, Hk, Hv, Ho, Hqs, Hva, Hs0, Hs1, Hp, Hacc, Hm, Hal⟩ HK
  iapply (wp_scores 𝒱 c bd E B B.s1 off inb X.qs X.k X.s1 K) $$ [Hs1 Hqs Hk]
  · isplitl [Hs1]; · iexact Hs1
    isplitl [Hqs]; · iexact Hqs
    iexact Hk
  iintro ⟨Hs1, Hqs, Hk⟩
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_upd1 {Q : α → sProp 𝕄} (off : Fin 2 → ℕ) (inb : ∀ a, off a + Sacc.size a ≤ Sva.size a) (X : St F) (K : Prog (TpuEff nD τ sig (Elt F) Λ .tc) α) :
    (held c B X : sProp 𝕄) ⊢ iprop((held c B (X.upd X.s1 off inb) -∗ wp frame (wpE defs 𝒱 c bd) E K Q)
        -∗ wp frame (wpE defs 𝒱 c bd) E (update B B.s1 off inb K) Q) := by
  unfold held
  iintro ⟨Hq, Hk, Hv, Ho, Hqs, Hva, Hs0, Hs1, Hp, Hacc, Hm, Hal⟩ HK
  iapply (wp_update 𝒱 c bd E B B.s1 off inb X.s1 X.soft X.va X.acc K) $$ [Hs1 Hm Hal Hp Hva Hacc]
  · isplitl [Hs1]; · iexact Hs1
    isplitl [Hm Hal Hp]
    · unfold softAt
      isplitl [Hm]; · iexact Hm
      isplitl [Hal]; · iexact Hal
      iexact Hp
    isplitl [Hva]; · iexact Hva
    iexact Hacc
  unfold softAt; iintro ⟨Hs1, ⟨Hm, Hal, Hp⟩, Hva, Hacc⟩
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_trip {Q : α → sProp 𝕄} (t : ℕ) (h : t < 3) (X : St F) (K : Prog (TpuEff nD τ sig (Elt F) Λ .tc) α) :
    (held c B X : sProp 𝕄) ⊢ iprop((held c B (X.trip t h) -∗ wp frame (wpE defs 𝒱 c bd) E K Q)
        -∗ wp frame (wpE defs 𝒱 c bd) E (trip B t h K) Q) := by
  unfold trip
  iintro H HK
  iapply (wp_score1 𝒱 c bd E B _ _ X _) $$ H; iintro H
  iapply (wp_upd0 𝒱 c bd E B _ _ (X.trip1 t h) _) $$ H; iintro H
  iapply (wp_score0 𝒱 c bd E B _ _ (X.trip2 t h) _) $$ H; iintro H
  iapply (wp_upd1 𝒱 c bd E B _ _ (X.trip3 t h) _) $$ H; iintro H
  iapply HK
  unfold St.trip
  iexact H

theorem wp_initVA {Q : α → sProp 𝕄}  (X : St F) (K : Prog (TpuEff nD τ sig (Elt F) Λ .tc) α) :
    (held c B X : sProp 𝕄) ⊢ iprop((held c B X.setVA -∗ wp frame (wpE defs 𝒱 c bd) E K Q)
        -∗ wp frame (wpE defs 𝒱 c bd) E (initVA B K) Q) := by
  unfold held initVA
  iintro ⟨Hq, Hk, Hv, Ho, Hqs, Hva, Hs0, Hs1, Hp, Hacc, Hm, Hal⟩ HK
  iapply (wp_ld_full 𝒱 c bd E B.v) $$ Hv; iintro Hv
  iapply (wp_ld 𝒱 c bd E B.va) $$ Hva; iintro Hva
  iapply (wp_st 𝒱 c bd E B.va) $$ Hva; iintro Hva
  iapply (wp_ld 𝒱 c bd E B.va) $$ Hva; iintro Hva
  iapply (wp_st 𝒱 c bd E B.va) $$ Hva; iintro Hva
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_stack {Q : α → sProp 𝕄} (g : ℕ) (h : g < 4) (X : St F) (K : Prog (TpuEff nD τ sig (Elt F) Λ .tc) α) :
    (held c B X : sProp 𝕄) ⊢ iprop((held c B (X.stacked g h) -∗ wp frame (wpE defs 𝒱 c bd) E K Q)
        -∗ wp frame (wpE defs 𝒱 c bd) E (stack B g h K) Q) := by
  unfold held stack
  iintro ⟨Hq, Hk, Hv, Ho, Hqs, Hva, Hs0, Hs1, Hp, Hacc, Hm, Hal⟩ HK
  iapply (wp_ld 𝒱 c bd E B.q) $$ Hq; iintro Hq
  iapply (wp_ld 𝒱 c bd E B.qs) $$ Hqs; iintro Hqs
  iapply (wp_st 𝒱 c bd E B.qs) $$ Hqs; iintro Hqs
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_m0 {Q : α → sProp 𝕄}  (X : St F) (K : Prog (TpuEff nD τ sig (Elt F) Λ .tc) α) :
    (held c B X : sProp 𝕄) ⊢ iprop((held c B (X.setM m0) -∗ wp frame (wpE defs 𝒱 c bd) E K Q)
        -∗ wp frame (wpE defs 𝒱 c bd) E (ld B.m ![0, 0] Sq.size (inb2 (by decide) (by decide)) pos_Sq fun _ => st B.m ![0, 0] Sq.size (inb2 (by decide) (by decide)) (shapeCast Sq (broadcast Sq (Scalar.ofBits .f32 0xF149F2CA#32 : F .f32)) cast_Sq) (View.stores_vmem_bits_univ pos_Sq rfl) K) Q) := by
  unfold held
  iintro ⟨Hq, Hk, Hv, Ho, Hqs, Hva, Hs0, Hs1, Hp, Hacc, Hm, Hal⟩ HK
  iapply (wp_ld_full 𝒱 c bd E B.m) $$ Hm; iintro Hm
  iapply (wp_st_full 𝒱 c bd E B.m) $$ Hm; iintro Hm
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_acc_ld {Q : α → sProp 𝕄}  (X : St F) (K : Prog (TpuEff nD τ sig (Elt F) Λ .tc) α) :
    (held c B X : sProp 𝕄) ⊢ iprop((held c B X -∗ wp frame (wpE defs 𝒱 c bd) E K Q)
        -∗ wp frame (wpE defs 𝒱 c bd) E (ld B.acc ![0, 0] Sacc.size (inb2 (by decide) (by decide)) pos_Sacc fun _ => K) Q) := by
  unfold held
  iintro ⟨Hq, Hk, Hv, Ho, Hqs, Hva, Hs0, Hs1, Hp, Hacc, Hm, Hal⟩ HK
  iapply (wp_ld_full 𝒱 c bd E B.acc) $$ Hacc; iintro Hacc
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_acc_st {Q : α → sProp 𝕄} (z : FVec F Sacc .f32) (X : St F) (K : Prog (TpuEff nD τ sig (Elt F) Λ .tc) α) :
    (held c B X : sProp 𝕄) ⊢ iprop((held c B (X.setAcc z) -∗ wp frame (wpE defs 𝒱 c bd) E K Q)
        -∗ wp frame (wpE defs 𝒱 c bd) E (st B.acc ![0, 0] Sacc.size (inb2 (by decide) (by decide)) z (View.stores_vmem_bits_univ pos_Sacc rfl) K) Q) := by
  unfold held
  iintro ⟨Hq, Hk, Hv, Ho, Hqs, Hva, Hs0, Hs1, Hp, Hacc, Hm, Hal⟩ HK
  iapply (wp_st_full 𝒱 c bd E B.acc) $$ Hacc; iintro Hacc
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_out {Q : α → sProp 𝕄} (x : FVec F Sq .f32) (g : ℕ) (h : g < 4) (hs : Sq.Slices ![256 * g, 0] Shead) (X : St F) (K : Prog (TpuEff nD τ sig (Elt F) Λ .tc) α) :
    (held c B X : sProp 𝕄) ⊢ iprop((held c B (X.putOut x g h hs) -∗ wp frame (wpE defs 𝒱 c bd) E K Q)
        -∗ wp frame (wpE defs 𝒱 c bd) E (out B x g h hs K) Q) := by
  unfold held out
  iintro ⟨Hq, Hk, Hv, Ho, Hqs, Hva, Hs0, Hs1, Hp, Hacc, Hm, Hal⟩ HK
  iapply (wp_ld 𝒱 c bd E B.o) $$ Ho; iintro Ho
  iapply (wp_st 𝒱 c bd E B.o) $$ Ho; iintro Ho
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

theorem wp_quot {Q : α → sProp 𝕄}  (X : St F) (K : FVec F Sq .f32 → Prog (TpuEff nD τ sig (Elt F) Λ .tc) α) :
    (held c B X : sProp 𝕄) ⊢ iprop((held c B X -∗ wp frame (wpE defs 𝒱 c bd) E (K (quot X.acc)) Q)
        -∗ wp frame (wpE defs 𝒱 c bd) E (ld B.acc ![0, 0] Sq.size (inb2 (by decide) (by decide)) pos_Sq fun n => ld B.acc ![0, 128] Sq.size (inb2 (by decide) (by decide)) pos_Sq fun d => K (divf n d)) Q) := by
  unfold held
  iintro ⟨Hq, Hk, Hv, Ho, Hqs, Hva, Hs0, Hs1, Hp, Hacc, Hm, Hal⟩ HK
  iapply (wp_ld 𝒱 c bd E B.acc) $$ Hacc; iintro Hacc
  iapply (wp_ld 𝒱 c bd E B.acc) $$ Hacc; iintro Hacc
  iapply HK
  isplitl [Hq]; · iexact Hq
  isplitl [Hk]; · iexact Hk
  isplitl [Hv]; · iexact Hv
  isplitl [Ho]; · iexact Ho
  isplitl [Hqs]; · iexact Hqs
  isplitl [Hva]; · iexact Hva
  isplitl [Hs0]; · iexact Hs0
  isplitl [Hs1]; · iexact Hs1
  isplitl [Hp]; · iexact Hp
  isplitl [Hacc]; · iexact Hacc
  isplitl [Hm]; · iexact Hm
  iexact Hal

/-- The grid point's program, its values in place. -/
theorem wp_point (X : St F) {Q : PUnit → sProp 𝕄} :
    (held c B X : sProp 𝕄) ⊢ iprop((held c B X.point -∗ Q ⟨⟩) -∗ wp frame (wpE defs 𝒱 c bd) E (point B : Prog (TpuEff nD τ sig (Elt F) Λ .tc) PUnit) Q) := by
  unfold point start middleTo finish
  iintro H HK
  iapply (wp_stack 𝒱 c bd E B 0 _ _ _) $$ H; iintro H
  iapply (wp_stack 𝒱 c bd E B 1 _ _ _) $$ H; iintro H
  iapply (wp_stack 𝒱 c bd E B 2 _ _ _) $$ H; iintro H
  iapply (wp_stack 𝒱 c bd E B 3 _ _ _) $$ H; iintro H
  iapply (wp_m0 𝒱 c bd E B _ _) $$ H; iintro H
  iapply (wp_acc_ld 𝒱 c bd E B X.start1 _) $$ H; iintro H
  iapply (wp_acc_st 𝒱 c bd E B _ X.start1 _) $$ H; iintro H
  iapply (wp_score0 𝒱 c bd E B _ _ X.start _) $$ H; iintro H
  iapply (wp_trip 𝒱 c bd E B 0 _ X.first _) $$ H; iintro H
  iapply (wp_trip 𝒱 c bd E B 1 _ _ _) $$ H; iintro H
  iapply (wp_trip 𝒱 c bd E B 2 _ _ _) $$ H; iintro H
  iapply (wp_score1 𝒱 c bd E B _ _ _ _) $$ H; iintro H
  iapply (wp_upd0 𝒱 c bd E B _ _ _ _) $$ H; iintro H
  iapply (wp_upd1 𝒱 c bd E B _ _ _ _) $$ H; iintro H
  iapply (wp_quot 𝒱 c bd E B _ (fun x => out B x 0 _ _ <| out B x 1 _ _ <|
    out B x 2 _ _ <| out B x 3 _ _ <| Prog.ret ⟨⟩)) $$ H; iintro H
  iapply (wp_out 𝒱 c bd E B _ 0 _ _ _ _) $$ H; iintro H
  iapply (wp_out 𝒱 c bd E B _ 1 _ _ _ _) $$ H; iintro H
  iapply (wp_out 𝒱 c bd E B _ 2 _ _ _ _) $$ H; iintro H
  iapply (wp_out 𝒱 c bd E B _ 3 _ _ _ _) $$ H; iintro H
  rw [wp_ret]
  imodintro
  iapply HK
  unfold St.point St.last
  iexact H

end Cert.Flash

end
-- ==== Proof.Flash.KernelIdealBody.lean ====
/-
  THE PRINTED BODY IS THE SHORT ONE. The kernel's printed body is the program of the module `Flash.Program` on the
  grid point's buffers: the loop is its three trips in order, and both sides are then the same sequence of loads and
  stores with the same payloads.
-/
module

public import proofs.«01_k».proof.KernelIdeal
public import proofs.«01_k».proof.Proof.Flash.Program

@[expose] public section

set_option maxRecDepth 1000000
set_option maxHeartbeats 0

noncomputable section

namespace Cert.KernelIdeal.Short

open Idealize.ShloMosaic Idealize.ShloMosaic.TcCoe
open Idealize.SL Idealize.SL.Sem
open Cert.KernelIdeal.Facts₀ Cert.KernelIdeal.Facts

/-- The grid point's buffers. -/
abbrev bufs (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) : Flash.Bufs sig :=
  ⟨arg3, arg4, arg5, arg6, arg7, arg8, arg9, arg10, arg11, arg12, arg13, arg14, harg6, harg7, harg8, harg11⟩

/-- Whether this is a key head's first query tile, as the body computes it. -/
abbrev isFirst (i : grid0.Coords) : Prop :=
  Scalar.cmpi .ne (Scalar.extui (Scalar.cmpi .eq (BitVec.ofNat 32 (i 2).val) (0#32 : BitVec 32)) : BitVec 32) (0#32 : BitVec 32) = 1#1

/-- The first statements at a key head's first query tile: the values are put beside the ones. -/
theorem head_first (F : FTy → Type) [fo : FloatOps F] [fa : Facts] (i : grid0.Coords) (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) (h : isFirst i) :
    k0_part138 (F := F) i arg3 harg3 arg4 harg4 arg5 harg5 arg6 harg6 arg7 harg7 arg8 harg8 arg9 harg9 arg10 harg10 arg11 harg11 arg12 harg12 arg13 harg13 arg14 harg14 = Flash.initVA (bufs arg3 harg3 arg4 harg4 arg5 harg5 arg6 harg6 arg7 harg7 arg8 harg8 arg9 harg9 arg10 harg10 arg11 harg11 arg12 harg12 arg13 harg13 arg14 harg14) (Flash.start (bufs arg3 harg3 arg4 harg4 arg5 harg5 arg6 harg6 arg7 harg7 arg8 harg8 arg9 harg9 arg10 harg10 arg11 harg11 arg12 harg12 arg13 harg13 arg14 harg14) Prog.ret) := by
  unfold k0_part138
  simp only [dif_pos h]
  rfl

/-- And at its later ones: they are in place. -/
theorem head_later (F : FTy → Type) [fo : FloatOps F] [fa : Facts] (i : grid0.Coords) (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) (h : ¬ isFirst i) :
    k0_part138 (F := F) i arg3 harg3 arg4 harg4 arg5 harg5 arg6 harg6 arg7 harg7 arg8 harg8 arg9 harg9 arg10 harg10 arg11 harg11 arg12 harg12 arg13 harg13 arg14 harg14 = Flash.start (bufs arg3 harg3 arg4 harg4 arg5 harg5 arg6 harg6 arg7 harg7 arg8 harg8 arg9 harg9 arg10 harg10 arg11 harg11 arg12 harg12 arg13 harg13 arg14 harg14) Prog.ret := by
  unfold k0_part138
  simp only [dif_neg h]
  rfl

/-- One trip of the loop at its trip `t`, its blocks' offsets as the body computes them. -/
def tripAt (F : FTy → Type) [fo : FloatOps F] [fa : Facts] (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) (t : Fin k0_t1_loop.trips) (K : Prog (TpuEff nD τ sig (Elt F) Λ₀ .tc) PUnit) : Prog (TpuEff nD τ sig (Elt F) Λ₀ .tc) PUnit :=
  Flash.scores (bufs arg3 harg3 arg4 harg4 arg5 harg5 arg6 harg6 arg7 harg7 arg8 harg8 arg9 harg9 arg10 harg10 arg11 harg11 arg12 harg12 arg13 harg13 arg14 harg14) arg10 (k0_off1 t 1#32) (k0_off1_inb t 0) <|
  Flash.update (bufs arg3 harg3 arg4 harg4 arg5 harg5 arg6 harg6 arg7 harg7 arg8 harg8 arg9 harg9 arg10 harg10 arg11 harg11 arg12 harg12 arg13 harg13 arg14 harg14) arg9 (k0_off2 t) (k0_off2_inb t) <|
  Flash.scores (bufs arg3 harg3 arg4 harg4 arg5 harg5 arg6 harg6 arg7 harg7 arg8 harg8 arg9 harg9 arg10 harg10 arg11 harg11 arg12 harg12 arg13 harg13 arg14 harg14) arg9 (k0_off1 t 2#32) (k0_off1_inb t 1) <|
  Flash.update (bufs arg3 harg3 arg4 harg4 arg5 harg5 arg6 harg6 arg7 harg7 arg8 harg8 arg9 harg9 arg10 harg10 arg11 harg11 arg12 harg12 arg13 harg13 arg14 harg14) arg10 (k0_off3 t) (k0_off3_inb t) K

/-- What follows the loop in the same part: the scores of the last block, and the first reads of the next update. -/
def afterLoop (F : FTy → Type) [fo : FloatOps F] [fa : Facts] (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) : Prog (TpuEff nD τ sig (Elt F) Λ₀ .tc) (Σ' (_ : Vec F S32x128 .f32) (_ : Vec F S32x128 .f32) (_ : Vec F S32x128 .f32) (_ : Vec F S32x128 .f32) (_ : Vec F S32x128 .f32) (_ : Vec F S32x128 .f32), Vec F S32x128 .f32) :=
  Flash.scores (bufs arg3 harg3 arg4 harg4 arg5 harg5 arg6 harg6 arg7 harg7 arg8 harg8 arg9 harg9 arg10 harg10 arg11 harg11 arg12 harg12 arg13 harg13 arg14 harg14) arg10 ![7168, 0] (Flash.inb2 (by decide) (by decide)) <|
      Flash.ld arg9 ![0, 0] Flash.Srow.size (Flash.inb2 (by decide) (by decide)) Flash.pos_Srow fun c0 =>
      Flash.ld arg9 ![0, 128] Flash.Srow.size (Flash.inb2 (by decide) (by decide)) Flash.pos_Srow fun c1 =>
      Flash.ld arg9 ![0, 256] Flash.Srow.size (Flash.inb2 (by decide) (by decide)) Flash.pos_Srow fun c2 =>
      Flash.ld arg9 ![0, 384] Flash.Srow.size (Flash.inb2 (by decide) (by decide)) Flash.pos_Srow fun c3 =>
      Flash.ld arg9 ![0, 512] Flash.Srow.size (Flash.inb2 (by decide) (by decide)) Flash.pos_Srow fun c4 =>
      Flash.ld arg9 ![0, 640] Flash.Srow.size (Flash.inb2 (by decide) (by decide)) Flash.pos_Srow fun c5 =>
      Flash.ld arg9 ![0, 768] Flash.Srow.size (Flash.inb2 (by decide) (by decide)) Flash.pos_Srow fun c6 =>
      Prog.ret ⟨c0, c1, c2, c3, c4, c5, c6⟩

/-- The statements up to the loop, the loop and the first ones after it. -/
theorem loop_eq : (fun (F : FTy → Type) [fo : FloatOps F] [fa : Facts] (i : grid0.Coords) (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) (v26 : FVec F S1024x256 .f32) => k0_part139 (F := F) i arg3 harg3 arg4 harg4 arg5 harg5 arg6 harg6 arg7 harg7 arg8 harg8 arg9 harg9 arg10 harg10 arg11 harg11 arg12 harg12 arg13 harg13 arg14 harg14 v26)
    = (fun (F : FTy → Type) [fo : FloatOps F] [fa : Facts] (i : grid0.Coords) (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) v26 =>
      Flash.st arg12 ![0, 0] Flash.Sacc.size (Flash.inb2 (by decide) (by decide)) v26 (View.stores_vmem_bits_univ Flash.pos_Sacc rfl) <|
      Flash.scores (bufs arg3 harg3 arg4 harg4 arg5 harg5 arg6 harg6 arg7 harg7 arg8 harg8 arg9 harg9 arg10 harg10 arg11 harg11 arg12 harg12 arg13 harg13 arg14 harg14) arg9 ![0, 0] (Flash.inb2 (by decide) (by decide)) <|
      Prog.bind (Scf.for k0_t1_loop.lb k0_t1_loop.ub k0_t1_loop.st k0_t1_ok ⟨⟩ fun t _ => tripAt F arg3 harg3 arg4 harg4 arg5 harg5 arg6 harg6 arg7 harg7 arg8 harg8 arg9 harg9 arg10 harg10 arg11 harg11 arg12 harg12 arg13 harg13 arg14 harg14 t (Prog.ret ⟨⟩))
        fun _ => afterLoop F arg3 harg3 arg4 harg4 arg5 harg5 arg6 harg6 arg7 harg7 arg8 harg8 arg9 harg9 arg10 harg10 arg11 harg11 arg12 harg12 arg13 harg13 arg14 harg14) := by
  rfl

/-- The same with the loop's trips in order. -/
theorem middle_eq (F : FTy → Type) [fo : FloatOps F] [fa : Facts] (i : grid0.Coords) (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) (v26 : FVec F S1024x256 .f32) :
    k0_part139 (F := F) i arg3 harg3 arg4 harg4 arg5 harg5 arg6 harg6 arg7 harg7 arg8 harg8 arg9 harg9 arg10 harg10 arg11 harg11 arg12 harg12 arg13 harg13 arg14 harg14 v26 = Flash.middleTo (bufs arg3 harg3 arg4 harg4 arg5 harg5 arg6 harg6 arg7 harg7 arg8 harg8 arg9 harg9 arg10 harg10 arg11 harg11 arg12 harg12 arg13 harg13 arg14 harg14) v26 (afterLoop F arg3 harg3 arg4 harg4 arg5 harg5 arg6 harg6 arg7 harg7 arg8 harg8 arg9 harg9 arg10 harg10 arg11 harg11 arg12 harg12 arg13 harg13 arg14 harg14) := by
  refine (congrFun ((congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun loop_eq F) fo) fa) i) arg3) harg3) arg4) harg4) arg5) harg5) arg6) harg6) arg7) harg7) arg8) harg8) arg9) harg9) arg10) harg10) arg11) harg11) arg12) harg12) arg13) harg13) arg14) harg14)) v26).trans ?_
  rw [Scf.for_eq]
  rfl

/-- The middle part as a function of the accumulators' start. -/
theorem middle_fun (F : FTy → Type) [fo : FloatOps F] [fa : Facts] (i : grid0.Coords) (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) :
    k0_part139 (F := F) i arg3 harg3 arg4 harg4 arg5 harg5 arg6 harg6 arg7 harg7 arg8 harg8 arg9 harg9 arg10 harg10 arg11 harg11 arg12 harg12 arg13 harg13 arg14 harg14 = fun v26 => Flash.middleTo (bufs arg3 harg3 arg4 harg4 arg5 harg5 arg6 harg6 arg7 harg7 arg8 harg8 arg9 harg9 arg10 harg10 arg11 harg11 arg12 harg12 arg13 harg13 arg14 harg14) v26 (afterLoop F arg3 harg3 arg4 harg4 arg5 harg5 arg6 harg6 arg7 harg7 arg8 harg8 arg9 harg9 arg10 harg10 arg11 harg11 arg12 harg12 arg13 harg13 arg14 harg14) :=
  funext fun v26 => middle_eq F i arg3 harg3 arg4 harg4 arg5 harg5 arg6 harg6 arg7 harg7 arg8 harg8 arg9 harg9 arg10 harg10 arg11 harg11 arg12 harg12 arg13 harg13 arg14 harg14 v26

/-- The whole body at a key head's first query tile. -/
theorem body_first (F : FTy → Type) [fo : FloatOps F] [fa : Facts] (i : grid0.Coords) (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) (h : isFirst i) :
    cc0_flash_attn (F := F) i arg3 harg3 arg4 harg4 arg5 harg5 arg6 harg6 arg7 harg7 arg8 harg8 arg9 harg9 arg10 harg10 arg11 harg11 arg12 harg12 arg13 harg13 arg14 harg14 = Flash.initVA (bufs arg3 harg3 arg4 harg4 arg5 harg5 arg6 harg6 arg7 harg7 arg8 harg8 arg9 harg9 arg10 harg10 arg11 harg11 arg12 harg12 arg13 harg13 arg14 harg14) (Flash.point (bufs arg3 harg3 arg4 harg4 arg5 harg5 arg6 harg6 arg7 harg7 arg8 harg8 arg9 harg9 arg10 harg10 arg11 harg11 arg12 harg12 arg13 harg13 arg14 harg14)) := by
  unfold cc0_flash_attn k0_part274
  rw [head_first F i arg3 harg3 arg4 harg4 arg5 harg5 arg6 harg6 arg7 harg7 arg8 harg8 arg9 harg9 arg10 harg10 arg11 harg11 arg12 harg12 arg13 harg13 arg14 harg14 h, middle_fun]
  clear h
  revert harg14; refine @Flash.all_of_eq _ _ _ _ ?_
  revert arg14; refine @Flash.all_of_eq _ _ _ _ ?_
  revert harg13; refine @Flash.all_of_eq _ _ _ _ ?_
  revert arg13; refine @Flash.all_of_eq _ _ _ _ ?_
  revert harg12; refine @Flash.all_of_eq _ _ _ _ ?_
  revert arg12; refine @Flash.all_of_eq _ _ _ _ ?_
  revert harg11; refine @Flash.all_of_eq _ _ _ _ ?_
  revert arg11; refine @Flash.all_of_eq _ _ _ _ ?_
  revert harg10; refine @Flash.all_of_eq _ _ _ _ ?_
  revert arg10; refine @Flash.all_of_eq _ _ _ _ ?_
  revert harg9; refine @Flash.all_of_eq _ _ _ _ ?_
  revert arg9; refine @Flash.all_of_eq _ _ _ _ ?_
  revert harg8; refine @Flash.all_of_eq _ _ _ _ ?_
  revert arg8; refine @Flash.all_of_eq _ _ _ _ ?_
  revert harg7; refine @Flash.all_of_eq _ _ _ _ ?_
  revert arg7; refine @Flash.all_of_eq _ _ _ _ ?_
  revert harg6; refine @Flash.all_of_eq _ _ _ _ ?_
  revert arg6; refine @Flash.all_of_eq _ _ _ _ ?_
  revert harg5; refine @Flash.all_of_eq _ _ _ _ ?_
  revert arg5; refine @Flash.all_of_eq _ _ _ _ ?_
  revert harg4; refine @Flash.all_of_eq _ _ _ _ ?_
  revert arg4; refine @Flash.all_of_eq _ _ _ _ ?_
  revert harg3; refine @Flash.all_of_eq _ _ _ _ ?_
  revert arg3; refine @Flash.all_of_eq _ _ _ _ ?_
  revert i; refine @Flash.all_of_eq _ _ _ _ ?_
  revert fa; refine @Flash.all_of_eq _ _ _ _ ?_
  revert fo; refine @Flash.all_of_eq _ _ _ _ ?_
  revert F; refine @Flash.all_of_eq _ _ _ _ ?_
  rfl

/-- And at its later ones. -/
theorem body_later (F : FTy → Type) [fo : FloatOps F] [fa : Facts] (i : grid0.Coords) (arg3 : Memref sig .tc .vmem S256x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .bf16) (harg6 : arg6.IsWhole) (arg7 : Memref sig .tc .vmem S1024x128 .bf16) (harg7 : arg7.IsWhole) (arg8 : Memref sig .tc .vmem S8192x256 .bf16) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x256 .f32) (harg12 : arg12.IsWhole) (arg13 : Memref sig .tc .vmem S1024x128 .f32) (harg13 : arg13.IsWhole) (arg14 : Memref sig .tc .vmem S1024x128 .f32) (harg14 : arg14.IsWhole) (h : ¬ isFirst i) :
    cc0_flash_attn (F := F) i arg3 harg3 arg4 harg4 arg5 harg5 arg6 harg6 arg7 harg7 arg8 harg8 arg9 harg9 arg10 harg10 arg11 harg11 arg12 harg12 arg13 harg13 arg14 harg14 = Flash.point (bufs arg3 harg3 arg4 harg4 arg5 harg5 arg6 harg6 arg7 harg7 arg8 harg8 arg9 harg9 arg10 harg10 arg11 harg11 arg12 harg12 arg13 harg13 arg14 harg14) := by
  unfold cc0_flash_attn k0_part274
  rw [head_later F i arg3 harg3 arg4 harg4 arg5 harg5 arg6 harg6 arg7 harg7 arg8 harg8 arg9 harg9 arg10 harg10 arg11 harg11 arg12 harg12 arg13 harg13 arg14 harg14 h, middle_fun]
  clear h
  revert harg14; refine @Flash.all_of_eq _ _ _ _ ?_
  revert arg14; refine @Flash.all_of_eq _ _ _ _ ?_
  revert harg13; refine @Flash.all_of_eq _ _ _ _ ?_
  revert arg13; refine @Flash.all_of_eq _ _ _ _ ?_
  revert harg12; refine @Flash.all_of_eq _ _ _ _ ?_
  revert arg12; refine @Flash.all_of_eq _ _ _ _ ?_
  revert harg11; refine @Flash.all_of_eq _ _ _ _ ?_
  revert arg11; refine @Flash.all_of_eq _ _ _ _ ?_
  revert harg10; refine @Flash.all_of_eq _ _ _ _ ?_
  revert arg10; refine @Flash.all_of_eq _ _ _ _ ?_
  revert harg9; refine @Flash.all_of_eq _ _ _ _ ?_
  revert arg9; refine @Flash.all_of_eq _ _ _ _ ?_
  revert harg8; refine @Flash.all_of_eq _ _ _ _ ?_
  revert arg8; refine @Flash.all_of_eq _ _ _ _ ?_
  revert harg7; refine @Flash.all_of_eq _ _ _ _ ?_
  revert arg7; refine @Flash.all_of_eq _ _ _ _ ?_
  revert harg6; refine @Flash.all_of_eq _ _ _ _ ?_
  revert arg6; refine @Flash.all_of_eq _ _ _ _ ?_
  revert harg5; refine @Flash.all_of_eq _ _ _ _ ?_
  revert arg5; refine @Flash.all_of_eq _ _ _ _ ?_
  revert harg4; refine @Flash.all_of_eq _ _ _ _ ?_
  revert arg4; refine @Flash.all_of_eq _ _ _ _ ?_
  revert harg3; refine @Flash.all_of_eq _ _ _ _ ?_
  revert arg3; refine @Flash.all_of_eq _ _ _ _ ?_
  revert i; refine @Flash.all_of_eq _ _ _ _ ?_
  revert fa; refine @Flash.all_of_eq _ _ _ _ ?_
  revert fo; refine @Flash.all_of_eq _ _ _ _ ?_
  revert F; refine @Flash.all_of_eq _ _ _ _ ?_
  rfl

end Cert.KernelIdeal.Short

end
-- ==== Proof.Flash.KernelIdealStep.lean ====
/-
  KernelIdeal: ONE POINT OF THE GRID. The body at a point, from the four windows' buffers and the eight scratch arrays held
  at any arrays, leaves them at the arrays of `Flash.St.point`, the values put beside the ones before it at a key
  head's first query tile.
-/
module

public import proofs.«01_k».proof.Proof.Flash.KernelIdealBody
public import proofs.«01_k».proof.Proof.Flash.Point
public import proofs.«01_k».proof.Proof.Gen.KernelIdeal.Frame
public import proofs.«01_k».proof.Proof.Gen.KernelIdeal

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev 𝒱₀ : Variants := Variants.none

/-- The grid point's buffers at point `t`. -/
abbrev bufsAt (t : Fin cfg0.N) : Flash.Bufs sig :=
  ⟨st0_0 t, st0_1 t, st0_2 t, st0_3 t, Memref.whole cc0_scratch0, Memref.whole cc0_scratch1, Memref.whole cc0_scratch2,
    Memref.whole cc0_scratch3, Memref.whole cc0_scratch4, Memref.whole cc0_scratch5, Memref.whole cc0_scratch6, Memref.whole cc0_scratch7,
    hstage0_3 ((cfg0.slots t 3).cast nbuf0_3), Memref.isWhole_whole _, Memref.isWhole_whole _, Memref.isWhole_whole _⟩

/-- Whether point `t` is a key head's first query tile. -/
abbrev isFirst (t : Fin cfg0.N) : Prop := Short.isFirst (grid0.coords t)

/-- It is at the points that are multiples of 32. -/
theorem isFirst_iff : ∀ t : Fin cfg0.N, isFirst t ↔ t.val % 32 = 0 :=
  (by decide +kernel : ∀ t : Fin grid0.N, isFirst t ↔ t.val % 32 = 0)

/-- What the body at point `t` makes of the arrays. -/
def stepSt (t : Fin cfg0.N) (X : Flash.St F) : Flash.St F := if t.val % 32 = 0 then X.setVA.point else X.point

variable (c : Dev nD)

/-- The body at point `t`. -/
theorem wp_at (t : Fin cfg0.N) (X : Flash.St F) {Q : PUnit → sProp 𝕄} :
    (Flash.held c (bufsAt t) X : sProp 𝕄) ⊢ iprop((Flash.held c (bufsAt t) (stepSt t X) -∗ Q ⟨⟩)
      -∗ wp frame (wpE (defs₀ (F := F)) 𝒱₀ c none) Set.univ (bodyAt0 t) Q) := by
  unfold stepSt
  by_cases h : t.val % 32 = 0
  · rw [if_pos h]
    unfold bodyAt0
    rw [Short.body_first F (grid0.coords t) _ _ _ _ _ _ _ _ _ _ _ _ _ _ _ _ _ _ _ _ _ _ _ _ ((isFirst_iff t).2 h)]
    iintro H HK
    iapply (Flash.wp_initVA 𝒱₀ c none Set.univ (bufsAt t) X _) $$ H; iintro H
    iapply (Flash.wp_point 𝒱₀ c none Set.univ (bufsAt t) X.setVA) $$ H; iintro H
    iapply HK
    iexact H
  · rw [if_neg h]
    unfold bodyAt0
    rw [Short.body_later F (grid0.coords t) _ _ _ _ _ _ _ _ _ _ _ _ _ _ _ _ _ _ _ _ _ _ _ _ (fun h' => h ((isFirst_iff t).1 h'))]
    iintro H HK
    iapply (Flash.wp_point 𝒱₀ c none Set.univ (bufsAt t) X) $$ H; iintro H
    iapply HK
    iexact H

/-- The scratch arrays owned at those of `X`. -/
def scratch (X : Flash.St F) : sProp 𝕄 :=
  iprop(owns (c : Thread nD τ) (Memref.whole cc0_scratch0) fullShare X.qs ∗ owns (c : Thread nD τ) (Memref.whole cc0_scratch1) fullShare X.va
    ∗ owns (c : Thread nD τ) (Memref.whole cc0_scratch2) fullShare X.s0 ∗ owns (c : Thread nD τ) (Memref.whole cc0_scratch3) fullShare X.s1
    ∗ owns (c : Thread nD τ) (Memref.whole cc0_scratch4) fullShare X.p ∗ owns (c : Thread nD τ) (Memref.whole cc0_scratch5) fullShare X.acc
    ∗ owns (c : Thread nD τ) (Memref.whole cc0_scratch6) fullShare X.m ∗ owns (c : Thread nD τ) (Memref.whole cc0_scratch7) fullShare X.al)

/-- The class invariant is the scratch arrays at some arrays, whatever those of the windows are called. -/
theorem scratch_of (q k v o) :
    (Pipeline.ΦA spec0 c : sProp 𝕄) ⊢ iprop((∃ X : Flash.St F, ⌜X.q = q ∧ X.k = k ∧ X.v = v ∧ X.o = o⌝ ∗ scratch c X) ∗ ∃ r, prngReg c r) := by
  unfold Pipeline.ΦA
  rw [scopedRest0_eq]
  iintro ⟨⟨⟨%a, Ha⟩, ⟨%b, Hb⟩, ⟨%e, He⟩, ⟨%f, Hf⟩, ⟨%g, Hg⟩, ⟨%h, Hh⟩, ⟨%i, Hi⟩, ⟨%j, Hj⟩⟩, Hr⟩
  isplitr [Hr]
  · iexists (⟨q, k, v, o, a, b, e, f, g, h, i, j⟩ : Flash.St F)
    unfold scratch
    rw [owns_whole, owns_whole, owns_whole, owns_whole, owns_whole, owns_whole, owns_whole, owns_whole]
    isplitr
    · ipureintro; exact ⟨rfl, rfl, rfl, rfl⟩
    isplitl [Ha]; · iexact Ha
    isplitl [Hb]; · iexact Hb
    isplitl [He]; · iexact He
    isplitl [Hf]; · iexact Hf
    isplitl [Hg]; · iexact Hg
    isplitl [Hh]; · iexact Hh
    isplitl [Hi]; · iexact Hi
    iexact Hj
  · iexact Hr

/-- And back. -/
theorem of_scratch (X : Flash.St F) : (iprop(scratch c X ∗ ∃ r, prngReg c r) : sProp 𝕄) ⊢ Pipeline.ΦA spec0 c := by
  unfold Pipeline.ΦA scratch
  rw [scopedRest0_eq, owns_whole, owns_whole, owns_whole, owns_whole, owns_whole, owns_whole, owns_whole, owns_whole]
  iintro ⟨⟨Ha, Hb, He, Hf, Hg, Hh, Hi, Hj⟩, Hr⟩
  isplitr [Hr]
  · isplitl [Ha]; · iexists _; iexact Ha
    isplitl [Hb]; · iexists _; iexact Hb
    isplitl [He]; · iexists _; iexact He
    isplitl [Hf]; · iexists _; iexact Hf
    isplitl [Hg]; · iexists _; iexact Hg
    isplitl [Hh]; · iexists _; iexact Hh
    isplitl [Hi]; · iexists _; iexact Hi
    iexists _; iexact Hj
  · iexact Hr

end Cert.KernelIdeal.Run

end
-- ==== Proof.Flash.KernelIdealFrame.lean ====
/-
  THE IDEAL KERNEL’S FRAME. Every point's body runs to its end from any scratch arrays, whatever it leaves in the output
  window; so the whole grid does, and the argument arrays end as they began.
-/
module

public import proofs.«01_k».proof.Proof.Flash.KernelIdealStep

@[expose] public section

set_option maxRecDepth 16384

noncomputable section

namespace Cert.KernelIdeal.RunAny

open Cert.KernelIdeal Cert.KernelIdeal.Gen Cert.KernelIdeal.Run
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output window is left at is not followed. -/
abbrev fgt : Fin cfg0.W → Bool := fun w => w == 3

/-- The proof data: the inputs' blocks stay in place, the scratch arrays hold anything. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Dat.unnamed 3 t
    | ⟨_ + 4, h⟩ => absurd h (Nat.not_lt.2 (Nat.le_add_left _ _))
  Φ _ := Pipeline.ΦA spec0 c
  q w := Pipeline.shareOf spec0 w
  owed _ := 0

/-- The windows' arrays are left alone by a point. -/
theorem step_windows (t : Fin cfg0.N) (X : Flash.St F) : (stepSt t X).q = X.q ∧ (stepSt t X).k = X.k ∧ (stepSt t X).v = X.v := by
  unfold stepSt
  split
  · exact ⟨(Flash.keeps_point X.setVA).1, (Flash.keeps_point X.setVA).2.1, (Flash.keeps_point X.setVA).2.2.1⟩
  · exact ⟨(Flash.keeps_point X).1, (Flash.keeps_point X).2.1, (Flash.keeps_point X).2.2.1⟩

theorem body (c : Dev nD) : BodyObligationLoose (dats (F := F) m 0 c) defs₀ 𝒱₀ () Set.univ fgt := by
  intro t
  rw [bigSep_W0, bigSep_W0]
  show (iprop(Pipeline.ΦA spec0 c ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ x, owns (c : Thread nD τ) (st0_3 t) fullShare x)) : sProp 𝕄)
    ⊢ wp frame (wpE defs₀ 𝒱₀ c none) Set.univ (bodyAt0 t) fun _ => iprop(Pipeline.ΦA spec0 c ∗ (dats m 0 c).owesAt () t.succ
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ (∃ x, owns (c : Thread nD τ) (st0_3 t) fullShare x))
  iintro ⟨HS, HO, ⟨%d0, H0⟩, ⟨%d1, H1⟩, ⟨%d2, H2⟩, ⟨%x3, H3⟩⟩
  rw [before0_0_of m (dats m 0 c) rfl (fun _ => rfl) t d0, before0_1_of m (dats m 0 c) rfl (fun _ => rfl) t d1,
    before0_2_of m (dats m 0 c) rfl (fun _ => rfl) t d2]
  ihave HS := (scratch_of c (iblk m c 0 t) (iblk m c 1 t) (iblk m c 2 t) x3) $$ HS
  icases HS with ⟨⟨%X, %hX, HX⟩, Hr⟩
  obtain ⟨hq, hk, hv, ho⟩ := hX
  rw [← hq, ← hk, ← hv, ← ho]
  unfold scratch
  icases HX with ⟨Ha, Hb, He, Hf, Hg, Hh, Hi, Hj⟩
  iapply (wp_at c t X) $$ [H0 H1 H2 H3 Ha Hb He Hf Hg Hh Hi Hj]
  · unfold Flash.held
    isplitl [H0]; · iexact H0
    isplitl [H1]; · iexact H1
    isplitl [H2]; · iexact H2
    isplitl [H3]; · iexact H3
    isplitl [Ha]; · iexact Ha
    isplitl [Hb]; · iexact Hb
    isplitl [He]; · iexact He
    isplitl [Hf]; · iexact Hf
    isplitl [Hg]; · iexact Hg
    isplitl [Hh]; · iexact Hh
    isplitl [Hi]; · iexact Hi
    iexact Hj
  unfold Flash.held
  rw [(step_windows t X).1, (step_windows t X).2.1, (step_windows t X).2.2]
  iintro ⟨H0, H1, H2, H3, Ha, Hb, He, Hf, Hg, Hh, Hi, Hj⟩
  isplitl [Ha Hb He Hf Hg Hh Hi Hj Hr]
  · iapply (of_scratch c (stepSt t X))
    isplitr [Hr]
    · unfold scratch
      isplitl [Ha]; · iexact Ha
      isplitl [Hb]; · iexact Hb
      isplitl [He]; · iexact He
      isplitl [Hf]; · iexact Hf
      isplitl [Hg]; · iexact Hg
      isplitl [Hh]; · iexact Hh
      isplitl [Hi]; · iexact Hi
      iexact Hj
    · iexact Hr
  isplitl [HO]; · iexact HO
  isplitl [H0]; · iexact H0
  isplitl [H1]; · iexact H1
  isplitl [H2]; · iexact H2
  iexists _; iexact H3

/-- The frame, quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget_shared cfgs (dats m) 0 launch₀0 defs₀ 𝒱₀ fgt m ρ main (body m) (fun _ _ _ => rfl) (fun _ _ => rfl)
    (V m) (hmain m 𝒱₀) (fun _ _ => rfl) (fun _ _ => rfl) _
    (fun r h => ⟨fun c => ⟨(h.1.arr_in c 1 rfl).trans (V_main_arg0 m c), (h.1.arr_in c 2 rfl).trans (V_main_arg1 m c)⟩, h.2⟩)

end Cert.KernelIdeal.RunAny

end
-- ==== Proof.Flash.Online.lean ====
/-
  THE ONLINE SOFTMAX, as plain mathematics of the extended reals. Scores `S` are real, values `v` any extended reals;
  `part S v n M` is the sum of the first `n` values, each weighed by two to its score less `M`. Going on to more values
  and to another `M` rescales by a power of two (`part_add`), and the quotient of two such sums is the mean of the values
  under the weights `2 ^ S j / ∑ 2 ^ S i`, whatever `M` is (`div_part`). The softmax by the exponential, of the scores times
  the logarithm of two, has the same weights (`soft_weight`).
-/
module

public import Idealize.ShloMosaic.PureOps.Ideal
public import Mathlib.Analysis.SpecialFunctions.Pow.Real

@[expose] public section

noncomputable section

namespace Cert.Flash

open Idealize.ShloMosaic Finset

/-- A sum of extended reals times a nonnegative real, term by term. -/
theorem sum_mul_real (n : ℕ) (f : ℕ → EReal) {c : ℝ} (hc : 0 ≤ c) :
    (∑ j ∈ range n, f j) * (c : EReal) = ∑ j ∈ range n, f j * (c : EReal) := by
  induction n with
  | zero => simp
  | succ n ih =>
    rw [sum_range_succ, sum_range_succ, EReal.right_distrib_of_nonneg_of_ne_top (EReal.coe_nonneg.2 hc) (EReal.coe_ne_top c), ih]

/-- A finite sum of reals among the extended reals. -/
theorem coe_sum_range (n : ℕ) (f : ℕ → ℝ) : ((∑ j ∈ range n, f j : ℝ) : EReal) = ∑ j ∈ range n, (f j : EReal) := by
  induction n with
  | zero => simp
  | succ n ih => rw [sum_range_succ, sum_range_succ, EReal.coe_add, ih]

/-- The weighed sum of the first `n` values. -/
def part (S : ℕ → ℝ) (v : ℕ → EReal) (n : ℕ) (M : ℝ) : EReal :=
  ∑ j ∈ range n, ((2 : ℝ) ^ (S j - M) : ℝ) * v j

theorem part_zero (S : ℕ → ℝ) (v : ℕ → EReal) (M : ℝ) : part S v 0 M = 0 := by simp [part]

/-- `k` more values, and another reference point. -/
theorem part_add (S : ℕ → ℝ) (v : ℕ → EReal) (n k : ℕ) (M M' : ℝ) :
    part S v n M * ((2 : ℝ) ^ (M - M') : ℝ) + ∑ j : Fin k, ((2 : ℝ) ^ (S (n + j) - M') : ℝ) * v (n + j) = part S v (n + k) M' := by
  unfold part
  rw [sum_range_add_eq, sum_mul_real _ _ (Real.rpow_nonneg (by norm_num) _), Finset.sum_range (n := k)]
  refine congrArg₂ _ (sum_congr rfl fun j _ => ?_) rfl
  rw [mul_right_comm, ← EReal.coe_mul, ← Real.rpow_add (by norm_num)]
  congr 3; ring
where
  sum_range_add_eq {f : ℕ → EReal} {n k : ℕ} : ∑ j ∈ range (n + k), f j = ∑ j ∈ range n, f j + ∑ j ∈ range k, f (n + j) :=
    sum_range_add f n k

/-- The sum of the weights. -/
def total (S : ℕ → ℝ) (n : ℕ) : ℝ := ∑ i ∈ range n, (2 : ℝ) ^ S i

theorem total_pos (S : ℕ → ℝ) {n : ℕ} (hn : 0 < n) : 0 < total S n :=
  sum_pos (fun _ _ => Real.rpow_pos_of_pos (by norm_num) _) ⟨0, mem_range.2 hn⟩

/-- The mean of the first `n` values under the weights `2 ^ S j`. -/
def mean (S : ℕ → ℝ) (v : ℕ → EReal) (n : ℕ) : EReal := ∑ j ∈ range n, (((2 : ℝ) ^ S j / total S n : ℝ) : EReal) * v j

theorem part_one (S : ℕ → ℝ) (n : ℕ) (M : ℝ) : part S (fun _ => 1) n M = ((total S n * (2 : ℝ) ^ (-M) : ℝ) : EReal) := by
  unfold part total
  rw [sum_mul, coe_sum_range]
  refine sum_congr rfl fun j _ => ?_
  rw [mul_one, ← Real.rpow_add (by norm_num), sub_eq_add_neg]

/-- The quotient of a weighed sum by the sum of its weights. -/
theorem div_part (S : ℕ → ℝ) (v : ℕ → EReal) {n : ℕ} (hn : 0 < n) (M : ℝ) :
    Ideal.div (part S v n M) (part S (fun _ => 1) n M) = mean S v n := by
  have hT := total_pos S hn
  have hM : (0 : ℝ) < (2 : ℝ) ^ (-M) := Real.rpow_pos_of_pos (by norm_num) _
  rw [part_one, Ideal.div_coe (mul_pos hT hM).ne']
  unfold part mean
  rw [sum_mul_real _ _ (by positivity)]
  refine sum_congr rfl fun j _ => ?_
  rw [mul_right_comm, ← EReal.coe_mul, sub_eq_add_neg, Real.rpow_add (by norm_num)]
  congr 2
  field_simp

/-- The exponential of a score times the logarithm of two, less anything. -/
theorem exp_score (s M : ℝ) : Real.exp (s * Real.log 2 - M) = (2 : ℝ) ^ s * Real.exp (-M) := by
  rw [sub_eq_add_neg, Real.exp_add, Real.rpow_def_of_pos (by norm_num), mul_comm s]

/-- The weight that the softmax by the exponential gives a score. -/
theorem soft_weight (S : ℕ → ℝ) {n : ℕ} (hn : 0 < n) (M : ℝ) (j : ℕ) :
    Ideal.div (Real.exp (S j * Real.log 2 - M) : ℝ) ((∑ i ∈ range n, Real.exp (S i * Real.log 2 - M) : ℝ) : EReal)
      = (((2 : ℝ) ^ S j / total S n : ℝ) : EReal) := by
  have hT := total_pos S hn
  have hM : (0 : ℝ) < Real.exp (-M) := Real.exp_pos _
  have h : ∑ i ∈ range n, Real.exp (S i * Real.log 2 - M) = total S n * Real.exp (-M) := by
    unfold total
    rw [sum_mul]
    exact sum_congr rfl fun i _ => exp_score _ _
  rw [h, exp_score, Ideal.div_coe (mul_pos hT hM).ne', ← EReal.coe_mul]
  congr 1
  field_simp

end Cert.Flash

end
-- ==== Proof.Flash.Attention.lean ====
/-
  THE ATTENTION, as a function of the two arrays of queries, keys and values. Token `T`'s query of head `h` is 128 columns
  of the first array, the keys are those of the token's sequence under the head's key head, and the values are columns of
  the second array. The scores are sums of products (`score`); a column of the result is the mean of the values under the
  weights two to the scores (`attn`).
-/
module

public import proofs.«01_k».proof.Proof.Flash.Online
public import Idealize.ShloMosaic.Lib.Pointwise

@[expose] public section

noncomputable section

namespace Cert.Flash

open Idealize.ShloMosaic

/-- The shapes of the two arrays and of the result. -/
abbrev Sqkv : Shape := ⟨2, ![40960, 2560]⟩
abbrev Sproj : Shape := ⟨2, ![40960, 5120]⟩
abbrev Sres : Shape := ⟨2, ![40960, 2048]⟩

/-- The score of query token `T` and key `j` of its sequence, of head `h`. -/
def score (Q : Sqkv.Idx → EReal) (T : Fin 40960) (h : Fin 16) (j : ℕ) : EReal :=
  ∑ d : Fin 128, Q (ix2 T ⟨128 * h + d, by omega⟩) * Q (ix2 ⟨T.val / 8192 * 8192 + j % 8192, by omega⟩ ⟨2048 + 128 * (h.val / 4) + d, by omega⟩)

/-- The value column `d` of key `j`, of head `h`. -/
def value (P : Sproj.Idx → EReal) (T : Fin 40960) (h : Fin 16) (d : Fin 128) (j : ℕ) : EReal :=
  P (ix2 ⟨T.val / 8192 * 8192 + j % 8192, by omega⟩ ⟨4608 + 128 * (h.val / 4) + d, by omega⟩)

/-- The attention of one token, head and column, -/
def attnAt (Q : Sqkv.Idx → EReal) (P : Sproj.Idx → EReal) (T : Fin 40960) (h : Fin 16) (d : Fin 128) : EReal :=
  mean (fun j => (score Q T h j).toReal) (value P T h d) 8192

/-- and of all. -/
def attn (Q : Sqkv.Idx → EReal) (P : Sproj.Idx → EReal) (x : Sres.Idx) : EReal :=
  attnAt Q P (x 0) ⟨(x 1).val / 128, Nat.div_lt_of_lt_mul (x 1).isLt⟩ ⟨(x 1).val % 128, Nat.mod_lt _ (by decide)⟩

/-- A finite sum of reals is one. -/
theorem sum_real {ι : Type} [Fintype ι] (f : ι → EReal) (h : ∀ i, ∃ r : ℝ, f i = (r : EReal)) : ∃ r : ℝ, ∑ i, f i = (r : EReal) := by
  choose g hg using h
  refine ⟨∑ i, g i, ?_⟩
  rw [Finset.sum_congr rfl fun i _ => hg i]
  exact (map_sum (⟨⟨fun r : ℝ => (r : EReal), EReal.coe_zero⟩, EReal.coe_add⟩ : ℝ →+ EReal) g Finset.univ).symm

/-- The scores of finite queries and keys are reals. -/
theorem score_real (Q : Sqkv.Idx → EReal) (hQ : ∀ x, ∃ r : ℝ, Q x = (r : EReal)) (T : Fin 40960) (h : Fin 16) (j : ℕ) :
    score Q T h j = (((score Q T h j).toReal : ℝ) : EReal) := by
  obtain ⟨r, hr⟩ := sum_real _ fun d : Fin 128 => show ∃ r : ℝ, Q (ix2 T ⟨128 * h + d, by omega⟩)
      * Q (ix2 ⟨T.val / 8192 * 8192 + j % 8192, by omega⟩ ⟨2048 + 128 * (h.val / 4) + d, by omega⟩) = (r : EReal) by
    obtain ⟨a, ha⟩ := hQ (ix2 T ⟨128 * h + d, by omega⟩)
    obtain ⟨b, hb⟩ := hQ (ix2 ⟨T.val / 8192 * 8192 + j % 8192, by omega⟩ ⟨2048 + 128 * (h.val / 4) + d, by omega⟩)
    exact ⟨a * b, by rw [ha, hb, EReal.coe_mul]⟩
  unfold score
  rw [hr, EReal.toReal_coe]

end Cert.Flash

end
-- ==== Proof.Flash.Blocks.lean ====
/-
  THE WINDOWS' BLOCKS. Point `t` is sequence `t / 128`, key head `t / 32 % 4` and query tile `t % 32`; each window's block at
  it, as elements of the array.
-/
module

public import proofs.«01_k».proof.Proof.Flash.KernelIdealStep
public import proofs.«01_k».proof.Proof.Flash.Attention

@[expose] public section

set_option maxRecDepth 16384

noncomputable section

namespace Cert.KernelIdeal.Run

open Cert.KernelIdeal Cert.KernelIdeal.Gen
open Idealize.ShloMosaic Idealize.ShloMosaic.TcCoe

theorem index0 : ∀ t : Fin cfg0.N, (cfg0.win 0).index t 0 = t.val / 128 * 32 + t.val % 32 ∧ (cfg0.win 0).index t 1 = t.val / 32 % 4 :=
  (by decide +kernel : ∀ t : Fin grid0.N, win0_0.index t 0 = t.val / 128 * 32 + t.val % 32 ∧ win0_0.index t 1 = t.val / 32 % 4)
theorem index1 : ∀ t : Fin cfg0.N, (cfg0.win 1).index t 0 = t.val / 128 ∧ (cfg0.win 1).index t 1 = 16 + t.val / 32 % 4 :=
  (by decide +kernel : ∀ t : Fin grid0.N, win0_1.index t 0 = t.val / 128 ∧ win0_1.index t 1 = 16 + t.val / 32 % 4)
theorem index2 : ∀ t : Fin cfg0.N, (cfg0.win 2).index t 0 = t.val / 128 ∧ (cfg0.win 2).index t 1 = 36 + t.val / 32 % 4 :=
  (by decide +kernel : ∀ t : Fin grid0.N, win0_2.index t 0 = t.val / 128 ∧ win0_2.index t 1 = 36 + t.val / 32 % 4)
theorem index3 : ∀ t : Fin cfg0.N, (cfg0.win 3).index t 0 = t.val / 128 * 32 + t.val % 32 ∧ (cfg0.win 3).index t 1 = t.val / 32 % 4 :=
  (by decide +kernel : ∀ t : Fin grid0.N, win0_3.index t 0 = t.val / 128 * 32 + t.val % 32 ∧ win0_3.index t 1 = t.val / 32 % 4)

theorem lt640 (t : Fin cfg0.N) : t.val < 640 := t.isLt

theorem emb0 (t : Fin cfg0.N) (i : Fin 256) (j : Fin 512) : (((cfg0.win 0).blk t).view.emb (ix2 i j) : Flash.Sqkv.Idx)
    = ix2 ⟨(t.val / 128 * 32 + t.val % 32) * 256 + i, by have := lt640 t; omega⟩ ⟨t.val / 32 % 4 * 512 + j, by omega⟩ := by
  refine funext fun a => Fin.ext ?_
  match a with
  | ⟨0, _⟩ => exact ((cfg0.win 0).rect_emb_val t (ix2 i j) 0).trans (by rw [(index0 t).1]; rfl)
  | ⟨1, _⟩ => exact ((cfg0.win 0).rect_emb_val t (ix2 i j) 1).trans (by rw [(index0 t).2]; rfl)

theorem emb1 (t : Fin cfg0.N) (i : Fin 8192) (j : Fin 128) : (((cfg0.win 1).blk t).view.emb (ix2 i j) : Flash.Sqkv.Idx)
    = ix2 ⟨t.val / 128 * 8192 + i, by have := lt640 t; omega⟩ ⟨(16 + t.val / 32 % 4) * 128 + j, by omega⟩ := by
  refine funext fun a => Fin.ext ?_
  match a with
  | ⟨0, _⟩ => exact ((cfg0.win 1).rect_emb_val t (ix2 i j) 0).trans (by rw [(index1 t).1]; rfl)
  | ⟨1, _⟩ => exact ((cfg0.win 1).rect_emb_val t (ix2 i j) 1).trans (by rw [(index1 t).2]; rfl)

theorem emb2 (t : Fin cfg0.N) (i : Fin 8192) (j : Fin 128) : (((cfg0.win 2).blk t).view.emb (ix2 i j) : Flash.Sproj.Idx)
    = ix2 ⟨t.val / 128 * 8192 + i, by have := lt640 t; omega⟩ ⟨(36 + t.val / 32 % 4) * 128 + j, by omega⟩ := by
  refine funext fun a => Fin.ext ?_
  match a with
  | ⟨0, _⟩ => exact ((cfg0.win 2).rect_emb_val t (ix2 i j) 0).trans (by rw [(index2 t).1]; rfl)
  | ⟨1, _⟩ => exact ((cfg0.win 2).rect_emb_val t (ix2 i j) 1).trans (by rw [(index2 t).2]; rfl)

theorem emb3 (t : Fin cfg0.N) (i : Fin 256) (j : Fin 512) : (((cfg0.win 3).blk t).view.emb (ix2 i j) : Flash.Sres.Idx)
    = ix2 ⟨(t.val / 128 * 32 + t.val % 32) * 256 + i, by have := lt640 t; omega⟩ ⟨t.val / 32 % 4 * 512 + j, by omega⟩ := by
  refine funext fun a => Fin.ext ?_
  match a with
  | ⟨0, _⟩ => exact ((cfg0.win 3).rect_emb_val t (ix2 i j) 0).trans (by rw [(index3 t).1]; rfl)
  | ⟨1, _⟩ => exact ((cfg0.win 3).rect_emb_val t (ix2 i j) 1).trans (by rw [(index3 t).2]; rfl)

end Cert.KernelIdeal.Run

end
-- ==== Proof.Flash.Reads.lean ====
/-
  A GRID POINT'S ARRAYS AT AN INDEX, read at the ideal instance: windows and puts of matrices, and the online softmax's
  statistics after the 32 row blocks.
-/
module

public import proofs.«01_k».proof.Proof.Flash.Point
public import Idealize.ShloMosaic.Lib.Pointwise

@[expose] public section

noncomputable section

namespace Cert.Flash

open Idealize.ShloMosaic

/-- A window of a matrix at an index. -/
theorem window2 {α : Type} {A B a b n m : ℕ} (x : (⟨2, ![A, B]⟩ : Shape).Idx → α) (inb : ∀ i, (![a, b] : Fin 2 → ℕ) i + (⟨2, ![n, m]⟩ : Shape).size i ≤ (⟨2, ![A, B]⟩ : Shape).size i)
    (i : Fin n) (j : Fin m) :
    VecWindow.window x ![a, b] (⟨2, ![n, m]⟩ : Shape).size inb (ix2 i j)
      = x (ix2 ⟨a + i, lt_of_lt_of_le (Nat.add_lt_add_left i.isLt a) (inb 0)⟩ ⟨b + j, lt_of_lt_of_le (Nat.add_lt_add_left j.isLt b) (inb 1)⟩) := by
  refine congrArg x (funext fun k => Fin.ext ?_)
  match k with
  | ⟨0, _⟩ => show a + 1 * i.val = a + i.val; omega
  | ⟨1, _⟩ => show b + 1 * j.val = b + j.val; omega

/-- A matrix with a window put, inside it, -/
theorem put2_in {α : Type} {A B a b n m : ℕ} (x : (⟨2, ![A, B]⟩ : Shape).Idx → α) (w : (⟨2, ![n, m]⟩ : Shape).Idx → α)
    (i : Fin A) (j : Fin B) (i' : Fin n) (j' : Fin m) (hi : i.val = a + i'.val) (hj : j.val = b + j'.val) :
    VecWindow.put x ![a, b] (⟨2, ![n, m]⟩ : Shape).size w (ix2 i j) = w (ix2 i' j') := by
  unfold VecWindow.put
  rw [dif_pos (Fin.forall_fin_two.2 ⟨⟨by show a ≤ i.val; omega, by show i.val < a + n; omega⟩, ⟨by show b ≤ j.val; omega, by show j.val < b + m; omega⟩⟩)]
  refine congrArg w (funext fun k => Fin.ext ?_)
  match k with
  | ⟨0, _⟩ => show i.val - a = i'.val; omega
  | ⟨1, _⟩ => show j.val - b = j'.val; omega

/-- and outside it. -/
theorem put2_out {α : Type} {A B a b n m : ℕ} (x : (⟨2, ![A, B]⟩ : Shape).Idx → α) (w : (⟨2, ![n, m]⟩ : Shape).Idx → α)
    (i : Fin A) (j : Fin B) (h : i.val < a ∨ a + n ≤ i.val ∨ j.val < b ∨ b + m ≤ j.val) :
    VecWindow.put x ![a, b] (⟨2, ![n, m]⟩ : Shape).size w (ix2 i j) = x (ix2 i j) := by
  unfold VecWindow.put
  rw [dif_neg]
  intro H
  have h0 : a ≤ i.val ∧ i.val < a + n := H 0
  have h1 : b ≤ j.val ∧ j.val < b + m := H 1
  omega

/-- The eight chunks of probabilities of a row block put in place, at an index of the block, -/
theorem rowStep_p_in (S : Sqk.Idx → Elt Ideal .f32) (r : ℕ) (hr : r < 32) (X : Soft Ideal) (i : Fin 1024) (j : Fin 1024) (a : Fin 32)
    (hi : i.val = 32 * r + a.val) :
    (rowStep S r hr X).p (ix2 i j) = Ideal.exp2 (S (ix2 i j) - rowMax S X.m r hr (ix2 a ⟨j.val % 128, Nat.mod_lt _ (by decide)⟩)) := by
  have key : ∀ (c : ℕ) (hc : c + 128 ≤ 1024) (h128 : 128 ∣ c) (P : Sqk.Idx → Elt Ideal .bf16),
      putChunk r c (chunkOf S r hr c hc) (rowMax S X.m r hr) P (ix2 i j)
        = if c ≤ j.val ∧ j.val < c + 128 then Ideal.exp2 (S (ix2 i j) - rowMax S X.m r hr (ix2 a ⟨j.val % 128, Nat.mod_lt _ (by decide)⟩)) else P (ix2 i j) := by
    intro c hc h128 P
    by_cases h : c ≤ j.val ∧ j.val < c + 128
    · rw [if_pos h]
      have hj : j.val = c + (j.val % 128) := by omega
      refine (put2_in _ _ i j a ⟨j.val % 128, Nat.mod_lt _ (by decide)⟩ hi hj).trans ?_
      generalize rowMax S X.m r hr = mn
      have hw : chunkOf S r hr c hc (ix2 a ⟨j.val % 128, Nat.mod_lt _ (by decide)⟩) = S (ix2 i j) := by
        refine (window2 _ _ _ _).trans (congrArg S ?_)
        rw [ix2_inj]
        exact ⟨Fin.ext hi.symm, Fin.ext hj.symm⟩
      rw [← hw]
      generalize chunkOf S r hr c hc = x
      pointwise
      rfl
    · rw [if_neg h]
      exact put2_out _ _ i j (by omega)
  unfold rowStep
  dsimp only
  have hj := j.isLt
  rw [key 896 _ (by decide), key 768 _ (by decide), key 640 _ (by decide), key 512 _ (by decide), key 384 _ (by decide), key 256 _ (by decide), key 128 _ (by decide), key 0 _ (by decide)]
  simp only [ite_eq_left_iff]
  intros
  exfalso
  omega

theorem rowStep_p_out (S : Sqk.Idx → Elt Ideal .f32) (r : ℕ) (hr : r < 32) (X : Soft Ideal) (i : Fin 1024) (j : Fin 1024)
    (hi : i.val < 32 * r ∨ 32 * r + 32 ≤ i.val) : (rowStep S r hr X).p (ix2 i j) = X.p (ix2 i j) := by
  have h : ∀ c w P, VecWindow.put (s := Sqk) P ![32 * r, c] Srow.size w (ix2 i j) = P (ix2 i j) :=
    fun c w P => put2_out (α := Elt Ideal .bf16) (a := 32 * r) (b := c) (n := 32) (m := 128) P w i j (by omega)
  unfold rowStep
  dsimp only
  exact (h _ _ _).trans ((h _ _ _).trans ((h _ _ _).trans ((h _ _ _).trans ((h _ _ _).trans ((h _ _ _).trans ((h _ _ _).trans (h _ _ _)))))))

theorem rowStep_m_in (S : Sqk.Idx → Elt Ideal .f32) (r : ℕ) (hr : r < 32) (X : Soft Ideal) (i : Fin 1024) (l : Fin 128) (a : Fin 32)
    (hi : i.val = 32 * r + a.val) : (rowStep S r hr X).m (ix2 i l) = rowMax S X.m r hr (ix2 a l) := by
  refine (put2_in _ _ i l a l hi (by omega)).trans ?_
  generalize rowMax S X.m r hr = x
  pointwise

theorem rowStep_m_out (S : Sqk.Idx → Elt Ideal .f32) (r : ℕ) (hr : r < 32) (X : Soft Ideal) (i : Fin 1024) (l : Fin 128)
    (hi : i.val < 32 * r ∨ 32 * r + 32 ≤ i.val) : (rowStep S r hr X).m (ix2 i l) = X.m (ix2 i l) :=
  put2_out (α := Elt Ideal .f32) X.m _ i l (by omega)

theorem rowStep_al_in (S : Sqk.Idx → Elt Ideal .f32) (r : ℕ) (hr : r < 32) (X : Soft Ideal) (i : Fin 1024) (l : Fin 128) (a : Fin 32)
    (hi : i.val = 32 * r + a.val) : (rowStep S r hr X).al (ix2 i l) = Ideal.exp2 (X.m (ix2 i l) - rowMax S X.m r hr (ix2 a l)) := by
  refine (put2_in _ _ i l a l hi (by omega)).trans ?_
  have hw : rowOf X.m r hr (ix2 a l) = X.m (ix2 i l) := by
    refine (window2 _ _ _ _).trans (congrArg X.m ?_)
    rw [ix2_inj]
    exact ⟨Fin.ext hi.symm, Fin.ext (by simp)⟩
  rw [← hw]
  generalize rowMax S X.m r hr = x
  generalize rowOf X.m r hr = y
  pointwise
  rfl

theorem rowStep_al_out (S : Sqk.Idx → Elt Ideal .f32) (r : ℕ) (hr : r < 32) (X : Soft Ideal) (i : Fin 1024) (l : Fin 128)
    (hi : i.val < 32 * r ∨ 32 * r + 32 ≤ i.val) : (rowStep S r hr X).al (ix2 i l) = X.al (ix2 i l) :=
  put2_out (α := Elt Ideal .f32) X.al _ i l (by omega)

/-- A row block's new maximum looks at that block's rows of the old one alone. -/
theorem rowMax_rowStep (S : Sqk.Idx → Elt Ideal .f32) (r : ℕ) (hr : r < 32) (X : Soft Ideal) (R : ℕ) (hR : R < 32) (h : R ≠ r) :
    rowMax S (rowStep S r hr X).m R hR = rowMax S X.m R hR := by
  have : rowOf (rowStep S r hr X).m R hR = rowOf X.m R hR :=
    VecWindow.window_put_of_disjoint (s := Sq) _ _ _ _ _ _ _ 0 (by show 32 * R + 32 ≤ 32 * r ∨ 32 * r + 32 ≤ 32 * R; omega)
  unfold rowMax
  rw [this]

/-- What the row blocks from `r` on leave at a row, within them, -/
theorem rowsStep_in (S : Sqk.Idx → Elt Ideal .f32) (R : ℕ) (hR : R < 32) (i : Fin 1024) (a : Fin 32) (hi : i.val = 32 * R + a.val) :
    ∀ (n r : ℕ) (h : r + n ≤ 32) (X : Soft Ideal), r ≤ R → R < r + n →
      (∀ l, (rowsStep S n r h X).m (ix2 i l) = rowMax S X.m R hR (ix2 a l))
      ∧ (∀ l, (rowsStep S n r h X).al (ix2 i l) = Ideal.exp2 (X.m (ix2 i l) - rowMax S X.m R hR (ix2 a l)))
      ∧ (∀ j, (rowsStep S n r h X).p (ix2 i j) = Ideal.exp2 (S (ix2 i j) - rowMax S X.m R hR (ix2 a ⟨j.val % 128, Nat.mod_lt _ (by decide)⟩)))
  | 0, r, h, X, h1, h2 => by omega
  | n + 1, r, h, X, h1, h2 => by
    unfold rowsStep
    by_cases e : R = r
    · subst e
      obtain ⟨o1, o2, o3⟩ := rowsStep_out S i n (R + 1) (by omega) (rowStep S R (by omega) X) (Or.inl (by omega))
      exact ⟨fun l => (o1 l).trans (rowStep_m_in S R _ X i l a hi), fun l => (o2 l).trans (rowStep_al_in S R _ X i l a hi),
        fun j => (o3 j).trans (rowStep_p_in S R _ X i j a hi)⟩
    · obtain ⟨o1, o2, o3⟩ := rowsStep_in S R hR i a hi n (r + 1) (by omega) (rowStep S r (by omega) X) (by omega) (by omega)
      rw [rowMax_rowStep S r _ X R hR e] at o1 o2 o3
      refine ⟨o1, fun l => ?_, o3⟩
      rw [o2 l, rowStep_m_out S r _ X i l (by omega)]
where
  rowsStep_out (S : Sqk.Idx → Elt Ideal .f32) (i : Fin 1024) :
    ∀ (n r : ℕ) (h : r + n ≤ 32) (X : Soft Ideal), (i.val < 32 * r ∨ 32 * (r + n) ≤ i.val) →
      (∀ l, (rowsStep S n r h X).m (ix2 i l) = X.m (ix2 i l)) ∧ (∀ l, (rowsStep S n r h X).al (ix2 i l) = X.al (ix2 i l))
      ∧ (∀ j, (rowsStep S n r h X).p (ix2 i j) = X.p (ix2 i j))
  | 0, r, h, X, h1 => by unfold rowsStep; exact ⟨fun _ => rfl, fun _ => rfl, fun _ => rfl⟩
  | n + 1, r, h, X, h1 => by
    unfold rowsStep
    obtain ⟨o1, o2, o3⟩ := rowsStep_out S i n (r + 1) (by omega) (rowStep S r (by omega) X) (by omega)
    exact ⟨fun l => (o1 l).trans (rowStep_m_out S r _ X i l (by omega)), fun l => (o2 l).trans (rowStep_al_out S r _ X i l (by omega)),
      fun j => (o3 j).trans (rowStep_p_out S r _ X i j (by omega))⟩

end Cert.Flash

end
-- ==== Proof.Flash.Consts.lean ====
/-
  THE PROGRAMS' FLOAT CONSTANTS among the extended reals.
-/
module

public import Idealize.ShloMosaic.PureOps.Ideal

@[expose] public section

noncomputable section

namespace Cert.Flash

open Idealize.ShloMosaic

/-- The start of the running maximum is a real. -/
theorem start_real : ∃ M : ℝ, Ideal.ofBits .f32 0xF149F2CA#32 = (M : EReal) := by
  simp [Ideal.ofBits, Ideal.ieee, -EReal.coe_mul]
  exact ⟨_, rfl⟩

theorem neg_inf : Ideal.ofBits .f32 0xFF800000#32 = ⊥ := by simp [Ideal.ofBits, Ideal.ieee]

theorem two : Ideal.ofBits .f32 0x40000000#32 = ((2 : ℝ) : EReal) := by
  simp [Ideal.ofBits, Ideal.ieee, -EReal.coe_mul]
  norm_num

theorem inf_bf16 : Ideal.ofBits .bf16 0x7F80#16 = ⊤ := by simp [Ideal.ofBits, Ideal.ieee]

end Cert.Flash

end
-- ==== Proof.Flash.PointValue.lean ====
/-
  WHAT A GRID POINT LEAVES IN ITS OUTPUT WINDOW, at the ideal instance and at an index: where the scores of a row of queries
  are reals, the mean of the values under the weights two to the scores. A row of the stacked queries is followed through the
  blocks of keys: after `n` keys its running maximum is one real in all the lanes, and its accumulators are the weighed sums of
  the first `n` values (`RowAt`).
-/
module

public import proofs.«01_k».proof.Proof.Flash.Reads
public import proofs.«01_k».proof.Proof.Flash.Online
public import proofs.«01_k».proof.Proof.Flash.Consts

@[expose] public section

noncomputable section

namespace Cert.Flash

open Idealize.ShloMosaic

/-- The greatest of reals, and of minus infinity, is a real or minus infinity; with a real beside it, a real. -/
theorem max_fold_real {n : ℕ} (M : ℝ) (f : Fin n → EReal) (hf : ∀ k, f k ≠ ⊤) :
    ∃ M' : ℝ, max (M : EReal) (Finset.univ.fold max (Ideal.ofBits .f32 0xFF800000#32) f) = (M' : EReal) := by
  have hb : Finset.univ.fold max (Ideal.ofBits .f32 0xFF800000#32) f < ⊤ :=
    Finset.fold_max_lt _ |>.2 ⟨by rw [neg_inf]; exact bot_lt_top, fun k _ => lt_top_iff_ne_top.2 (hf k)⟩
  refine ⟨(max (M : EReal) (Finset.univ.fold max (Ideal.ofBits .f32 0xFF800000#32) f)).toReal, (EReal.coe_toReal ?_ ?_).symm⟩
  · exact (max_lt (EReal.coe_lt_top M) hb).ne
  · exact ((EReal.bot_lt_coe M).trans_le (le_max_left _ _)).ne'

theorem newMax_real (x0 x1 x2 x3 x4 x5 x6 x7 m : Srow.Idx → Elt Ideal .f32) (a : Fin 32) (M : ℝ) (hm : ∀ l, m (ix2 a l) = (M : EReal))
    (h0 : ∀ l, x0 (ix2 a l) ≠ (⊤ : EReal)) (h1 : ∀ l, x1 (ix2 a l) ≠ (⊤ : EReal)) (h2 : ∀ l, x2 (ix2 a l) ≠ (⊤ : EReal)) (h3 : ∀ l, x3 (ix2 a l) ≠ (⊤ : EReal))
    (h4 : ∀ l, x4 (ix2 a l) ≠ (⊤ : EReal)) (h5 : ∀ l, x5 (ix2 a l) ≠ (⊤ : EReal)) (h6 : ∀ l, x6 (ix2 a l) ≠ (⊤ : EReal)) (h7 : ∀ l, x7 (ix2 a l) ≠ (⊤ : EReal)) :
    ∃ M' : ℝ, ∀ l, newMax x0 x1 x2 x3 x4 x5 x6 x7 m (ix2 a l) = (M' : EReal) := by
  unfold newMax
  pointwise
  have top : ∀ {x y : EReal}, x ≠ ⊤ → y ≠ ⊤ → max x y ≠ ⊤ := fun h h' => (max_lt (lt_top_iff_ne_top.2 h) (lt_top_iff_ne_top.2 h')).ne
  obtain ⟨M', e⟩ := max_fold_real (n := 128) M _ fun k => top (top (top (top (top (top (top (h0 k) (h1 k)) (h2 k)) (h3 k)) (h4 k)) (h5 k)) (h6 k)) (h7 k)
  exact ⟨M', fun l => by rw [hm l]; exact e⟩

/-- A row's new maximum is one real in all the lanes where its scores and its old maximum are. -/
theorem rowMax_real (S : Sqk.Idx → Elt Ideal .f32) (m : Sq.Idx → Elt Ideal .f32) (R : ℕ) (hR : R < 32) (i : Fin 1024) (a : Fin 32)
    (hi : i.val = 32 * R + a.val) (M : ℝ) (hm : ∀ l, m (ix2 i l) = (M : EReal)) (hS : ∀ j, ∃ s : ℝ, S (ix2 i j) = (s : EReal)) :
    ∃ M' : ℝ, ∀ l, rowMax S m R hR (ix2 a l) = (M' : EReal) := by
  have hc : ∀ (c : ℕ) (hc : c + 128 ≤ 1024) (l : Fin 128), chunkOf S R hR c hc (ix2 a l) ≠ (⊤ : EReal) := by
    intro c hc l
    obtain ⟨s, hs⟩ := hS ⟨c + l, by omega⟩
    have : chunkOf S R hR c hc (ix2 a l) = S (ix2 i ⟨c + l, by omega⟩) := by
      refine (window2 _ _ _ _).trans (congrArg S ?_)
      rw [ix2_inj]
      exact ⟨Fin.ext hi.symm, rfl⟩
    rw [this, hs]
    exact EReal.coe_ne_top s
  have hr : ∀ l, rowOf m R hR (ix2 a l) = (M : EReal) := by
    intro l
    refine Eq.trans ((window2 _ _ _ _).trans (congrArg m ?_)) (hm l)
    rw [ix2_inj]
    exact ⟨Fin.ext hi.symm, Fin.ext (Nat.zero_add _)⟩
  exact newMax_real _ _ _ _ _ _ _ _ _ a M hr (hc _ _) (hc _ _) (hc _ _) (hc _ _) (hc _ _) (hc _ _) (hc _ _) (hc _ _)

theorem accum_at (p : Sqk.Idx → Elt Ideal .bf16) (w : Sacc.Idx → Elt Ideal .bf16) (al : Sq.Idx → Elt Ideal .f32) (a : Sacc.Idx → Elt Ideal .f32)
    (r : Fin 1024) (e : Fin 256) (x : EReal) (hal : ∀ l, al (ix2 r l) = x) :
    accum p w al a (ix2 r e) = (a (ix2 r e) * x + ∑ k : Fin 1024, p (ix2 r k) * w (ix2 k e) : EReal) := by
  unfold accum
  pointwise [dotPV]
  congr 2
  split <;> exact hal _

theorem dots_at (q k : Sq.Idx → Elt Ideal .bf16) (r : Fin 1024) (e : Fin 1024) :
    dots q k (ix2 r e) = (∑ d : Fin 128, q (ix2 r d) * k (ix2 e d) : EReal) := by
  unfold dots
  pointwise [dotQK]

/-- A row of queries followed through the keys: its scores are the reals `S`, the values `v` by column, and after `n` keys its
    maximum is one real and its accumulators the weighed sums. -/
structure RowAt (S : ℕ → ℝ) (v : Fin 256 → ℕ → EReal) (r : Fin 1024) (n : ℕ) (X : St Ideal) : Prop where
  scores : ∀ j (h : j < 8192), (∑ d : Fin 128, X.qs (ix2 r d) * X.k (ix2 ⟨j, h⟩ d) : EReal) = (S j : EReal)
  values : ∀ j (h : j < 8192) e, X.va (ix2 ⟨j, h⟩ e) = v e j
  sums : ∃ M : ℝ, (∀ l, X.m (ix2 r l) = (M : EReal)) ∧ ∀ e, X.acc (ix2 r e) = part S (v e) n M

variable {S : ℕ → ℝ} {v : Fin 256 → ℕ → EReal} {r : Fin 1024}

/-- A score buffer's row holds the scores from key `n` on. -/
def Holds (S : ℕ → ℝ) (r : Fin 1024) (n : ℕ) (s : Sqk.Idx → Elt Ideal .f32) : Prop := ∀ c : Fin 1024, s (ix2 r c) = (S (n + c) : EReal)

theorem RowAt.block {n k : ℕ} {X : St Ideal} (h : RowAt S v r n X) (hk : k + 1024 ≤ 8192) (inb : ∀ a, (![k, 0] : Fin 2 → ℕ) a + Sq.size a ≤ Skv.size a) :
    Holds S r k (dots X.qs (VecWindow.window X.k ![k, 0] Sq.size inb)) := by
  intro c
  refine (dots_at _ _ _ _).trans (Eq.trans ?_ (h.scores (k + c) (by omega)))
  refine Finset.sum_congr rfl fun d _ => congrArg (X.qs (ix2 r d) * ·) ?_
  refine (window2 _ _ _ _).trans (congrArg X.k ?_)
  rw [ix2_inj]
  exact ⟨rfl, Fin.ext (Nat.zero_add _)⟩

theorem RowAt.score0 {n : ℕ} {X : St Ideal} (h : RowAt S v r n X) (off inb) : RowAt S v r n (X.score0 off inb) := ⟨h.scores, h.values, h.sums⟩
theorem RowAt.score1 {n : ℕ} {X : St Ideal} (h : RowAt S v r n X) (off inb) : RowAt S v r n (X.score1 off inb) := ⟨h.scores, h.values, h.sums⟩

/-- A block of keys added. -/
theorem RowAt.upd {n : ℕ} {X : St Ideal} (h : RowAt S v r n X) (hn : n + 1024 ≤ 8192) (s : Sqk.Idx → Elt Ideal .f32) (hs : Holds S r n s)
    (inb : ∀ a, (![n, 0] : Fin 2 → ℕ) a + Sacc.size a ≤ Sva.size a) : RowAt S v r (n + 1024) (X.upd s ![n, 0] inb) := by
  refine ⟨h.scores, h.values, ?_⟩
  obtain ⟨M, hm, ha⟩ := h.sums
  have hR : r.val / 32 < 32 := by omega
  have hi : r.val = 32 * (r.val / 32) + (⟨r.val % 32, Nat.mod_lt _ (by decide)⟩ : Fin 32).val := by
    show r.val = 32 * (r.val / 32) + r.val % 32
    omega
  obtain ⟨M', hM'⟩ := rowMax_real s X.m (r.val / 32) hR r ⟨r.val % 32, Nat.mod_lt _ (by decide)⟩ hi M hm fun j => ⟨_, hs j⟩
  obtain ⟨o1, o2, o3⟩ := rowsStep_in s (r.val / 32) hR r ⟨r.val % 32, Nat.mod_lt _ (by decide)⟩ hi 32 0 (by decide) X.soft (Nat.zero_le _) (by omega)
  refine ⟨M', fun l => (o1 l).trans (hM' l), fun e => ?_⟩
  have hal : ∀ l, (rowsStep s 32 0 (by decide) X.soft).al (ix2 r l) = (((2 : ℝ) ^ (M - M') : ℝ) : EReal) := by
    intro l
    have hml : X.soft.m (ix2 r l) = (M : EReal) := hm l
    rw [o2 l]
    show Ideal.exp2 (X.soft.m (ix2 r l) - rowMax s X.m (r.val / 32) hR _) = _
    rw [hml, hM', ← EReal.coe_sub, Ideal.exp2_coe]
    rfl
  refine (accum_at _ _ _ _ r e _ hal).trans ?_
  rw [← part_add S (v e) n 1024 M M', ha e]
  refine congrArg _ (Finset.sum_congr rfl fun k _ => ?_)
  have hp : (rowsStep s 32 0 (by decide) X.soft).p (ix2 r k) = (((2 : ℝ) ^ (S (n + k) - M') : ℝ) : EReal) := by
    rw [o3 k]
    show Ideal.exp2 (s (ix2 r k) - rowMax s X.m (r.val / 32) hR _) = _
    rw [hs k, hM', ← EReal.coe_sub, Ideal.exp2_coe]
    rfl
  have hv : VecWindow.window X.va ![n, 0] Sacc.size inb (ix2 k e) = v e (n + k) := by
    refine Eq.trans ((window2 _ _ _ _).trans (congrArg X.va ?_)) (h.values (n + k) (by omega) e)
    rw [ix2_inj]
    exact ⟨rfl, Fin.ext (Nat.zero_add _)⟩
  rw [hp, hv]

/-- A trip of the loop. -/
theorem RowAt.trip {X : St Ideal} (t : ℕ) (ht : t < 3) (h : RowAt S v r (1024 * (2 * t)) X) (hs : Holds S r (1024 * (2 * t)) X.s0) :
    RowAt S v r (1024 * (2 * t + 2)) (X.trip t ht) ∧ Holds S r (1024 * (2 * t + 2)) (X.trip t ht).s0 := by
  have h1 : RowAt S v r (1024 * (2 * t)) (X.trip1 t ht) := h.score1 _ _
  have h2 : RowAt S v r (1024 * (2 * t + 1)) (X.trip2 t ht) := h1.upd (by omega) _ hs _
  have h3 : RowAt S v r (1024 * (2 * t + 1)) (X.trip3 t ht) := h2.score0 _ _
  have s1 : Holds S r (1024 * (2 * t + 1)) (X.trip3 t ht).s1 := h.block (by omega) _
  have s0 : Holds S r (1024 * (2 * t + 2)) (X.trip3 t ht).s0 := h2.block (by omega) _
  unfold St.trip
  exact ⟨h3.upd (by omega) _ s1 _, s0⟩

/-- All of a grid point's updates, from its start. -/
theorem RowAt.last {X : St Ideal} (h : RowAt S v r 0 X.start) : RowAt S v r 8192 X.last := by
  have h0 : RowAt S v r 0 X.first := h.score0 _ _
  have s0 : Holds S r 0 X.first.s0 := h.block (by omega) _
  obtain ⟨h1, s1⟩ := RowAt.trip 0 (by decide) h0 s0
  obtain ⟨h2, s2⟩ := RowAt.trip 1 (by decide) h1 s1
  obtain ⟨h3, s3⟩ := RowAt.trip 2 (by decide) h2 s2
  have h4 : RowAt S v r 6144 X.last1 := h3.score1 _ _
  have s4 : Holds S r 7168 X.last1.s1 := h3.block (by omega) _
  have h5 : RowAt S v r 7168 X.last2 := h4.upd (by omega) _ s3 _
  unfold St.last
  exact h5.upd (by omega) _ s4 _

/-! ### The start and the end -/

/-- The queries of the four heads stacked. -/
theorem stackOf_in (g : ℕ) (hg : g < 4) (q : Swin.Idx → Elt Ideal .bf16) (w : Sq.Idx → Elt Ideal .bf16) (r : Fin 1024) (i : Fin 256) (d : Fin 128)
    (hr : r.val = 256 * g + i.val) : stackOf g hg q w (ix2 r d) = q (ix2 i ⟨128 * g + d, by omega⟩) := by
  refine (put2_in (α := Elt Ideal .bf16) (n := 256) (m := 128) _ _ r d i d hr (by omega)).trans ?_
  have hw : VecWindow.window q ![0, 128 * g] Shead.size (inb2 (by decide) (by omega)) (ix2 i d) = q (ix2 i ⟨128 * g + d, by omega⟩) := by
    refine (window2 _ _ _ _).trans (congrArg q ?_)
    rw [ix2_inj]
    exact ⟨Fin.ext (Nat.zero_add _), rfl⟩
  rw [← hw]
  generalize VecWindow.window q ![0, 128 * g] Shead.size (inb2 (by decide) (by omega)) = x
  pointwise

theorem stackOf_out (g : ℕ) (hg : g < 4) (q : Swin.Idx → Elt Ideal .bf16) (w : Sq.Idx → Elt Ideal .bf16) (r : Fin 1024) (d : Fin 128)
    (hr : r.val < 256 * g ∨ 256 * g + 256 ≤ r.val) : stackOf g hg q w (ix2 r d) = w (ix2 r d) :=
  put2_out (α := Elt Ideal .bf16) (n := 256) (m := 128) _ _ r d (by omega)

theorem start_qs (X : St Ideal) (g : ℕ) (hg : g < 4) (r : Fin 1024) (i : Fin 256) (d : Fin 128) (hr : r.val = 256 * g + i.val) :
    X.start.qs (ix2 r d) = X.q (ix2 i ⟨128 * g + d, by omega⟩) := by
  show stackOf 3 (by decide) X.q (stackOf 2 (by decide) X.q (stackOf 1 (by decide) X.q (stackOf 0 (by decide) X.q X.qs))) (ix2 r d) = _
  by_cases h3 : g = 3
  · subst h3; rw [stackOf_in 3 _ _ _ r i d hr]
  rw [stackOf_out 3 _ _ _ r d (by omega)]
  by_cases h2 : g = 2
  · subst h2; rw [stackOf_in 2 _ _ _ r i d hr]
  rw [stackOf_out 2 _ _ _ r d (by omega)]
  by_cases h1 : g = 1
  · subst h1; rw [stackOf_in 1 _ _ _ r i d hr]
  rw [stackOf_out 1 _ _ _ r d (by omega)]
  obtain rfl : g = 0 := by omega
  rw [stackOf_in 0 _ _ _ r i d hr]

/-- The values beside the ones: by column. -/
def column (x : Skv.Idx → Elt Ideal .bf16) (e : Fin 256) (j : ℕ) : EReal :=
  if h : e.val < 128 then x (ix2 ⟨j % 8192, Nat.mod_lt _ (by decide)⟩ ⟨e.val, h⟩) else 1

theorem vaOf_at (x : Skv.Idx → Elt Ideal .bf16) (w : Sva.Idx → Elt Ideal .bf16) (j : ℕ) (hj : j < 8192) (e : Fin 256) :
    vaOf x w (ix2 ⟨j, hj⟩ e) = column x e j := by
  unfold vaOf column
  by_cases h : e.val < 128
  · rw [dif_pos h]
    refine (put2_out (α := Elt Ideal .bf16) (n := 8192) (m := 128) _ _ ⟨j, hj⟩ e (by omega)).trans ?_
    refine (put2_in (α := Elt Ideal .bf16) (n := 8192) (m := 128) _ _ ⟨j, hj⟩ e ⟨j, hj⟩ ⟨e.val, h⟩ (by simp) (by simp)).trans ?_
    have hm : (⟨j % 8192, Nat.mod_lt _ (by decide)⟩ : Fin 8192) = ⟨j, hj⟩ := Fin.ext (Nat.mod_eq_of_lt hj)
    rw [hm]
    pointwise
  · rw [dif_neg h]
    refine (put2_in (α := Elt Ideal .bf16) (n := 8192) (m := 128) _ _ ⟨j, hj⟩ e ⟨j, hj⟩ ⟨e.val - 128, by omega⟩ (by simp) (by show e.val = 128 + (e.val - 128); omega)).trans ?_
    pointwise

/-- The row that a grid point starts with. -/
theorem RowAt.start (X : St Ideal) (w : Sva.Idx → Elt Ideal .bf16) (hva : X.va = vaOf X.v w) (g : ℕ) (hg : g < 4) (i : Fin 256) (hr : r.val = 256 * g + i.val)
    (hS : ∀ j (h : j < 8192), (∑ d : Fin 128, X.q (ix2 i ⟨128 * g + d, by omega⟩) * X.k (ix2 ⟨j, h⟩ d) : EReal) = (S j : EReal)) :
    RowAt S (column X.v) r 0 X.start := by
  refine ⟨fun j h => ?_, fun j h e => ?_, ?_⟩
  · rw [← hS j h]
    refine Finset.sum_congr rfl fun d _ => ?_
    rw [start_qs X g hg r i d hr]
    rfl
  · rw [← vaOf_at X.v w j h e, ← hva]
    rfl
  · obtain ⟨M, hM⟩ := start_real
    refine ⟨M, fun l => Eq.trans ?_ hM, fun e => ?_⟩
    · show (m0 : Sq.Idx → Elt Ideal .f32) (ix2 r l) = _
      pointwise
    · rw [part_zero]
      show (a0 : Sacc.Idx → Elt Ideal .f32) (ix2 r e) = _
      pointwise

theorem quot_at (a : Sacc.Idx → Elt Ideal .f32) (r : Fin 1024) (d : Fin 128) :
    quot a (ix2 r d) = Ideal.div (a (ix2 r ⟨d.val, by omega⟩)) (a (ix2 r ⟨128 + d.val, by omega⟩)) := by
  have h0 : VecWindow.window a ![0, 0] Sq.size (inb2 (by decide) (by decide)) (ix2 r d) = a (ix2 r ⟨d.val, by omega⟩) := by
    refine (window2 _ _ _ _).trans (congrArg a ?_)
    rw [ix2_inj]
    exact ⟨Fin.ext (Nat.zero_add _), Fin.ext (Nat.zero_add _)⟩
  have h1 : VecWindow.window a ![0, 128] Sq.size (inb2 (by decide) (by decide)) (ix2 r d) = a (ix2 r ⟨128 + d.val, by omega⟩) := by
    refine (window2 _ _ _ _).trans (congrArg a ?_)
    rw [ix2_inj]
    exact ⟨Fin.ext (Nat.zero_add _), rfl⟩
  rw [← h0, ← h1]
  rfl

theorem outOf_in (x : FVec Ideal Sq .f32) (g : ℕ) (hg : g < 4) (hs : Sq.Slices ![256 * g, 0] Shead) (w : Swin.Idx → Elt Ideal .bf16) (i : Fin 256) (j : Fin 512)
    (d : Fin 128) (hj : j.val = 128 * g + d.val) : outOf x g hg hs w (ix2 i j) = x (ix2 ⟨256 * g + i, by omega⟩ d) := by
  refine (put2_in (α := Elt Ideal .bf16) (n := 256) (m := 128) _ _ i j i d (by omega) hj).trans ?_
  pointwise

theorem outOf_out (x : FVec Ideal Sq .f32) (g : ℕ) (hg : g < 4) (hs : Sq.Slices ![256 * g, 0] Shead) (w : Swin.Idx → Elt Ideal .bf16) (i : Fin 256) (j : Fin 512)
    (hj : j.val < 128 * g ∨ 128 * g + 128 ≤ j.val) : outOf x g hg hs w (ix2 i j) = w (ix2 i j) :=
  put2_out (α := Elt Ideal .bf16) (n := 256) (m := 128) _ _ i j (by omega)

theorem point_quot (X : St Ideal) (g : ℕ) (hg : g < 4) (i : Fin 256) (j : Fin 512) (d : Fin 128) (hj : j.val = 128 * g + d.val) :
    X.point.o (ix2 i j) = quot X.last.acc (ix2 ⟨256 * g + i, by omega⟩ d) := by
  show outOf (quot X.last.acc) 3 (by decide) (by decide) (outOf (quot X.last.acc) 2 (by decide) (by decide) (outOf (quot X.last.acc) 1 (by decide) (by decide) (outOf (quot X.last.acc) 0 (by decide) (by decide) X.last.o))) (ix2 i j) = _
  generalize quot X.last.acc = x
  by_cases h3 : g = 3
  · subst h3; rw [outOf_in x 3 _ _ _ i j d hj]
  rw [outOf_out x 3 _ _ _ i j (by omega)]
  by_cases h2 : g = 2
  · subst h2; rw [outOf_in x 2 _ _ _ i j d hj]
  rw [outOf_out x 2 _ _ _ i j (by omega)]
  by_cases h1 : g = 1
  · subst h1; rw [outOf_in x 1 _ _ _ i j d hj]
  rw [outOf_out x 1 _ _ _ i j (by omega)]
  obtain rfl : g = 0 := by omega
  rw [outOf_in x 0 _ _ _ i j d hj]

/-- What a grid point leaves in its output window. -/
theorem point_at (X : St Ideal) (w : Sva.Idx → Elt Ideal .bf16) (hva : X.va = vaOf X.v w) (g : ℕ) (hg : g < 4) (i : Fin 256) (j : Fin 512) (d : Fin 128)
    (hj : j.val = 128 * g + d.val)
    (hS : ∀ n (h : n < 8192), (∑ d : Fin 128, X.q (ix2 i ⟨128 * g + d, by omega⟩) * X.k (ix2 ⟨n, h⟩ d) : EReal) = (S n : EReal)) :
    X.point.o (ix2 i j) = mean S (fun n => X.v (ix2 ⟨n % 8192, Nat.mod_lt _ (by decide)⟩ d)) 8192 := by
  obtain ⟨M, -, ha⟩ := (RowAt.last (RowAt.start (r := ⟨256 * g + i, by omega⟩) X w hva g hg i rfl hS)).sums
  rw [point_quot X g hg i j d hj, quot_at, ha, ha, ← div_part S _ (by decide) M]
  have e1 : column X.v ⟨d.val, by omega⟩ = fun n => X.v (ix2 ⟨n % 8192, Nat.mod_lt _ (by decide)⟩ d) :=
    funext fun n => dif_pos d.isLt
  have e2 : column X.v ⟨128 + d.val, by omega⟩ = fun _ => 1 := funext fun n => dif_neg (by simp)
  rw [e1, e2]

end Cert.Flash

end
-- ==== Proof.Flash.PointRead.lean ====
/-
  A POINT'S OUTPUT IS THE ATTENTION'S BLOCK. With the windows at their blocks of the arrays and the values beside a column of
  ones, a point leaves its output window at the attention's elements (`out_at`), of finite queries and keys.
-/
module

public import proofs.«01_k».proof.Proof.Flash.Blocks
public import proofs.«01_k».proof.Proof.Flash.PointValue

@[expose] public section

set_option maxRecDepth 16384

noncomputable section

namespace Cert.KernelIdeal.Run

open Cert.KernelIdeal Cert.KernelIdeal.Gen
open Idealize.ShloMosaic Idealize.ShloMosaic.TcCoe

variable (m : (ℓ : Loc nD τ sig) → Buf (Elt Ideal) ℓ) (c : Dev nD)

/-- The array of queries and keys, and that of the values. -/
def arrQ : Flash.Sqkv.Idx → EReal := m ((c.tc : Thread nD τ).loc main_arg0)
def arrP : Flash.Sproj.Idx → EReal := m ((c.tc : Thread nD τ).loc main_arg1)

theorem read0 (t : Fin cfg0.N) (i : Fin 256) (j : Fin 512) : (iblk m c 0 t : Flash.Swin.Idx → Elt Ideal .bf16) (ix2 i j)
    = arrQ m c (ix2 ⟨(t.val / 128 * 32 + t.val % 32) * 256 + i, by have := lt640 t; omega⟩ ⟨t.val / 32 % 4 * 512 + j, by omega⟩) :=
  (congrArg (V m c (Pipeline.arrRef spec0 0)) (emb0 t i j)).trans (congrFun (V_main_arg0 m c) _)

theorem read1 (t : Fin cfg0.N) (i : Fin 8192) (j : Fin 128) : (iblk m c 1 t : Flash.Skv.Idx → Elt Ideal .bf16) (ix2 i j)
    = arrQ m c (ix2 ⟨t.val / 128 * 8192 + i, by have := lt640 t; omega⟩ ⟨(16 + t.val / 32 % 4) * 128 + j, by omega⟩) :=
  (congrArg (V m c (Pipeline.arrRef spec0 1)) (emb1 t i j)).trans (congrFun (V_main_arg0 m c) _)

/-- The values of point `n`'s sequence and key head. -/
def valuesAt (n : ℕ) : Flash.Skv.Idx → EReal := fun y =>
  arrP m c (ix2 ⟨(n / 128 * 8192 + (y 0).val) % 40960, Nat.mod_lt _ (by decide)⟩
    ⟨(36 + n / 32 % 4) * 128 + (y 1).val, by have : (y 1).val < 128 := (y 1).isLt; omega⟩)

theorem read2 (t : Fin cfg0.N) : (iblk m c 2 t : Flash.Skv.Idx → Elt Ideal .bf16) = valuesAt m c t.val := by
  refine funext fun y => ?_
  obtain ⟨i, j, rfl⟩ : ∃ i j, y = ix2 i j := ⟨y 0, y 1, eq_ix2 y⟩
  refine ((congrArg (V m c (Pipeline.arrRef spec0 2)) (emb2 t i j)).trans (congrFun (V_main_arg1 m c) _)).trans ?_
  refine congrArg (arrP m c) ?_
  have h := lt640 t
  have e : (t.val / 128 * 8192 + i.val) % 40960 = t.val / 128 * 8192 + i.val := Nat.mod_eq_of_lt (by omega)
  exact congrArg (fun a => ix2 a _) (Fin.ext e.symm)

/-- They are those of the next point too, while the key head stays. -/
theorem valuesAt_succ (n : ℕ) (h : (n + 1) % 32 ≠ 0) : valuesAt m c (n + 1) = valuesAt m c n := by
  unfold valuesAt
  have e : (n + 1) / 128 = n / 128 := by omega
  have e' : (n + 1) / 32 = n / 32 := by omega
  simp only [e, e']

variable {m c}

/-- A point from the windows' blocks leaves the attention's block. -/
theorem point_out (hfin : ∀ x, ∃ r : ℝ, arrQ m c x = (r : EReal)) (t : Fin cfg0.N) (X : Flash.St Ideal) (w : Flash.Sva.Idx → Elt Ideal .bf16)
    (hq : X.q = iblk m c 0 t) (hk : X.k = iblk m c 1 t) (hv : X.v = iblk m c 2 t) (hva : X.va = Flash.vaOf X.v w) (i : Fin 256) (j : Fin 512) :
    X.point.o (ix2 i j) = Flash.attn (arrQ m c) (arrP m c) (((cfg0.win 3).blk t).view.emb (ix2 i j)) := by
  have ht := lt640 t
  have hg : j.val / 128 < 4 := by omega
  obtain ⟨T, hT⟩ : ∃ T : Fin 40960, T.val = (t.val / 128 * 32 + t.val % 32) * 256 + i.val := ⟨⟨_, by omega⟩, rfl⟩
  obtain ⟨h, hh⟩ : ∃ h : Fin 16, h.val = 4 * (t.val / 32 % 4) + j.val / 128 := ⟨⟨_, by omega⟩, rfl⟩
  obtain ⟨d, hd⟩ : ∃ d : Fin 128, d.val = j.val % 128 := ⟨⟨_, by omega⟩, rfl⟩
  have hT' : T.val / 8192 = t.val / 128 := by omega
  have hh' : h.val / 4 = t.val / 32 % 4 := by omega
  have eT : (⟨(t.val / 128 * 32 + t.val % 32) * 256 + i.val, by omega⟩ : Fin 40960) = T := Fin.ext hT.symm
  have eh : (⟨(t.val / 32 % 4 * 512 + j.val) / 128, by omega⟩ : Fin 16) = h := Fin.ext (by
    show (t.val / 32 % 4 * 512 + j.val) / 128 = h.val; omega)
  have ed : (⟨(t.val / 32 % 4 * 512 + j.val) % 128, by omega⟩ : Fin 128) = d := Fin.ext (by
    show (t.val / 32 % 4 * 512 + j.val) % 128 = d.val; omega)
  have hs : ∀ n (hn : n < 8192), (∑ e : Fin 128, X.q (ix2 i ⟨128 * (j.val / 128) + e, by omega⟩) * X.k (ix2 ⟨n, hn⟩ e) : EReal)
      = (((Flash.score (arrQ m c) T h n).toReal : ℝ) : EReal) := fun n hn => by
    rw [← Flash.score_real (arrQ m c) hfin, hq, hk]
    unfold Flash.score
    refine Finset.sum_congr rfl fun e _ => ?_
    refine congrArg₂ (· * ·) ((read0 m c t i _).trans (congrArg (arrQ m c) (congrArg₂ ix2 eT (Fin.ext ?_))))
      ((read1 m c t _ e).trans (congrArg (arrQ m c) (congrArg₂ ix2 (Fin.ext ?_) (Fin.ext ?_))))
    · show t.val / 32 % 4 * 512 + (128 * (j.val / 128) + e.val) = 128 * h.val + e.val
      omega
    · show t.val / 128 * 8192 + n = T.val / 8192 * 8192 + n % 8192
      omega
    · show (16 + t.val / 32 % 4) * 128 + e.val = 2048 + 128 * (h.val / 4) + e.val
      omega
  rw [emb3 t i j]
  refine (Flash.point_at X w hva (j.val / 128) hg i j d (by omega) hs).trans ?_
  show _ = Flash.attnAt (arrQ m c) (arrP m c) ⟨(t.val / 128 * 32 + t.val % 32) * 256 + i.val, _⟩ ⟨(t.val / 32 % 4 * 512 + j.val) / 128, _⟩
    ⟨(t.val / 32 % 4 * 512 + j.val) % 128, _⟩
  rw [eT, eh, ed]
  unfold Flash.attnAt
  refine congrArg (fun v => Flash.mean _ v 8192) (funext fun n => ?_)
  rw [hv, read2]
  refine congrArg (arrP m c) (congrArg₂ ix2 (Fin.ext ?_) (Fin.ext ?_))
  · show (t.val / 128 * 8192 + n % 8192) % 40960 = T.val / 8192 * 8192 + n % 8192
    omega
  · show (36 + t.val / 32 % 4) * 128 + d.val = 4608 + 128 * (h.val / 4) + d.val
    omega

/-- What is known of the scratch arrays before point `n`: past a key head's first query tile, the values lie beside the ones. -/
def Ready (m : (ℓ : Loc nD τ sig) → Buf (Elt Ideal) ℓ) (c : Dev nD) (n : ℕ) (X : Flash.St Ideal) : Prop :=
  n % 32 ≠ 0 → ∃ w, X.va = Flash.vaOf (F := Ideal) (valuesAt m c n) w

/-- The whole step: its output block, and what the next point may take for granted. -/
theorem step_out (hfin : ∀ x, ∃ r : ℝ, arrQ m c x = (r : EReal)) (t : Fin cfg0.N) (X : Flash.St Ideal)
    (hq : X.q = iblk m c 0 t) (hk : X.k = iblk m c 1 t) (hv : X.v = iblk m c 2 t) (hX : Ready m c t.val X) :
    (stepSt t X).o = (fun y => Flash.attn (arrQ m c) (arrP m c) (((cfg0.win 3).blk t).view.emb y))
      ∧ Ready m c (t.val + 1) (stepSt t X) := by
  obtain ⟨Y, w, hY, hq', hk', hv', hva⟩ : ∃ (Y : Flash.St Ideal) (w : Flash.Sva.Idx → Elt Ideal .bf16), stepSt t X = Y.point
      ∧ Y.q = X.q ∧ Y.k = X.k ∧ Y.v = X.v ∧ Y.va = Flash.vaOf Y.v w := by
    unfold stepSt
    by_cases h : t.val % 32 = 0
    · exact ⟨X.setVA, X.va, if_pos h, rfl, rfl, rfl, rfl⟩
    · obtain ⟨w, hw⟩ := hX h
      exact ⟨X, w, if_neg h, rfl, rfl, rfl, by rw [hw, hv, read2]⟩
  rw [hY]
  refine ⟨funext fun y => ?_, fun hn => ⟨w, ?_⟩⟩
  · obtain ⟨i, j, rfl⟩ : ∃ i j, y = ix2 i j := ⟨y 0, y 1, eq_ix2 y⟩
    exact point_out hfin t Y w (hq'.trans hq) (hk'.trans hk) (hv'.trans hv) hva i j
  · rw [(Flash.keeps_point Y).2.2.2, hva, hv', hv, read2, valuesAt_succ m c _ hn]

end Cert.KernelIdeal.Run

end
-- ==== Proof.Flash.KernelIdealRun.lean ====
/-
  THE IDEAL KERNEL'S RUN. The whole grid leaves the output array at the attention of the argument arrays, where the array of
  queries and keys is finite.
-/
module

public import proofs.«01_k».proof.Proof.Flash.PointRead
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What a point leaves in the output window. -/
def outBlock (c : Dev nD) (t : Fin cfg0.N) : Flash.Swin.Idx → EReal :=
  fun y => Flash.attn (arrQ m c) (arrP m c) (((cfg0.win 3).blk t).view.emb y)

/-- The scratch arrays before point `n`. -/
def scratchAt (c : Dev nD) (n : ℕ) : sProp 𝕄 :=
  iprop((∃ X : Flash.St Ideal, ⌜Ready m c n X⌝ ∗ scratch c X) ∗ ∃ r, prngReg c r)

/-- The proof data: the inputs' blocks stay in place, the output's is the attention's. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => outBlock m c t
    | ⟨_ + 4, h⟩ => absurd h (Nat.not_lt.2 (Nat.le_add_left _ _))
  Φ t := scratchAt m c t.val
  q w := Pipeline.shareOf spec0 w
  owed _ := 0

/-- The windows' arrays are left alone by a point. -/
theorem step_windows (t : Fin cfg0.N) (X : Flash.St Ideal) : (stepSt t X).q = X.q ∧ (stepSt t X).k = X.k ∧ (stepSt t X).v = X.v := by
  unfold stepSt
  split
  · exact ⟨(Flash.keeps_point X.setVA).1, (Flash.keeps_point X.setVA).2.1, (Flash.keeps_point X.setVA).2.2.1⟩
  · exact ⟨(Flash.keeps_point X).1, (Flash.keeps_point X).2.1, (Flash.keeps_point X).2.2.1⟩

/-- The scratch arrays at some arrays, the windows' ones called by any names. -/
theorem scratch_named (c : Dev nD) (n : ℕ) (q k v o) :
    scratchAt m c n ⊢ iprop((∃ X : Flash.St Ideal, ⌜X.q = q ∧ X.k = k ∧ X.v = v ∧ X.o = o ∧ Ready m c n X⌝ ∗ scratch c X) ∗ ∃ r, prngReg c r) := by
  unfold scratchAt
  iintro ⟨⟨%X, %hX, HX⟩, Hr⟩
  isplitr [Hr]
  · iexists (⟨q, k, v, o, X.qs, X.va, X.s0, X.s1, X.p, X.acc, X.m, X.al⟩ : Flash.St Ideal)
    isplitr
    · ipureintro; exact ⟨rfl, rfl, rfl, rfl, hX⟩
    · iexact HX
  · iexact Hr

theorem body (hfin : ∀ c x, ∃ r : ℝ, arrQ m c x = (r : EReal)) (c : Dev nD) : BodyObligationLoose (dats m 0 c) defs₀ 𝒱₀ () Set.univ := by
  intro t
  rw [bigSep_W0, bigSep_W0]
  show (iprop(scratchAt m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))) : sProp 𝕄)
    ⊢ wp frame (wpE defs₀ 𝒱₀ c none) Set.univ (bodyAt0 t) fun _ => iprop(scratchAt m c (t.val + 1) ∗ (dats m 0 c).owesAt () t.succ
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (outBlock m c t))
  iintro ⟨HS, HO, ⟨%d0, H0⟩, ⟨%d1, H1⟩, ⟨%d2, H2⟩, ⟨%d3, H3⟩⟩
  rw [before0_0_of m (dats m 0 c) rfl (fun _ => rfl) t d0, before0_1_of m (dats m 0 c) rfl (fun _ => rfl) t d1,
    before0_2_of m (dats m 0 c) rfl (fun _ => rfl) t d2]
  ihave HS := (scratch_named m c t.val (iblk m c 0 t) (iblk m c 1 t) (iblk m c 2 t) ((dats m 0 c).before 3 t d3)) $$ HS
  icases HS with ⟨⟨%X, %hX, HX⟩, Hr⟩
  obtain ⟨hq, hk, hv, ho, hr⟩ := hX
  obtain ⟨hout, hnext⟩ := step_out (hfin c) t X hq hk hv hr
  have hout' : outBlock m c t = (stepSt t X).o := hout.symm
  rw [hout', ← hq, ← hk, ← hv, ← ho]
  unfold scratch
  icases HX with ⟨Ha, Hb, He, Hf, Hg, Hh, Hi, Hj⟩
  iapply (wp_at c t X) $$ [H0 H1 H2 H3 Ha Hb He Hf Hg Hh Hi Hj]
  · unfold Flash.held
    isplitl [H0]; · iexact H0
    isplitl [H1]; · iexact H1
    isplitl [H2]; · iexact H2
    isplitl [H3]; · iexact H3
    isplitl [Ha]; · iexact Ha
    isplitl [Hb]; · iexact Hb
    isplitl [He]; · iexact He
    isplitl [Hf]; · iexact Hf
    isplitl [Hg]; · iexact Hg
    isplitl [Hh]; · iexact Hh
    isplitl [Hi]; · iexact Hi
    iexact Hj
  unfold Flash.held
  rw [(step_windows t X).1, (step_windows t X).2.1, (step_windows t X).2.2]
  iintro ⟨H0, H1, H2, H3, Ha, Hb, He, Hf, Hg, Hh, Hi, Hj⟩
  isplitl [Ha Hb He Hf Hg Hh Hi Hj Hr]
  · unfold scratchAt
    isplitr [Hr]
    · iexists (stepSt t X)
      isplitr
      · ipureintro; exact hnext
      unfold scratch
      isplitl [Ha]; · iexact Ha
      isplitl [Hb]; · iexact Hb
      isplitl [He]; · iexact He
      isplitl [Hf]; · iexact Hf
      isplitl [Hg]; · iexact Hg
      isplitl [Hh]; · iexact Hh
      isplitl [Hi]; · iexact Hi
      iexact Hj
    · iexact Hr
  isplitl [HO]; · iexact HO
  isplitl [H0]; · iexact H0
  isplitl [H1]; · iexact H1
  isplitl [H2]; · iexact H2
  iexact H3

/-- Before the first point nothing is known of the scratch arrays. -/
theorem enter (c : Dev nD) : Pipeline.ΦA spec0 c ⊢ scratchAt m c 0 := by
  iintro H
  ihave H := (scratch_of c (fun _ => 0) (fun _ => 0) (fun _ => 0) (fun _ => 0)) $$ H
  icases H with ⟨⟨%X, %hX, HX⟩, Hr⟩
  unfold scratchAt
  isplitr [Hr]
  · iexists X
    isplitr
    · ipureintro; exact fun h => absurd rfl h
    · iexact HX
  · iexact Hr

/-- After the last it is forgotten. -/
theorem leave (c : Dev nD) (n : ℕ) : scratchAt m c n ⊢ Pipeline.ΦA spec0 c := by
  unfold scratchAt
  iintro ⟨⟨%X, %hX, HX⟩, Hr⟩
  iapply (of_scratch c X)
  isplitr [Hr]
  · iexact HX
  · iexact Hr

/-- The output array after all points. -/
theorem final (c : Dev nD) : (dats m 0 c).arrAt 3 cfg0.N = (Flash.attn (arrQ m c) (arrP m c) : Flash.Sres.Idx → EReal) :=
  (dats m 0 c).arrAt_eq_of_covers 3 _ (by decide +kernel) fun _ _ _ => rfl

/-- The run, with its value. -/
theorem value (hfin : ∀ c x, ∃ r : ℝ, arrQ m c x = (r : EReal)) :
    θ_run defs (onTc (τ := τ) (main (F := Ideal))) ⟨m, fun _ => 0, ρ⟩ (fun r => ∀ c : Dev nD,
      r.2.mem ((c.tc : Thread nD τ).loc main_v0) = (Flash.attn (arrQ m c) (arrP m c) : Flash.Sres.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame_track_shared cfgs (dats m) 0 launch₀0 defs₀ 𝒱₀ m ρ main (body m hfin) (fun _ _ _ => rfl) (fun _ _ => rfl)
    (V m) (hmain m 𝒱₀) (fun _ _ => rfl) (fun c => enter m c) (fun c => leave m c _) _
    (fun r h c => ⟨((h.1 c).1 3).trans (final m c),
      (((h.1 c).1 1).trans ((dats m 0 c).arrAt_in 1 rfl _)).trans (V_main_arg0 m c),
      (((h.1 c).1 2).trans ((dats m 0 c).arrAt_in 2 rfl _)).trans (V_main_arg1 m c)⟩)

end Cert.KernelIdeal.Run

end
-- ==== Proof.Flash.RefReads.lean ====
/-
  WHAT THE REFERENCE COMPUTES, AT AN INDEX. The reference's term cut into its stages (queries, keys, values, scores, maxima,
  exponentials, softmax weights, result), and each stage's element from those before it.
-/
module

public import proofs.«01_k».proof.Proof.Gen.ReferenceIdeal.Run
public import Idealize.ShloMosaic.Lib.Pointwise

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe

/-- The queries by sequence, position, key head, query head of it and column. -/
def queries (Q : FVec Ideal S40960x2560 .bf16) : FVec Ideal S5x8192x4x4x128 .f32 :=
  shapeCast _ (extf .f32 (extractStridedSlice S40960x2048 ![0, 0] Q slices_S40960x2560_S40960x2048_0_0) bitsLt_bf16_f32) shapeCasts_S40960x2048_S5x8192x4x4x128
/-- The keys. -/
def keys (Q : FVec Ideal S40960x2560 .bf16) : FVec Ideal S5x8192x4x128 .f32 :=
  shapeCast _ (extf .f32 (extractStridedSlice S40960x512 ![0, 2048] Q slices_S40960x2560_S40960x512_0_2048) bitsLt_bf16_f32) shapeCasts_S40960x512_S5x8192x4x128
/-- The values. -/
def vals (P : FVec Ideal S40960x5120 .bf16) : FVec Ideal S5x8192x4x128 .f32 :=
  shapeCast _ (extf .f32 (extractStridedSlice S40960x512 ![0, 4608] P slices_S40960x5120_S40960x512_0_4608) bitsLt_bf16_f32) shapeCasts_S40960x512_S5x8192x4x128
/-- The scores times log 2. -/
def scores (Q : FVec Ideal S40960x2560 .bf16) : FVec Ideal S5x4x4x8192x8192 .f32 :=
  mulf (transpose S5x4x4x8192x8192 [0, 1, 4, 3, 2] (Host.dotGeneral dot_S5x8192x4x128_S5x8192x4x4x128_S5x4x8192x8192x4_3_4_1_13_02_02 none (keys Q) (queries Q)) transposes_S5x4x8192x8192x4_S5x4x4x8192x8192_0_1_4_3_2) (broadcastInDim S5x4x4x8192x8192 ![] bcast_S_S5x4x4x8192x8192 (id (Host.log (constant S_ .f32 0x40000000#32))))
/-- A row along the keys from one number of it. -/
def along (x : FVec Ideal S5x4x4x8192 .f32) : FVec Ideal S5x4x4x8192x8192 .f32 :=
  broadcastInDim S5x4x4x8192x8192 ![0, 1, 2, 3, 4] bcast_S5x4x4x8192x1_S5x4x4x8192x8192_0_1_2_3_4 (broadcastInDim S5x4x4x8192x1 ![0, 1, 2, 3] bcast_S5x4x4x8192_S5x4x4x8192x1_0_1_2_3 x)
/-- A row's maximum. -/
def rowMax (x : FVec Ideal S5x4x4x8192x8192 .f32) : FVec Ideal S5x4x4x8192 .f32 :=
  Host.reduce FloatOps.maximumf x (constant S_ .f32 0xFF800000#32) reducesTo_S5x4x4x8192x8192_S5x4x4x8192_d4 h_S_
/-- The rows' maxima. -/
def tops (Q : FVec Ideal S40960x2560 .bf16) : FVec Ideal S5x4x4x8192 .f32 :=
  maximumf (broadcastInDim S5x4x4x8192 ![] bcast_S_S5x4x4x8192 (constant S_ .f32 0xFF800000#32)) (rowMax (scores Q))
/-- The exponentials. -/
def exps (Q : FVec Ideal S40960x2560 .bf16) : FVec Ideal S5x4x4x8192x8192 .f32 := Host.exp (subf (scores Q) (along (tops Q)))
/-- The softmax. -/
def weights (Q : FVec Ideal S40960x2560 .bf16) : FVec Ideal S5x4x4x8192x8192 .f32 :=
  Host.divf (exps Q) (along (Host.reduceAdd (exps Q) (constant S_ .f32 0#32) reducesTo_S5x4x4x8192x8192_S5x4x4x8192_d4 h_S_))
/-- The result. -/
def result (Q : FVec Ideal S40960x2560 .bf16) (P : FVec Ideal S40960x5120 .bf16) : FVec Ideal S40960x2048 .bf16 :=
  truncf .bf16 (shapeCast _ (transpose S5x8192x4x4x128 [0, 4, 1, 3, 2] (Host.dotGeneral dot_S5x8192x4x128_S5x4x4x8192x8192_S5x4x128x4x8192_1_4_3_23_02_01 none (vals P) (weights Q)) transposes_S5x4x128x4x8192_S5x8192x4x4x128_0_4_1_3_2) shapeCasts_S5x8192x4x4x128_S40960x2048) bitsLt_bf16_f32

/-- The reference's result is these stages'. -/
theorem res_eq (m : (ℓ : Loc nD τ sig) → Buf (Elt Ideal) ℓ) (c : Dev nD) :
    res_out0 m c = result (m ((c.tc : Thread nD τ).loc main_arg0)) (m ((c.tc : Thread nD τ).loc main_arg1)) := rfl

/-- A maximum along the last of five axes is the fold over it; at any sizes. -/
theorem fold_last {n0 n1 n2 n3 n4 : ℕ} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce max x init h hu (ix4 a b c d) = (Finset.univ : Finset (Fin n4)).fold max (init (Shape.Idx.first hu)) (fun k => x (ix5 a b c d k)) :=
  (Host.reduce_eq_fold max x init h hu _).trans (h.fold_fiber_r5_a4 _ max _ x)

variable (Q : FVec Ideal S40960x2560 .bf16) (P : FVec Ideal S40960x5120 .bf16)

theorem queries_at (b : Fin 5) (i : Fin 8192) (h g : Fin 4) (d : Fin 128) : queries Q (ix5 b i h g d)
    = Q (ix2 ⟨b.val * 8192 + i.val, by omega⟩ ⟨h.val * 512 + g.val * 128 + d.val, by omega⟩) := by
  pointwise [queries]

theorem keys_at (b : Fin 5) (i : Fin 8192) (h : Fin 4) (d : Fin 128) : keys Q (ix4 b i h d)
    = Q (ix2 ⟨b.val * 8192 + i.val, by omega⟩ ⟨2048 + (h.val * 128 + d.val), by omega⟩) := by
  pointwise [keys]

theorem vals_at (b : Fin 5) (i : Fin 8192) (h : Fin 4) (d : Fin 128) : vals P (ix4 b i h d)
    = P (ix2 ⟨b.val * 8192 + i.val, by omega⟩ ⟨4608 + (h.val * 128 + d.val), by omega⟩) := by
  pointwise [vals]

theorem scores_at (b : Fin 5) (h g : Fin 4) (i j : Fin 8192) : scores Q (ix5 b h g i j)
    = (∑ x : Fin 128, keys Q (ix4 b j h x) * queries Q (ix5 b i h g x)) * Ideal.log (Ideal.ofBits .f32 0x40000000#32) := by
  pointwise [scores]
  rfl

theorem along_at (x : FVec Ideal S5x4x4x8192 .f32) (b : Fin 5) (h g : Fin 4) (i j : Fin 8192) : along x (ix5 b h g i j) = x (ix4 b h g i) := by
  pointwise [along]

theorem rowMax_at (x : FVec Ideal S5x4x4x8192x8192 .f32) (b : Fin 5) (h g : Fin 4) (i : Fin 8192) : rowMax x (ix4 b h g i)
    = (Finset.univ : Finset (Fin 8192)).fold max (Ideal.ofBits .f32 0xFF800000#32) (fun j => x (ix5 b h g i j)) :=
  fold_last x _ _ _ b h g i

theorem start_at (r : FVec Ideal S5x4x4x8192 .f32) (b : Fin 5) (h g : Fin 4) (i : Fin 8192) :
    maximumf (broadcastInDim S5x4x4x8192 ![] bcast_S_S5x4x4x8192 (constant S_ .f32 0xFF800000#32)) r (ix4 b h g i)
      = max (Ideal.ofBits .f32 0xFF800000#32) (r (ix4 b h g i)) := by
  pointwise

theorem tops_at (b : Fin 5) (h g : Fin 4) (i : Fin 8192) : tops Q (ix4 b h g i)
    = max (Ideal.ofBits .f32 0xFF800000#32) (rowMax (scores Q) (ix4 b h g i)) := start_at (rowMax (scores Q)) b h g i

theorem exps_at (b : Fin 5) (h g : Fin 4) (i j : Fin 8192) : exps Q (ix5 b h g i j)
    = Ideal.exp (scores Q (ix5 b h g i j) - tops Q (ix4 b h g i)) := by
  rw [← along_at (tops Q) b h g i j]
  rfl

theorem weights_at (b : Fin 5) (h g : Fin 4) (i j : Fin 8192) : weights Q (ix5 b h g i j)
    = Ideal.div (exps Q (ix5 b h g i j)) (∑ x : Fin 8192, exps Q (ix5 b h g i x)) := by
  pointwise [weights, along]

theorem result_at (T : Fin 40960) (col : Fin 2048) : result Q P (ix2 T col)
    = ∑ x : Fin 8192, vals P (ix4 ⟨T.val / 8192, by omega⟩ x ⟨col.val / 512, by omega⟩ ⟨col.val % 128, by omega⟩)
        * weights Q (ix5 ⟨T.val / 8192, by omega⟩ ⟨col.val / 512, by omega⟩ ⟨col.val / 128 % 4, by omega⟩ ⟨T.val % 8192, by omega⟩ x) := by
  pointwise [result]

end Cert.ReferenceIdeal.Read

end
-- ==== Proof.Flash.RefValue.lean ====
/-
  THE REFERENCE'S VALUE. Of finite queries and keys the reference's result is the attention: its softmax weights are two to
  the scores over their sum, whatever a row's maximum is.
-/
module

public import proofs.«01_k».proof.Proof.Flash.RefReads
public import proofs.«01_k».proof.Proof.Flash.Attention
public import proofs.«01_k».proof.Proof.Flash.Consts

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe
open Finset (range)

/-- The fold of reals by `max` from `−∞` is a real. -/
theorem fold_max_real (f : Fin 8192 → ℝ) : ∃ M : ℝ, (Finset.univ : Finset (Fin 8192)).fold max (⊥ : EReal) (fun j => (f j : EReal)) = (M : EReal) := by
  obtain ⟨j, -, hj⟩ := Finset.exists_mem_eq_sup (Finset.univ : Finset (Fin 8192)) ⟨0, Finset.mem_univ _⟩ (fun j => (f j : EReal))
  exact ⟨f j, hj⟩

/-- The logarithm of 2. -/
theorem log_two : Ideal.log (Ideal.ofBits .f32 0x40000000#32) = ((Real.log 2 : ℝ) : EReal) := by
  rw [Flash.two, Ideal.log_coe, if_neg (by norm_num)]

variable (Q : FVec Ideal S40960x2560 .bf16) (P : FVec Ideal S40960x5120 .bf16)

/-- The attention's scores of a row, as reals. -/
abbrev rowScore (T : Fin 40960) (h : Fin 16) : ℕ → ℝ := fun j => (Flash.score Q T h j).toReal

variable {Q} (hQ : ∀ x, ∃ r : ℝ, Q x = (r : EReal)) (T : Fin 40960) (h : Fin 16) (b : Fin 5) (k g : Fin 4) (i : Fin 8192)
  (hT : T.val = b.val * 8192 + i.val) (hh : h.val = 4 * k.val + g.val)

include hQ hT hh

theorem scores_real (j : Fin 8192) : scores Q (ix5 b k g i j) = ((rowScore Q T h j.val * Real.log 2 : ℝ) : EReal) := by
  rw [scores_at, log_two, EReal.coe_mul, ← Flash.score_real Q hQ]
  refine congrArg (· * _) ?_
  unfold Flash.score
  refine Finset.sum_congr rfl fun x _ => ?_
  rw [keys_at, queries_at, mul_comm]
  refine congrArg₂ (· * ·) (congrArg Q (congrArg₂ ix2 (Fin.ext ?_) (Fin.ext ?_))) (congrArg Q (congrArg₂ ix2 (Fin.ext ?_) (Fin.ext ?_)))
  · show b.val * 8192 + i.val = T.val
    omega
  · show k.val * 512 + g.val * 128 + x.val = 128 * h.val + x.val
    omega
  · show b.val * 8192 + j.val = T.val / 8192 * 8192 + j.val % 8192
    omega
  · show 2048 + (k.val * 128 + x.val) = 2048 + 128 * (h.val / 4) + x.val
    omega

theorem tops_real : ∃ M : ℝ, tops Q (ix4 b k g i) = (M : EReal) := by
  obtain ⟨M, hM⟩ := fold_max_real fun j => rowScore Q T h j.val * Real.log 2
  refine ⟨M, ?_⟩
  rw [tops_at, rowMax_at, Flash.neg_inf, ← hM]
  refine (max_eq_right bot_le).trans (congrArg (fun f => (Finset.univ : Finset (Fin 8192)).fold max (⊥ : EReal) f) (funext fun j => ?_))
  exact scores_real hQ T h b k g i hT hh j

/-- The softmax's weights. -/
theorem weights_real (j : Fin 8192) : weights Q (ix5 b k g i j)
    = (((2 : ℝ) ^ rowScore Q T h j.val / Flash.total (rowScore Q T h) 8192 : ℝ) : EReal) := by
  obtain ⟨M, hM⟩ := tops_real hQ T h b k g i hT hh
  have he : ∀ x : Fin 8192, exps Q (ix5 b k g i x) = ((Real.exp (rowScore Q T h x.val * Real.log 2 - M) : ℝ) : EReal) := fun x => by
    rw [exps_at, scores_real hQ T h b k g i hT hh, hM, ← EReal.coe_sub, Ideal.exp_coe]
  rw [weights_at, he j, Finset.sum_congr rfl fun x _ => he x, ← Flash.soft_weight (rowScore Q T h) (by decide : 0 < 8192) M j.val,
    Flash.coe_sum_range, Finset.sum_range]

omit h b k g i hT hh in
/-- The reference's result at a token and a column. -/
theorem result_attn (col : Fin 2048) : result Q P (ix2 T col) = Flash.attn Q P (ix2 T col) := by
  rw [result_at]
  show _ = Flash.attnAt Q P T ⟨col.val / 128, _⟩ ⟨col.val % 128, _⟩
  unfold Flash.attnAt Flash.mean
  rw [Finset.sum_range]
  refine Finset.sum_congr rfl fun x _ => ?_
  rw [weights_real hQ T ⟨col.val / 128, by omega⟩ _ _ _ _
    (by show T.val = T.val / 8192 * 8192 + T.val % 8192; omega)
    (by show col.val / 128 = 4 * (col.val / 512) + col.val / 128 % 4; omega), vals_at, mul_comm]
  refine congrArg₂ (· * ·) rfl (congrArg P (congrArg₂ ix2 (Fin.ext ?_) (Fin.ext ?_)))
  · show T.val / 8192 * 8192 + x.val = T.val / 8192 * 8192 + x.val % 8192
    omega
  · show 4608 + (col.val / 512 * 128 + col.val % 128) = 4608 + 128 * (col.val / 128 / 4) + col.val % 128
    omega

omit T h b k g i hT hh in
/-- The reference's result is the attention. -/
theorem result_eq : result Q P = Flash.attn Q P := funext fun x => by
  obtain ⟨T, col, rfl⟩ : ∃ T col, x = ix2 T col := ⟨x 0, x 1, eq_ix2 x⟩
  exact result_attn P hQ T col

end Cert.ReferenceIdeal.Read

end
-- ==== Proof.Flash.Finite.lean ====
/-
  THE PRECONDITION READ BACK. Where every element's absolute value is below infinity, every element is a real.
-/
module

public import proofs.«01_k».proof.Pre_qk_finite
public import proofs.«01_k».proof.Proof.Flash.Consts
public import Idealize.ShloMosaic.Lib.ReduceAll
public import Idealize.ShloMosaic.Lib.Pointwise

@[expose] public section

noncomputable section

namespace Cert.Pre_qk_finite.Read

open Cert.Pre_qk_finite
open Idealize.ShloMosaic

/-- The predicate's own facts. -/
instance facts : Cert.Pre_qk_finite.Facts where
  bcast_S_S40960x2560 := by decide
  reducesTo_S40960x2560_S_d0_1 := by decide
  h_S_ := by decide

/-- An extended real whose absolute value is below infinity is a real. -/
theorem real_of_abs_lt {x : EReal} (h : max x (-x) < ⊤) : ∃ r : ℝ, x = (r : EReal) := by
  induction x with
  | bot => exact absurd h (by simp)
  | top => exact absurd h (by simp)
  | coe r => exact ⟨r, rfl⟩

/-- The comparison at an element. -/
theorem less_at (Q : FVec Ideal S40960x2560 .bf16) (h : S_.BroadcastsInDim S40960x2560 (![] : Fin 0 → Fin S40960x2560.rank)) (T : Fin 40960) (j : Fin 2560) :
    cmpf .olt (Host.absf Q) (broadcastInDim S40960x2560 ![] h (constant S_ .bf16 0x7F80#16)) (ix2 T j)
      = Ideal.cmp .olt (max (Q (ix2 T j)) (-Q (ix2 T j))) (Ideal.ofBits .bf16 0x7F80#16) := by
  rfl

/-- Under the precondition every query and key is a real. -/
theorem finite (Q : FVec Ideal S40960x2560 .bf16) (P : FVec Ideal S40960x5120 .bf16) (h : fn (F := Ideal) Q P = fun _ => 1#1) (x : S40960x2560.Idx) :
    ∃ r : ℝ, Q x = (r : EReal) := by
  haveI : Subsingleton S_.Idx := ⟨fun a b => funext fun i => i.elim0⟩
  have e := Host.reduce_andi_all _ _ _ _ ix0 (congrFun h ix0) x
  obtain ⟨T, j, rfl⟩ : ∃ T j, x = ix2 T j := ⟨x 0, x 1, eq_ix2 x⟩
  have e' := (less_at Q _ T j).symm.trans e
  rw [Flash.inf_bf16] at e'
  exact real_of_abs_lt ((Ideal.cmp_olt_eq_one _ _).1 e')

end Cert.Pre_qk_finite.Read

end
-- ==== Proof.Project.Product.lean ====
/-
  A MATRIX PRODUCT ADDED TO AN ARRAY, at any sizes: `out a w x` is `x + a w`. A block of rows of it is what the block of rows of
  `a` and of `x` gives with the whole of `w` (`out_rows`).
-/
module

public import Idealize.ShloMosaic.Lib.Pointwise

@[expose] public section

noncomputable section

namespace Cert.Project

open Idealize.ShloMosaic

variable {M K N R : ℕ}

/-- `x + a w`. -/
def out (a : (⟨2, ![M, K]⟩ : Shape).Idx → EReal) (w : (⟨2, ![K, N]⟩ : Shape).Idx → EReal) (x : (⟨2, ![M, N]⟩ : Shape).Idx → EReal) :
    (⟨2, ![M, N]⟩ : Shape).Idx → EReal :=
  fun y => x y + ∑ k : Fin K, a (ix2 (y 0) k) * w (ix2 k (y 1))

/-- The rows from a block's rows: `e`, `ea`, `ew`, `ex` place a block's elements in the arrays. -/
theorem out_rows (a : (⟨2, ![M, K]⟩ : Shape).Idx → EReal) (w : (⟨2, ![K, N]⟩ : Shape).Idx → EReal) (x : (⟨2, ![M, N]⟩ : Shape).Idx → EReal)
    (e ex : (⟨2, ![R, N]⟩ : Shape).Idx → (⟨2, ![M, N]⟩ : Shape).Idx) (ea : (⟨2, ![R, K]⟩ : Shape).Idx → (⟨2, ![M, K]⟩ : Shape).Idx)
    (ew : (⟨2, ![K, N]⟩ : Shape).Idx → (⟨2, ![K, N]⟩ : Shape).Idx) (y : (⟨2, ![R, N]⟩ : Shape).Idx)
    (hx : ex y = e y) (ha : ∀ k, ea (ix2 (y 0) k) = ix2 (e y 0) k) (hw : ∀ k, ew (ix2 k (y 1)) = ix2 k (e y 1)) :
    out (fun i => a (ea i)) (fun i => w (ew i)) (fun i => x (ex i)) y = out a w x (e y) :=
  congrArg₂ (· + ·) (congrArg x hx) (Finset.sum_congr rfl fun k _ => congrArg₂ (· * ·) (congrArg a (ha k)) (congrArg w (hw k)))

end Cert.Project

end
-- ==== Proof.Project.FfnOut.lean ====
/-
  THE CHANNEL MIXER'S OUTPUT PRODUCT. The kernel's run and the reference's both end with `x + a w`.
-/
module

public import proofs.«01_k».proof.Proof.Gen.FfnOut.Frame
public import proofs.«01_k».proof.Proof.Gen.FfnOutIdeal.Frame
public import proofs.«01_k».proof.Proof.Gen.FfnOutReferenceIdeal.Run
public import proofs.«01_k».proof.Proof.Project.Product
public import proofs.«01_k».proof.Defs
public import Idealize.ShloMosaic.Lib.Pipeline.ValueKit.Geometry

@[expose] public section

set_option maxRecDepth 16384

noncomputable section

namespace Cert.FfnOutIdeal.Run

open Cert.FfnOutIdeal Cert.FfnOutIdeal.Gen
open Idealize.ShloMosaic Idealize.ShloMosaic.TcCoe
open Idealize.SL.Sem

/-- What the body stores is the product of its blocks. -/
theorem block (x : Vec Ideal S512x2048 .f32) (a : Vec Ideal S512x5632 .bf16) (w : Vec Ideal S5632x2048 .bf16) :
    k0_pay1 (F := Ideal) x a w = Project.out (M := 512) (K := 5632) (N := 2048) a w x := by
  refine funext fun y => ?_
  obtain ⟨i, j, rfl⟩ : ∃ i j, y = ix2 i j := ⟨y 0, y 1, eq_ix2 y⟩
  pointwise [k0_pay1]
  rfl

variable (m : (ℓ : Loc nD τ sig) → Buf (Elt Ideal) ℓ) (ρ : Dev nD → PrngReg) (c : Dev nD)

/-- The result of the argument arrays. -/
def result : S40960x2048.Idx → EReal :=
  Project.out (M := 40960) (K := 5632) (N := 2048) (m ((c.tc : Thread nD τ).loc main_arg0)) (m ((c.tc : Thread nD τ).loc main_arg1))
    (m ((c.tc : Thread nD τ).loc main_arg2))

theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The output array after all points. -/
theorem final : (dats m 0 c).arrAt 3 cfg0.N = result m c := by
  refine (dats m 0 c).arrAt_eq_of_covers 3 _ (by decide +kernel) fun t hf y => ?_
  blk_simp
  rw [after0_3]
  obtain ⟨h0, h1, h2, h3⟩ := index t
  unfold out0_3
  rw [View.canon_unit_zero (by decide), block, View.ld_unit_zero (by decide), View.ld_unit_zero (by decide), View.ld_unit_zero (by decide)]
  refine Project.out_rows (M := 40960) (K := 5632) (N := 2048) (R := 512) (m ((c.tc : Thread nD τ).loc main_arg0)) (m ((c.tc : Thread nD τ).loc main_arg1))
    (m ((c.tc : Thread nD τ).loc main_arg2)) (win0_3.blk t).view.emb (win0_2.blk t).view.emb (win0_0.blk t).view.emb (win0_1.blk t).view.emb y ?_ (fun k => ?_) fun k => ?_
  · blk_ext [h2, h3]
  · blk_ext [h0, h3]
  · blk_ext [h1, h3]

/-- The run, with its value. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_main m ρ) (unchanged m ρ))

end Cert.FfnOutIdeal.Run

namespace Cert.FfnOutReferenceIdeal.Run

open Cert.FfnOutReferenceIdeal Cert.FfnOutReferenceIdeal.Gen Cert.FfnOutReferenceIdeal.Value
open Idealize.ShloMosaic Idealize.ShloMosaic.TcCoe
open Idealize.SL.Sem

variable (m : (ℓ : Loc nD τ sig) → Buf (Elt Ideal) ℓ) (g : Dev nD → PrngReg)

/-- The reference's term is the product. -/
theorem term (a : FVec Ideal S40960x5632 .bf16) (w : FVec Ideal S5632x2048 .bf16) (x : FVec Ideal S40960x2048 .f32) :
    addf x (Host.dotGeneral dot_S40960x5632_S5632x2048_S40960x2048_1_0_0_1_n_n none (extf .f32 a bitsLt_bf16_f32) (extf .f32 w bitsLt_bf16_f32))
      = Project.out (M := 40960) (K := 5632) (N := 2048) a w x := by
  refine funext fun y => ?_
  obtain ⟨i, j, rfl⟩ : ∃ i j, y = ix2 i j := ⟨y 0, y 1, eq_ix2 y⟩
  pointwise
  rfl

/-- The run leaves the arguments alone, and there is no semaphore. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m g)

/-- The kernel and the reference compute one value. -/
theorem algebraic : Cert.algebraic_FfnOutIdeal_FfnOutReferenceIdeal := by
  intro m g m' g' _ hagree
  refine ⟨fun c => Cert.FfnOutIdeal.Run.result m c, Cert.FfnOutIdeal.Run.value m g, ?_⟩
  refine (θ_run defs _ _).mono (fun r h c => ⟨(h c).1.trans ?_, (h c).2⟩) (Value.run m' g')
  refine (term _ _ _).trans ?_
  rw [(hagree c).1, (hagree c).2.1, (hagree c).2.2]
  rfl

end Cert.FfnOutReferenceIdeal.Run

end
-- ==== Proof.Project.EvenOut.lean ====
/-
  AN EVEN LAYER'S OUTPUT PRODUCT. The kernel's run and the reference's both end with `x + a w`.
-/
module

public import proofs.«01_k».proof.Proof.Gen.EvenOut.Frame
public import proofs.«01_k».proof.Proof.Gen.EvenOutIdeal.Frame
public import proofs.«01_k».proof.Proof.Gen.EvenOutReferenceIdeal.Run
public import proofs.«01_k».proof.Proof.Project.Product
public import proofs.«01_k».proof.Defs
public import Idealize.ShloMosaic.Lib.Pipeline.ValueKit.Geometry

@[expose] public section

set_option maxRecDepth 16384

noncomputable section

namespace Cert.EvenOutIdeal.Run

open Cert.EvenOutIdeal Cert.EvenOutIdeal.Gen
open Idealize.ShloMosaic Idealize.ShloMosaic.TcCoe
open Idealize.SL.Sem

/-- What the body stores is the product of its blocks. -/
theorem block (x : Vec Ideal S512x2048 .f32) (a : Vec Ideal S512x4096 .bf16) (w : Vec Ideal S4096x2048 .bf16) :
    k0_pay1 (F := Ideal) x a w = Project.out (M := 512) (K := 4096) (N := 2048) a w x := by
  refine funext fun y => ?_
  obtain ⟨i, j, rfl⟩ : ∃ i j, y = ix2 i j := ⟨y 0, y 1, eq_ix2 y⟩
  pointwise [k0_pay1]
  rfl

variable (m : (ℓ : Loc nD τ sig) → Buf (Elt Ideal) ℓ) (ρ : Dev nD → PrngReg) (c : Dev nD)

/-- The result of the argument arrays. -/
def result : S40960x2048.Idx → EReal :=
  Project.out (M := 40960) (K := 4096) (N := 2048) (m ((c.tc : Thread nD τ).loc main_arg0)) (m ((c.tc : Thread nD τ).loc main_arg1))
    (m ((c.tc : Thread nD τ).loc main_arg2))

theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The output array after all points. -/
theorem final : (dats m 0 c).arrAt 3 cfg0.N = result m c := by
  refine (dats m 0 c).arrAt_eq_of_covers 3 _ (by decide +kernel) fun t hf y => ?_
  blk_simp
  rw [after0_3]
  obtain ⟨h0, h1, h2, h3⟩ := index t
  unfold out0_3
  rw [View.canon_unit_zero (by decide), block, View.ld_unit_zero (by decide), View.ld_unit_zero (by decide), View.ld_unit_zero (by decide)]
  refine Project.out_rows (M := 40960) (K := 4096) (N := 2048) (R := 512) (m ((c.tc : Thread nD τ).loc main_arg0)) (m ((c.tc : Thread nD τ).loc main_arg1))
    (m ((c.tc : Thread nD τ).loc main_arg2)) (win0_3.blk t).view.emb (win0_2.blk t).view.emb (win0_0.blk t).view.emb (win0_1.blk t).view.emb y ?_ (fun k => ?_) fun k => ?_
  · blk_ext [h2, h3]
  · blk_ext [h0, h3]
  · blk_ext [h1, h3]

/-- The run, with its value. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_main m ρ) (unchanged m ρ))

end Cert.EvenOutIdeal.Run

namespace Cert.EvenOutReferenceIdeal.Run

open Cert.EvenOutReferenceIdeal Cert.EvenOutReferenceIdeal.Gen Cert.EvenOutReferenceIdeal.Value
open Idealize.ShloMosaic Idealize.ShloMosaic.TcCoe
open Idealize.SL.Sem

variable (m : (ℓ : Loc nD τ sig) → Buf (Elt Ideal) ℓ) (g : Dev nD → PrngReg)

/-- The reference's term is the product. -/
theorem term (a : FVec Ideal S40960x4096 .bf16) (w : FVec Ideal S4096x2048 .bf16) (x : FVec Ideal S40960x2048 .f32) :
    addf x (Host.dotGeneral dot_S40960x4096_S4096x2048_S40960x2048_1_0_0_1_n_n none (extf .f32 a bitsLt_bf16_f32) (extf .f32 w bitsLt_bf16_f32))
      = Project.out (M := 40960) (K := 4096) (N := 2048) a w x := by
  refine funext fun y => ?_
  obtain ⟨i, j, rfl⟩ : ∃ i j, y = ix2 i j := ⟨y 0, y 1, eq_ix2 y⟩
  pointwise
  rfl

/-- The run leaves the arguments alone, and there is no semaphore. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m g)

/-- The kernel and the reference compute one value. -/
theorem algebraic : Cert.algebraic_EvenOutIdeal_EvenOutReferenceIdeal := by
  intro m g m' g' _ hagree
  refine ⟨fun c => Cert.EvenOutIdeal.Run.result m c, Cert.EvenOutIdeal.Run.value m g, ?_⟩
  refine (θ_run defs _ _).mono (fun r h c => ⟨(h c).1.trans ?_, (h c).2⟩) (Value.run m' g')
  refine (term _ _ _).trans ?_
  rw [(hagree c).1, (hagree c).2.1, (hagree c).2.2]
  rfl

end Cert.EvenOutReferenceIdeal.Run

end
-- ==== Proof.Project.CrossOut.lean ====
/-
  THE CROSS-ATTENTION'S OUTPUT PRODUCT. The kernel's run and the reference's both end with `x + a w`.
-/
module

public import proofs.«01_k».proof.Proof.Gen.CrossOut.Frame
public import proofs.«01_k».proof.Proof.Gen.CrossOutIdeal.Frame
public import proofs.«01_k».proof.Proof.Gen.CrossOutReferenceIdeal.Run
public import proofs.«01_k».proof.Proof.Project.Product
public import proofs.«01_k».proof.Defs
public import Idealize.ShloMosaic.Lib.Pipeline.ValueKit.Geometry

@[expose] public section

set_option maxRecDepth 16384

noncomputable section

namespace Cert.CrossOutIdeal.Run

open Cert.CrossOutIdeal Cert.CrossOutIdeal.Gen
open Idealize.ShloMosaic Idealize.ShloMosaic.TcCoe
open Idealize.SL.Sem

/-- What the body stores is the product of its blocks. -/
theorem block (x : Vec Ideal S512x2048 .f32) (a : Vec Ideal S512x2048 .bf16) (w : Vec Ideal S2048x2048 .bf16) :
    k0_pay1 (F := Ideal) x a w = Project.out (M := 512) (K := 2048) (N := 2048) a w x := by
  refine funext fun y => ?_
  obtain ⟨i, j, rfl⟩ : ∃ i j, y = ix2 i j := ⟨y 0, y 1, eq_ix2 y⟩
  pointwise [k0_pay1]
  rfl

variable (m : (ℓ : Loc nD τ sig) → Buf (Elt Ideal) ℓ) (ρ : Dev nD → PrngReg) (c : Dev nD)

/-- The result of the argument arrays. -/
def result : S40960x2048.Idx → EReal :=
  Project.out (M := 40960) (K := 2048) (N := 2048) (m ((c.tc : Thread nD τ).loc main_arg0)) (m ((c.tc : Thread nD τ).loc main_arg1))
    (m ((c.tc : Thread nD τ).loc main_arg2))

theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The output array after all points. -/
theorem final : (dats m 0 c).arrAt 3 cfg0.N = result m c := by
  refine (dats m 0 c).arrAt_eq_of_covers 3 _ (by decide +kernel) fun t hf y => ?_
  blk_simp
  rw [after0_3]
  obtain ⟨h0, h1, h2, h3⟩ := index t
  unfold out0_3
  rw [View.canon_unit_zero (by decide), block, View.ld_unit_zero (by decide), View.ld_unit_zero (by decide), View.ld_unit_zero (by decide)]
  refine Project.out_rows (M := 40960) (K := 2048) (N := 2048) (R := 512) (m ((c.tc : Thread nD τ).loc main_arg0)) (m ((c.tc : Thread nD τ).loc main_arg1))
    (m ((c.tc : Thread nD τ).loc main_arg2)) (win0_3.blk t).view.emb (win0_2.blk t).view.emb (win0_0.blk t).view.emb (win0_1.blk t).view.emb y ?_ (fun k => ?_) fun k => ?_
  · blk_ext [h2, h3]
  · blk_ext [h0, h3]
  · blk_ext [h1, h3]

/-- The run, with its value. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_main m ρ) (unchanged m ρ))

end Cert.CrossOutIdeal.Run

namespace Cert.CrossOutReferenceIdeal.Run

open Cert.CrossOutReferenceIdeal Cert.CrossOutReferenceIdeal.Gen Cert.CrossOutReferenceIdeal.Value
open Idealize.ShloMosaic Idealize.ShloMosaic.TcCoe
open Idealize.SL.Sem

variable (m : (ℓ : Loc nD τ sig) → Buf (Elt Ideal) ℓ) (g : Dev nD → PrngReg)

/-- The reference's term is the product. -/
theorem term (a : FVec Ideal S40960x2048 .bf16) (w : FVec Ideal S2048x2048 .bf16) (x : FVec Ideal S40960x2048 .f32) :
    addf x (Host.dotGeneral dot_S40960x2048_S2048x2048_S40960x2048_1_0_0_1_n_n none (extf .f32 a bitsLt_bf16_f32) (extf .f32 w bitsLt_bf16_f32))
      = Project.out (M := 40960) (K := 2048) (N := 2048) a w x := by
  refine funext fun y => ?_
  obtain ⟨i, j, rfl⟩ : ∃ i j, y = ix2 i j := ⟨y 0, y 1, eq_ix2 y⟩
  pointwise
  rfl

/-- The run leaves the arguments alone, and there is no semaphore. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m g)

/-- The kernel and the reference compute one value. -/
theorem algebraic : Cert.algebraic_CrossOutIdeal_CrossOutReferenceIdeal := by
  intro m g m' g' _ hagree
  refine ⟨fun c => Cert.CrossOutIdeal.Run.result m c, Cert.CrossOutIdeal.Run.value m g, ?_⟩
  refine (θ_run defs _ _).mono (fun r h c => ⟨(h c).1.trans ?_, (h c).2⟩) (Value.run m' g')
  refine (term _ _ _).trans ?_
  rw [(hagree c).1, (hagree c).2.1, (hagree c).2.2]
  rfl

end Cert.CrossOutReferenceIdeal.Run

end
-- ==== Proof.Project.HyenaOut.lean ====
/-
  AN ODD LAYER'S OUTPUT PRODUCT. Its left factor comes as float32. The kernel's run and the reference's both end with `x + a w`.
-/
module

public import proofs.«01_k».proof.Proof.Gen.HyenaOut.Frame
public import proofs.«01_k».proof.Proof.Gen.HyenaOutIdeal.Frame
public import proofs.«01_k».proof.Proof.Gen.HyenaOutReferenceIdeal.Run
public import proofs.«01_k».proof.Proof.Project.Product
public import proofs.«01_k».proof.Defs
public import Idealize.ShloMosaic.Lib.Pipeline.ValueKit.Geometry

@[expose] public section

set_option maxRecDepth 16384

noncomputable section

namespace Cert.HyenaOutIdeal.Run

open Cert.HyenaOutIdeal Cert.HyenaOutIdeal.Gen
open Idealize.ShloMosaic Idealize.ShloMosaic.TcCoe
open Idealize.SL.Sem

/-- What the body stores is the product of its blocks. -/
theorem block (x : Vec Ideal S512x2048 .f32) (a : Vec Ideal S512x2048 .f32) (w : Vec Ideal S2048x2048 .bf16) :
    k0_pay1 (F := Ideal) x a w = Project.out (M := 512) (K := 2048) (N := 2048) a w x := by
  refine funext fun y => ?_
  obtain ⟨i, j, rfl⟩ : ∃ i j, y = ix2 i j := ⟨y 0, y 1, eq_ix2 y⟩
  pointwise [k0_pay1]
  rfl

variable (m : (ℓ : Loc nD τ sig) → Buf (Elt Ideal) ℓ) (ρ : Dev nD → PrngReg) (c : Dev nD)

/-- The result of the argument arrays. -/
def result : S40960x2048.Idx → EReal :=
  Project.out (M := 40960) (K := 2048) (N := 2048) (m ((c.tc : Thread nD τ).loc main_arg0)) (m ((c.tc : Thread nD τ).loc main_arg1))
    (m ((c.tc : Thread nD τ).loc main_arg2))

theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The output array after all points. -/
theorem final : (dats m 0 c).arrAt 3 cfg0.N = result m c := by
  refine (dats m 0 c).arrAt_eq_of_covers 3 _ (by decide +kernel) fun t hf y => ?_
  blk_simp
  rw [after0_3]
  obtain ⟨h0, h1, h2, h3⟩ := index t
  unfold out0_3
  rw [View.canon_unit_zero (by decide), block, View.ld_unit_zero (by decide), View.ld_unit_zero (by decide), View.ld_unit_zero (by decide)]
  refine Project.out_rows (M := 40960) (K := 2048) (N := 2048) (R := 512) (m ((c.tc : Thread nD τ).loc main_arg0)) (m ((c.tc : Thread nD τ).loc main_arg1))
    (m ((c.tc : Thread nD τ).loc main_arg2)) (win0_3.blk t).view.emb (win0_2.blk t).view.emb (win0_0.blk t).view.emb (win0_1.blk t).view.emb y ?_ (fun k => ?_) fun k => ?_
  · blk_ext [h2, h3]
  · blk_ext [h0, h3]
  · blk_ext [h1, h3]

/-- The run, with its value. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_main m ρ) (unchanged m ρ))

end Cert.HyenaOutIdeal.Run

namespace Cert.HyenaOutReferenceIdeal.Run

open Cert.HyenaOutReferenceIdeal Cert.HyenaOutReferenceIdeal.Gen Cert.HyenaOutReferenceIdeal.Value
open Idealize.ShloMosaic Idealize.ShloMosaic.TcCoe
open Idealize.SL.Sem

variable (m : (ℓ : Loc nD τ sig) → Buf (Elt Ideal) ℓ) (g : Dev nD → PrngReg)

/-- The reference's term is the product. -/
theorem term (a : FVec Ideal S40960x2048 .f32) (w : FVec Ideal S2048x2048 .bf16) (x : FVec Ideal S40960x2048 .f32) :
    addf x (Host.dotGeneral dot_S40960x2048_S2048x2048_S40960x2048_1_0_0_1_n_n none a (extf .f32 w bitsLt_bf16_f32))
      = Project.out (M := 40960) (K := 2048) (N := 2048) a w x := by
  refine funext fun y => ?_
  obtain ⟨i, j, rfl⟩ : ∃ i j, y = ix2 i j := ⟨y 0, y 1, eq_ix2 y⟩
  pointwise
  rfl

/-- The run leaves the arguments alone, and there is no semaphore. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m g)

/-- The kernel and the reference compute one value. -/
theorem algebraic : Cert.algebraic_HyenaOutIdeal_HyenaOutReferenceIdeal := by
  intro m g m' g' _ hagree
  refine ⟨fun c => Cert.HyenaOutIdeal.Run.result m c, Cert.HyenaOutIdeal.Run.value m g, ?_⟩
  refine (θ_run defs _ _).mono (fun r h c => ⟨(h c).1.trans ?_, (h c).2⟩) (Value.run m' g')
  refine (term _ _ _).trans ?_
  rw [(hagree c).1, (hagree c).2.1, (hagree c).2.2]
  rfl

end Cert.HyenaOutReferenceIdeal.Run

end
-- ==== Proof.Project.Norm.lean ====
/-
  NORMALISED ROWS AND THEIR PRODUCT, at any sizes: `rows x g` is each row of `x` times the reciprocal square root of its mean square
  plus a small constant, times `g` along the row; `out x g w` is the product of that with `w`. A block of rows of `out` is what the
  block of rows of `x` gives with a block of columns of `w` (`out_rows`). The numbers are the ones both programs print: the row
  length 2048 and the constant 1e-6, as float words.
-/
module

public import Idealize.ShloMosaic.Lib.Pointwise

@[expose] public section

noncomputable section

namespace Cert.Norm

open Idealize.ShloMosaic

variable {M D N R C : ℕ}

/-- The normalised rows. -/
def rows (x : (⟨2, ![M, D]⟩ : Shape).Idx → EReal) (g : Fin D → EReal) : (⟨2, ![M, D]⟩ : Shape).Idx → EReal :=
  fun y => x y * Ideal.rsqrt (Ideal.div (∑ k : Fin D, x (ix2 (y 0) k) * x (ix2 (y 0) k)) (Ideal.ofBits FTy.f32 0x45000000#32)
    + Ideal.ofBits FTy.f32 0x358637BD#32) * g (y 1)

/-- Their product. -/
def out (x : (⟨2, ![M, D]⟩ : Shape).Idx → EReal) (g : Fin D → EReal) (w : (⟨2, ![D, N]⟩ : Shape).Idx → EReal) :
    (⟨2, ![M, N]⟩ : Shape).Idx → EReal :=
  fun y => ∑ k : Fin D, rows x g (ix2 (y 0) k) * w (ix2 k (y 1))

/-- A row is normalised from itself alone. -/
theorem rows_row (x : (⟨2, ![M, D]⟩ : Shape).Idx → EReal) (x' : (⟨2, ![R, D]⟩ : Shape).Idx → EReal) (g g' : Fin D → EReal)
    (i : Fin M) (i' : Fin R) (hx : ∀ k, x' (ix2 i' k) = x (ix2 i k)) (hg : ∀ k, g' k = g k) (k : Fin D) :
    rows x' g' (ix2 i' k) = rows x g (ix2 i k) := by
  show x' (ix2 i' k) * Ideal.rsqrt (Ideal.div (∑ l : Fin D, x' (ix2 i' l) * x' (ix2 i' l)) _ + _) * g' k
    = x (ix2 i k) * Ideal.rsqrt (Ideal.div (∑ l : Fin D, x (ix2 i l) * x (ix2 i l)) _ + _) * g k
  simp only [hx, hg]

/-- An element of the product from a block's row and a block's column. -/
theorem out_rows (x : (⟨2, ![M, D]⟩ : Shape).Idx → EReal) (x' : (⟨2, ![R, D]⟩ : Shape).Idx → EReal) (g g' : Fin D → EReal)
    (w : (⟨2, ![D, N]⟩ : Shape).Idx → EReal) (w' : (⟨2, ![D, C]⟩ : Shape).Idx → EReal)
    (y : (⟨2, ![M, N]⟩ : Shape).Idx) (y' : (⟨2, ![R, C]⟩ : Shape).Idx)
    (hx : ∀ k, x' (ix2 (y' 0) k) = x (ix2 (y 0) k)) (hg : ∀ k, g' k = g k) (hw : ∀ k, w' (ix2 k (y' 1)) = w (ix2 k (y 1))) :
    out x' g' w' y' = out x g w y :=
  Finset.sum_congr rfl fun k _ => congrArg₂ (· * ·) (rows_row x x' g g' (y 0) (y' 0) hx hg k) (hw k)

end Cert.Norm

end
-- ==== Proof.Project.EvenIn.lean ====
/-
  THE EVEN BLOCK'S INPUT PRODUCT. The kernel's run and the reference's both end with the product of the normalised rows with `w`.
-/
module

public import proofs.«01_k».proof.Proof.Gen.EvenIn.Frame
public import proofs.«01_k».proof.Proof.Gen.EvenInIdeal.Frame
public import proofs.«01_k».proof.Proof.Gen.EvenInReferenceIdeal.Run
public import proofs.«01_k».proof.Proof.Project.Norm
public import proofs.«01_k».proof.Defs
public import Idealize.ShloMosaic.Lib.Pipeline.ValueKit.Geometry
public import Idealize.ShloMosaic.Lib.VecWindow

@[expose] public section

set_option maxRecDepth 16384

noncomputable section

namespace Cert.EvenInIdeal.Run

open Cert.EvenInIdeal Cert.EvenInIdeal.Gen
open Idealize.ShloMosaic Idealize.ShloMosaic.TcCoe
open Idealize.SL.Sem

/-- What the body stores is the product of its blocks, the rows normalised. -/
theorem block (x : Vec Ideal S512x2048 .f32) (g : Vec Ideal S1x2048 .f32) (w : Vec Ideal S2048x5120 .bf16) :
    k0_pay2 (F := Ideal) (k0_pay1 x g) w = Norm.out (M := 512) (D := 2048) (N := 5120) x (fun k => g (ix2 0 k)) w := by
  refine funext fun y => ?_
  obtain ⟨i, j, rfl⟩ : ∃ i j, y = ix2 i j := ⟨y 0, y 1, eq_ix2 y⟩
  pointwise [k0_pay2, k0_pay1]
  rfl

variable (m : (ℓ : Loc nD τ sig) → Buf (Elt Ideal) ℓ) (ρ : Dev nD → PrngReg) (c : Dev nD)

/-- What a point leaves, of its blocks. -/
theorem point (t : Fin cfg0.N) : outsAt0 m c t = k0_pay2 (k0_pay1 (iblk m c 0 t) (iblk m c 1 t)) (iblk m c 2 t) := by
  unfold outsAt0 out0_A_3
  rw [View.read_writes_junk_eq_canon]
  unfold kernelRun0_A
  dsimp only
  rw [View.canon_unit_zero (by decide)]
  unfold kernelRun0_A.sl.v3
  exact congrArg₂ _ ((View.readCov_full _ _ _ _ _).trans (congrArg₂ _ ((View.readAt_full _ _ _).trans (Memref.IsWhole.read_unread _ _))
    ((View.readAt_full _ _ _).trans (Memref.IsWhole.read_unread _ _)))) ((View.readAt_full _ _ _).trans (Memref.IsWhole.read_unread _ _))

/-- The gains as the kernel's one row: the argument's, reshaped. -/
theorem gains (k : Fin 2048) : (V m c main_v0 : S1x2048.Idx → EReal) (ix2 0 k) = (m ((c.tc : Thread nD τ).loc main_arg1) : S2048.Idx → EReal) (ix1 k) := by
  have h : (V m c main_v0 : S1x2048.Idx → EReal)
      = shapeCast S1x2048 (m ((c.tc : Thread nD τ).loc main_arg1) : Vec Ideal S2048 .f32) shapeCasts_S2048_S1x2048 := by
    unfold V hostOps0
    after_results
    rfl
  rw [h]
  generalize (m ((c.tc : Thread nD τ).loc main_arg1) : Vec Ideal S2048 .f32) = g
  pointwise

/-- The result of the argument arrays. -/
def result : S40960x5120.Idx → EReal :=
  Norm.out (M := 40960) (D := 2048) (N := 5120) (m ((c.tc : Thread nD τ).loc main_arg0))
    (fun k => (m ((c.tc : Thread nD τ).loc main_arg1) : S2048.Idx → EReal) (ix1 k)) (m ((c.tc : Thread nD τ).loc main_arg2))

theorem index : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The output array after all points. -/
theorem final : (dats m 0 c).arrAt 3 cfg0.N = result m c := by
  refine (dats m 0 c).arrAt_eq_of_covers 3 _ (by decide +kernel) fun t hf y => ?_
  blk_simp
  rw [after0_3]
  obtain ⟨h0, h1, h2, h3⟩ := index t
  rw [point, block]
  refine Norm.out_rows (M := 40960) (D := 2048) (N := 5120) (R := 512) (C := 5120) _ _ _ _ _ _ ((win0_3.blk t).view.emb y) y (fun k => ?_) (fun k => ?_) fun k => ?_
  · refine (congrFun (V_main_arg0 m c) _).trans (congrArg (m ((c.tc : Thread nD τ).loc main_arg0)) ?_)
    blk_ext [h0, h3]
  · refine Eq.trans (congrArg (V m c main_v0 : S1x2048.Idx → EReal) ?_) (gains m c k)
    blk_ext [h1]
  · refine (congrFun (V_main_arg2 m c) _).trans (congrArg (m ((c.tc : Thread nD τ).loc main_arg2)) ?_)
    blk_ext [h2, h3]

/-- The run, with its value. -/
theorem value : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_main m ρ) (unchanged m ρ))

end Cert.EvenInIdeal.Run

namespace Cert.EvenInReferenceIdeal.Run

open Cert.EvenInReferenceIdeal Cert.EvenInReferenceIdeal.Gen Cert.EvenInReferenceIdeal.Value
open Idealize.ShloMosaic Idealize.ShloMosaic.TcCoe
open Idealize.SL.Sem

variable (m : (ℓ : Loc nD τ sig) → Buf (Elt Ideal) ℓ) (g : Dev nD → PrngReg)

/-- The reference's term is the product of the normalised rows. -/
theorem term (x : FVec Ideal S40960x2048 .f32) (g : FVec Ideal S2048 .f32) (w : FVec Ideal S2048x5120 .bf16) :
    truncf .bf16 (Host.dotGeneral dot_S40960x2048_S2048x5120_S40960x5120_1_0_0_1_n_n none (mulf (mulf x
        (broadcastInDim S40960x2048 ![0, 1] bcast_S40960x1_S40960x2048_0_1 (Host.rsqrt (addf (Host.divf (broadcastInDim S40960x1 ![0]
          bcast_S40960_S40960x1_0 (Host.reduceAdd (mulf x x) (constant S_ .f32 0x00000000#32) reducesTo_S40960x2048_S40960_d1 h_S_))
          (broadcastInDim S40960x1 ![] bcast_S_S40960x1 (constant S_ .f32 0x45000000#32)))
          (broadcastInDim S40960x1 ![] bcast_S_S40960x1 (constant S_ .f32 0x358637BD#32))))))
        (broadcastInDim S40960x2048 ![0, 1] bcast_S1x2048_S40960x2048_0_1 (broadcastInDim S1x2048 ![1] bcast_S2048_S1x2048_1 g)))
      (extf .f32 w bitsLt_bf16_f32)) bitsLt_bf16_f32
      = Norm.out (M := 40960) (D := 2048) (N := 5120) x (fun k => g (ix1 k)) w := by
  refine funext fun y => ?_
  obtain ⟨i, j, rfl⟩ : ∃ i j, y = ix2 i j := ⟨y 0, y 1, eq_ix2 y⟩
  pointwise
  rfl

/-- The run leaves the arguments alone, and there is no semaphore. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m g)

/-- The kernel and the reference compute one value. -/
theorem algebraic : Cert.algebraic_EvenInIdeal_EvenInReferenceIdeal := by
  intro m g m' g' _ hagree
  refine ⟨fun c => Cert.EvenInIdeal.Run.result m c, Cert.EvenInIdeal.Run.value m g, ?_⟩
  refine (θ_run defs _ _).mono (fun r h c => ⟨(h c).1.trans ?_, (h c).2⟩) (Value.run m' g')
  refine (term _ _ _).trans ?_
  rw [(hagree c).1, (hagree c).2.1, (hagree c).2.2]
  rfl

end Cert.EvenInReferenceIdeal.Run

end
-- ==== Proof.Project.CrossIn.lean ====
/-
  THE CROSS ATTENTION'S QUERY PRODUCT. The kernel's run and the reference's both end with the product of the normalised rows with `w`.
-/
module

public import proofs.«01_k».proof.Proof.Gen.CrossIn.Frame
public import proofs.«01_k».proof.Proof.Gen.CrossInIdeal.Frame
public import proofs.«01_k».proof.Proof.Gen.CrossInReferenceIdeal.Run
public import proofs.«01_k».proof.Proof.Project.Norm
public import proofs.«01_k».proof.Defs
public import Idealize.ShloMosaic.Lib.Pipeline.ValueKit.Geometry
public import Idealize.ShloMosaic.Lib.VecWindow

@[expose] public section

set_option maxRecDepth 16384

noncomputable section

namespace Cert.CrossInIdeal.Run

open Cert.CrossInIdeal Cert.CrossInIdeal.Gen
open Idealize.ShloMosaic Idealize.ShloMosaic.TcCoe
open Idealize.SL.Sem

/-- What the body stores is the product of its blocks, the rows normalised. -/
theorem block (x : Vec Ideal S1024x2048 .f32) (g : Vec Ideal S1x2048 .f32) (w : Vec Ideal S2048x2048 .bf16) :
    k0_pay2 (F := Ideal) (k0_pay1 x g) w = Norm.out (M := 1024) (D := 2048) (N := 2048) x (fun k => g (ix2 0 k)) w := by
  refine funext fun y => ?_
  obtain ⟨i, j, rfl⟩ : ∃ i j, y = ix2 i j := ⟨y 0, y 1, eq_ix2 y⟩
  pointwise [k0_pay2, k0_pay1]
  rfl

variable (m : (ℓ : Loc nD τ sig) → Buf (Elt Ideal) ℓ) (ρ : Dev nD → PrngReg) (c : Dev nD)

/-- What a point leaves, of its blocks. -/
theorem point (t : Fin cfg0.N) : outsAt0 m c t = k0_pay2 (k0_pay1 (iblk m c 0 t) (iblk m c 1 t)) (iblk m c 2 t) := by
  unfold outsAt0 out0_A_3
  rw [View.read_writes_junk_eq_canon]
  unfold kernelRun0_A
  dsimp only
  rw [View.canon_unit_zero (by decide)]
  unfold kernelRun0_A.sl.v3
  exact congrArg₂ _ ((View.readCov_full _ _ _ _ _).trans (congrArg₂ _ ((View.readAt_full _ _ _).trans (Memref.IsWhole.read_unread _ _))
    ((View.readAt_full _ _ _).trans (Memref.IsWhole.read_unread _ _)))) ((View.readAt_full _ _ _).trans (Memref.IsWhole.read_unread _ _))

/-- The gains as the kernel's one row: the argument's, reshaped. -/
theorem gains (k : Fin 2048) : (V m c main_v0 : S1x2048.Idx → EReal) (ix2 0 k) = (m ((c.tc : Thread nD τ).loc main_arg1) : S2048.Idx → EReal) (ix1 k) := by
  have h : (V m c main_v0 : S1x2048.Idx → EReal)
      = shapeCast S1x2048 (m ((c.tc : Thread nD τ).loc main_arg1) : Vec Ideal S2048 .f32) shapeCasts_S2048_S1x2048 := by
    unfold V hostOps0
    after_results
    rfl
  rw [h]
  generalize (m ((c.tc : Thread nD τ).loc main_arg1) : Vec Ideal S2048 .f32) = g
  pointwise

/-- The result of the argument arrays. -/
def result : S40960x2048.Idx → EReal :=
  Norm.out (M := 40960) (D := 2048) (N := 2048) (m ((c.tc : Thread nD τ).loc main_arg0))
    (fun k => (m ((c.tc : Thread nD τ).loc main_arg1) : S2048.Idx → EReal) (ix1 k)) (m ((c.tc : Thread nD τ).loc main_arg2))

theorem index : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The output array after all points. -/
theorem final : (dats m 0 c).arrAt 3 cfg0.N = result m c := by
  refine (dats m 0 c).arrAt_eq_of_covers 3 _ (by decide +kernel) fun t hf y => ?_
  blk_simp
  rw [after0_3]
  obtain ⟨h0, h1, h2, h3⟩ := index t
  rw [point, block]
  refine Norm.out_rows (M := 40960) (D := 2048) (N := 2048) (R := 1024) (C := 2048) _ _ _ _ _ _ ((win0_3.blk t).view.emb y) y (fun k => ?_) (fun k => ?_) fun k => ?_
  · refine (congrFun (V_main_arg0 m c) _).trans (congrArg (m ((c.tc : Thread nD τ).loc main_arg0)) ?_)
    blk_ext [h0, h3]
  · refine Eq.trans (congrArg (V m c main_v0 : S1x2048.Idx → EReal) ?_) (gains m c k)
    blk_ext [h1]
  · refine (congrFun (V_main_arg2 m c) _).trans (congrArg (m ((c.tc : Thread nD τ).loc main_arg2)) ?_)
    blk_ext [h2, h3]

/-- The run, with its value. -/
theorem value : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_main m ρ) (unchanged m ρ))

end Cert.CrossInIdeal.Run

namespace Cert.CrossInReferenceIdeal.Run

open Cert.CrossInReferenceIdeal Cert.CrossInReferenceIdeal.Gen Cert.CrossInReferenceIdeal.Value
open Idealize.ShloMosaic Idealize.ShloMosaic.TcCoe
open Idealize.SL.Sem

variable (m : (ℓ : Loc nD τ sig) → Buf (Elt Ideal) ℓ) (g : Dev nD → PrngReg)

/-- The reference's term is the product of the normalised rows. -/
theorem term (x : FVec Ideal S40960x2048 .f32) (g : FVec Ideal S2048 .f32) (w : FVec Ideal S2048x2048 .bf16) :
    truncf .bf16 (Host.dotGeneral dot_S40960x2048_S2048x2048_S40960x2048_1_0_0_1_n_n none (mulf (mulf x
        (broadcastInDim S40960x2048 ![0, 1] bcast_S40960x1_S40960x2048_0_1 (Host.rsqrt (addf (Host.divf (broadcastInDim S40960x1 ![0]
          bcast_S40960_S40960x1_0 (Host.reduceAdd (mulf x x) (constant S_ .f32 0x00000000#32) reducesTo_S40960x2048_S40960_d1 h_S_))
          (broadcastInDim S40960x1 ![] bcast_S_S40960x1 (constant S_ .f32 0x45000000#32)))
          (broadcastInDim S40960x1 ![] bcast_S_S40960x1 (constant S_ .f32 0x358637BD#32))))))
        (broadcastInDim S40960x2048 ![0, 1] bcast_S1x2048_S40960x2048_0_1 (broadcastInDim S1x2048 ![1] bcast_S2048_S1x2048_1 g)))
      (extf .f32 w bitsLt_bf16_f32)) bitsLt_bf16_f32
      = Norm.out (M := 40960) (D := 2048) (N := 2048) x (fun k => g (ix1 k)) w := by
  refine funext fun y => ?_
  obtain ⟨i, j, rfl⟩ : ∃ i j, y = ix2 i j := ⟨y 0, y 1, eq_ix2 y⟩
  pointwise
  rfl

/-- The run leaves the arguments alone, and there is no semaphore. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m g)

/-- The kernel and the reference compute one value. -/
theorem algebraic : Cert.algebraic_CrossInIdeal_CrossInReferenceIdeal := by
  intro m g m' g' _ hagree
  refine ⟨fun c => Cert.CrossInIdeal.Run.result m c, Cert.CrossInIdeal.Run.value m g, ?_⟩
  refine (θ_run defs _ _).mono (fun r h c => ⟨(h c).1.trans ?_, (h c).2⟩) (Value.run m' g')
  refine (term _ _ _).trans ?_
  rw [(hagree c).1, (hagree c).2.1, (hagree c).2.2]
  rfl

end Cert.CrossInReferenceIdeal.Run

end
-- ==== Proof.Project.FfnInTile.lean ====
/-
  THE CHANNEL MIXER'S INPUT PRODUCT: one point's stores. The body stores 64 tiles of 64 rows by 128 columns; each is one function
  (`gate` of two `seg`s) of what it loads of the two extended products, of the taps and of the biases.
-/
module

public import proofs.«01_k».proof.Proof.Gen.FfnInIdeal.Frame
public import Idealize.ShloMosaic.Lib.Pointwise
public import Idealize.ShloMosaic.Lib.Pipeline.ValueKit.Geometry
public import Idealize.ShloMosaic.Lib.VecWindow

@[expose] public section

set_option maxRecDepth 16384

noncomputable section

namespace Cert.FfnInIdeal.Run

open Cert.FfnInIdeal Cert.FfnInIdeal.Gen
open Idealize.ShloMosaic Idealize.ShloMosaic.TcCoe
open Idealize.SL.Sem

/-- Three taps and the bias of three loads. -/
def taps (a0 a1 a2 : FVec Ideal S64x128 .f32) (w0 w1 w2 b : FVec Ideal S1x128 .f32) : FVec Ideal S64x128 .f32 :=
  addf (addf (addf (mulf a0 (broadcastTo S64x128 w0 broadcasts_S1x128_S64x128)) (mulf a1 (broadcastTo S64x128 w1 broadcasts_S1x128_S64x128)))
    (mulf a2 (broadcastTo S64x128 w2 broadcasts_S1x128_S64x128)))
    (broadcastTo S64x128 (shapeCast S1x128 b shapeCasts_S1x128_S1x128) broadcasts_S1x128_S64x128)

/-- The gate's function of `u` times `v`. -/
def gate (u v : FVec Ideal S64x128 .f32) : FVec Ideal S64x128 .bf16 :=
  truncf .bf16 (mulf (mulf u (divf (broadcast S64x128 (Scalar.ofBits .f32 0x3F800000#32))
    (addf (broadcast S64x128 (Scalar.ofBits .f32 0x3F800000#32)) (exp (subf (broadcast S64x128 (Scalar.ofBits .f32 0x00000000#32)) u))))) v) bitsLt_bf16_f32

theorem inbO (q : Fin 64) : ∀ a, (![64 * (q.val / 4), 128 * (q.val % 4)] : Fin 2 → ℕ) a + (![64, 128] : Fin 2 → ℕ) a ≤ S1024x512.size a := by
  have := q.isLt
  intro a; fin_cases a
  · show 64 * (q.val / 4) + 64 ≤ 1024; omega
  · show 128 * (q.val % 4) + 128 ≤ 512; omega

theorem inbE (q : Fin 64) (k : Fin 3) : ∀ a, (![64 * (q.val / 4) + 15 + k.val, 128 * (q.val % 4)] : Fin 2 → ℕ) a + (![64, 128] : Fin 2 → ℕ) a ≤ S1056x512.size a := by
  have := q.isLt; have := k.isLt
  intro a; fin_cases a
  · show 64 * (q.val / 4) + 15 + k.val + 64 ≤ 1056; omega
  · show 128 * (q.val % 4) + 128 ≤ 512; omega

theorem inbW (q : Fin 64) (k : Fin 3) : ∀ a, (![k.val, 128 * (q.val % 4)] : Fin 2 → ℕ) a + (![1, 128] : Fin 2 → ℕ) a ≤ S3x512.size a := by
  have := q.isLt; have := k.isLt
  intro a; fin_cases a
  · show k.val + 1 ≤ 3; omega
  · show 128 * (q.val % 4) + 128 ≤ 512; omega

theorem inbB (q : Fin 64) : ∀ a, (![0, 128 * (q.val % 4)] : Fin 2 → ℕ) a + (![1, 128] : Fin 2 → ℕ) a ≤ S1x512.size a := by
  have := q.isLt
  intro a; fin_cases a
  · show 0 + 1 ≤ 1; omega
  · show 128 * (q.val % 4) + 128 ≤ 512; omega

/-- One segment's tile `q`: of the extended product `X`, taps `W` and biases `B`. -/
def seg (X : Vec Ideal S1056x512 .f32) (W : Vec Ideal S3x512 .f32) (B : Vec Ideal S1x512 .f32) (q : Fin 64) : FVec Ideal S64x128 .f32 :=
  taps (View.ld X (Rect.unit (s := S1056x512) ![64 * (q.val / 4) + 15 + 0, 128 * (q.val % 4)] ![64, 128] (inbE q 0)))
    (View.ld X (Rect.unit (s := S1056x512) ![64 * (q.val / 4) + 15 + 1, 128 * (q.val % 4)] ![64, 128] (inbE q 1)))
    (View.ld X (Rect.unit (s := S1056x512) ![64 * (q.val / 4) + 15 + 2, 128 * (q.val % 4)] ![64, 128] (inbE q 2)))
    (View.ld W (Rect.unit (s := S3x512) ![0, 128 * (q.val % 4)] ![1, 128] (inbW q 0)))
    (View.ld W (Rect.unit (s := S3x512) ![1, 128 * (q.val % 4)] ![1, 128] (inbW q 1)))
    (View.ld W (Rect.unit (s := S3x512) ![2, 128 * (q.val % 4)] ![1, 128] (inbW q 2)))
    (View.ld B (Rect.unit (s := S1x512) ![0, 128 * (q.val % 4)] ![1, 128] (inbB q)))

/-- The stores, last first. -/
def tiles (X : Vec Ideal S1056x512 .f32) (W : Vec Ideal S3x512 .f32) (B : Vec Ideal S1x512 .f32)
    (X' : Vec Ideal S1056x512 .f32) (W' : Vec Ideal S3x512 .f32) (B' : Vec Ideal S1x512 .f32) : List (View.Piece (Elt Ideal) S1024x512 .bf16) :=
  (List.finRange 64).reverse.map fun q =>
    ⟨Rect.unit (s := S1024x512) ![64 * (q.val / 4), 128 * (q.val % 4)] ![64, 128] (inbO q), gate (seg X W B q) (seg X' W' B' q)⟩

/-- A segment's extended product: the product of the rows `H` with `w`, and the first and the last sixteen rows made zero where the
    words `a` and `e` say so; three stores to the buffer `v`, the later ones of what they load of it. -/
def ext1 (H : Vec Ideal S1056x2048 .bf16) (w : Vec Ideal S2048x512 .bf16) : List (View.Piece (Elt Ideal) S1056x512 .f32) :=
  [⟨Rect.unit ![0, 0] S1056x512.size inb_S1056x512_S1056x512_0_0, k0_pay6 (k0_pay5 H w)⟩]

def ext2 (v : View sig .tc .vmem S1056x512 .f32) (H : Vec Ideal S1056x2048 .bf16) (w : Vec Ideal S2048x512 .bf16) (a : BitVec 1) :
    List (View.Piece (Elt Ideal) S1056x512 .f32) :=
  ⟨Rect.unit (s := S1056x512) ![0, 0] S16x512.size inb_S1056x512_S16x512_0_0,
    k0_pay7 a (v.readCov (ext1 H w) (Rect.unit (s := S1056x512) ![0, 0] S16x512.size inb_S1056x512_S16x512_0_0).toLoadRect)⟩ :: ext1 H w

def ext3 (v : View sig .tc .vmem S1056x512 .f32) (H : Vec Ideal S1056x2048 .bf16) (w : Vec Ideal S2048x512 .bf16) (a e : BitVec 1) :
    List (View.Piece (Elt Ideal) S1056x512 .f32) :=
  ⟨Rect.unit (s := S1056x512) ![1040, 0] S16x512.size inb_S1056x512_S16x512_1040_0,
    k0_pay8 e (v.readCov (ext2 v H w a) (Rect.unit (s := S1056x512) ![1040, 0] S16x512.size inb_S1056x512_S16x512_1040_0).toLoadRect)⟩ :: ext2 v H w a

def ext (v : View sig .tc .vmem S1056x512 .f32) (H : Vec Ideal S1056x2048 .bf16) (w : Vec Ideal S2048x512 .bf16) (a e : BitVec 1) :
    Vec Ideal S1056x512 .f32 :=
  v.read (Elt Ideal) (v.writes (Elt Ideal) v.junk (ext3 v H w a e))

/-- The normalised rows, stored in three blocks. -/
def hn (x0 : Vec Ideal S1024x2048 .f32) (x1 x2 : Vec Ideal S16x2048 .f32) (g : Vec Ideal S1x2048 .f32) : List (View.Piece (Elt Ideal) S1056x2048 .bf16) :=
  [⟨Rect.unit (s := S1056x2048) ![1040, 0] S16x2048.size inb_S1056x2048_S16x2048_1040_0, k0_pay4 x2 g⟩,
    ⟨Rect.unit (s := S1056x2048) ![16, 0] S1024x2048.size inb_S1056x2048_S1024x2048_16_0, k0_pay3 x0 g⟩,
    ⟨Rect.unit (s := S1056x2048) ![0, 0] S16x2048.size inb_S1056x2048_S16x2048_0_0, k0_pay2 x1 g⟩]

/-- A block as the body loads it: the whole of its staging buffer. -/
theorem load {s : Shape} {e : EltTy} (M : Memref sig .tc .vmem s e) (h : M.IsWhole) (x : Vec Ideal s e) {off : Fin s.rank → ℕ}
    (inb : ∀ a, off a + s.size a ≤ s.size a) :
    View.readAt (Elt Ideal) M.view (Rect.unit off s.size inb).toLoadRect (h.unread x) = x :=
  (View.readAt_full _ _ _).trans (Memref.IsWhole.read_unread _ _)

/-- The stores of a point that finds the rows normalised. -/
theorem piecesB (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S2048x512 .bf16) (harg9 : arg9.IsWhole) (arg10 : Memref sig .tc .vmem S3x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : ¬cond0_0 i)
    (x0 : Vec Ideal S1024x2048 .f32) (x1 : Vec Ideal S16x2048 .f32) (x2 : Vec Ideal S16x2048 .f32) (x3 : Vec Ideal S1x2048 .f32) (x4 : Vec Ideal S2048x512 .bf16) (x5 : Vec Ideal S3x512 .f32) (x6 : Vec Ideal S1x512 .f32) (x7 : Vec Ideal S2048x512 .bf16) (x8 : Vec Ideal S3x512 .f32) (x9 : Vec Ideal S1x512 .f32) (xs0 : Vec Ideal S1056x2048 .bf16) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).1
      = tiles (ext arg14.view (View.readAt (Elt Ideal) arg13.view (Rect.unit ![0, 0] S1056x2048.size inb_S1056x2048_S1056x2048_0_0).toLoadRect (harg13.unread xs0)) (View.readAt (Elt Ideal) arg6.view (Rect.unit ![0, 0] S2048x512.size inb_S2048x512_S2048x512_0_0).toLoadRect (harg6.unread x4)) (kernelRun0_B.sl.v11 i) (kernelRun0_B.sl.v23 i))
          (View.read (Elt Ideal) arg7.view (harg7.unread x5)) (View.read (Elt Ideal) arg8.view (harg8.unread x6))
          (ext arg15.view (View.readAt (Elt Ideal) arg13.view (Rect.unit ![0, 0] S1056x2048.size inb_S1056x2048_S1056x2048_0_0).toLoadRect (harg13.unread xs0)) (View.readAt (Elt Ideal) arg9.view (Rect.unit ![0, 0] S2048x512.size inb_S2048x512_S2048x512_0_0).toLoadRect (harg9.unread x7)) (kernelRun0_B.sl.v11 i) (kernelRun0_B.sl.v23 i))
          (View.read (Elt Ideal) arg10.view (harg10.unread x8)) (View.read (Elt Ideal) arg11.view (harg11.unread x9)) := by
  sl_kernel_rfl

/-- The stores of a point that normalises the rows first. -/
theorem piecesA (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S2048x512 .bf16) (harg9 : arg9.IsWhole) (arg10 : Memref sig .tc .vmem S3x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : cond0_0 i)
    (x0 : Vec Ideal S1024x2048 .f32) (x1 : Vec Ideal S16x2048 .f32) (x2 : Vec Ideal S16x2048 .f32) (x3 : Vec Ideal S1x2048 .f32) (x4 : Vec Ideal S2048x512 .bf16) (x5 : Vec Ideal S3x512 .f32) (x6 : Vec Ideal S1x512 .f32) (x7 : Vec Ideal S2048x512 .bf16) (x8 : Vec Ideal S3x512 .f32) (x9 : Vec Ideal S1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1
      = tiles (ext arg14.view (arg13.view.readCov (hn (View.readAt (Elt Ideal) arg2.view (Rect.unit ![0, 0] S1024x2048.size inb_S1024x2048_S1024x2048_0_0).toLoadRect (harg2.unread x0)) (View.readAt (Elt Ideal) arg3.view (Rect.unit ![0, 0] S16x2048.size inb_S16x2048_S16x2048_0_0).toLoadRect (harg3.unread x1)) (View.readAt (Elt Ideal) arg4.view (Rect.unit ![0, 0] S16x2048.size inb_S16x2048_S16x2048_0_0).toLoadRect (harg4.unread x2)) (View.readAt (Elt Ideal) arg5.view (Rect.unit ![0, 0] S1x2048.size inb_S1x2048_S1x2048_0_0).toLoadRect (harg5.unread x3))) (Rect.unit ![0, 0] S1056x2048.size inb_S1056x2048_S1056x2048_0_0).toLoadRect) (View.readAt (Elt Ideal) arg6.view (Rect.unit ![0, 0] S2048x512.size inb_S2048x512_S2048x512_0_0).toLoadRect (harg6.unread x4)) (kernelRun0_A.sl.v11 i) (kernelRun0_A.sl.v23 i))
          (View.read (Elt Ideal) arg7.view (harg7.unread x5)) (View.read (Elt Ideal) arg8.view (harg8.unread x6))
          (ext arg15.view (arg13.view.readCov (hn (View.readAt (Elt Ideal) arg2.view (Rect.unit ![0, 0] S1024x2048.size inb_S1024x2048_S1024x2048_0_0).toLoadRect (harg2.unread x0)) (View.readAt (Elt Ideal) arg3.view (Rect.unit ![0, 0] S16x2048.size inb_S16x2048_S16x2048_0_0).toLoadRect (harg3.unread x1)) (View.readAt (Elt Ideal) arg4.view (Rect.unit ![0, 0] S16x2048.size inb_S16x2048_S16x2048_0_0).toLoadRect (harg4.unread x2)) (View.readAt (Elt Ideal) arg5.view (Rect.unit ![0, 0] S1x2048.size inb_S1x2048_S1x2048_0_0).toLoadRect (harg5.unread x3))) (Rect.unit ![0, 0] S1056x2048.size inb_S1056x2048_S1056x2048_0_0).toLoadRect) (View.readAt (Elt Ideal) arg9.view (Rect.unit ![0, 0] S2048x512.size inb_S2048x512_S2048x512_0_0).toLoadRect (harg9.unread x7)) (kernelRun0_A.sl.v11 i) (kernelRun0_A.sl.v23 i))
          (View.read (Elt Ideal) arg10.view (harg10.unread x8)) (View.read (Elt Ideal) arg11.view (harg11.unread x9)) := by
  sl_kernel_rfl

/-- Its stores to the scratch. -/
theorem storesA (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S2048x512 .bf16) (harg9 : arg9.IsWhole) (arg10 : Memref sig .tc .vmem S3x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : cond0_0 i)
    (x0 : Vec Ideal S1024x2048 .f32) (x1 : Vec Ideal S16x2048 .f32) (x2 : Vec Ideal S16x2048 .f32) (x3 : Vec Ideal S1x2048 .f32) (x4 : Vec Ideal S2048x512 .bf16) (x5 : Vec Ideal S3x512 .f32) (x6 : Vec Ideal S1x512 .f32) (x7 : Vec Ideal S2048x512 .bf16) (x8 : Vec Ideal S3x512 .f32) (x9 : Vec Ideal S1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1
      = hn (View.readAt (Elt Ideal) arg2.view (Rect.unit ![0, 0] S1024x2048.size inb_S1024x2048_S1024x2048_0_0).toLoadRect (harg2.unread x0)) (View.readAt (Elt Ideal) arg3.view (Rect.unit ![0, 0] S16x2048.size inb_S16x2048_S16x2048_0_0).toLoadRect (harg3.unread x1)) (View.readAt (Elt Ideal) arg4.view (Rect.unit ![0, 0] S16x2048.size inb_S16x2048_S16x2048_0_0).toLoadRect (harg4.unread x2)) (View.readAt (Elt Ideal) arg5.view (Rect.unit ![0, 0] S1x2048.size inb_S1x2048_S1x2048_0_0).toLoadRect (harg5.unread x3)) := by
  sl_kernel_rfl

end Cert.FfnInIdeal.Run

end
-- ==== Proof.Project.FfnInRows.lean ====
/-
  READING BACK ROWS: what a buffer of two axes holds at an index under a store of a block of its rows, and off it. The two extended
  products and the normalised rows of the channel mixer's input are stored so.
-/
module

public import proofs.«01_k».proof.Proof.Project.FfnInTile
public import proofs.«01_k».proof.Proof.Project.Norm

@[expose] public section

set_option maxRecDepth 16384

noncomputable section

namespace Cert.FfnInIdeal.Run

open Cert.FfnInIdeal Cert.FfnInIdeal.Gen
open Idealize.ShloMosaic Idealize.ShloMosaic.TcCoe
open Idealize.SL.Sem

section Canon

variable {M N R o : ℕ} {e : EltTy} (inb : ∀ a, (![o, 0] : Fin 2 → ℕ) a + (![R, N] : Fin 2 → ℕ) a ≤ (⟨2, ![M, N]⟩ : Shape).size a)
  (w : (⟨2, ![R, N]⟩ : Shape).Idx → Elt Ideal e) (L : List (View.Piece (Elt Ideal) ⟨2, ![M, N]⟩ e)) (r : Fin M) (j : Fin N)

/-- Under the last store, its payload. -/
theorem canon_in (r' : Fin R) (h : r.val = o + r'.val) :
    View.canon ((⟨Rect.unit (s := ⟨2, ![M, N]⟩) ![o, 0] ![R, N] inb, w⟩ : View.Piece (Elt Ideal) ⟨2, ![M, N]⟩ e) :: L) (ix2 r j) = w (ix2 r' j) := by
  have hy : (ix2 r j : (⟨2, ![M, N]⟩ : Shape).Idx) = (Rect.unit (s := ⟨2, ![M, N]⟩) ![o, 0] ![R, N] inb).emb (ix2 r' j) := by
    refine funext fun a => Fin.ext ?_
    rw [ValueKit.rect_emb_unit_val]
    fin_cases a
    · exact h
    · show j.val = 0 + j.val; omega
  rw [hy]
  exact View.canon_cons_emb (Rect.unit (s := ⟨2, ![M, N]⟩) ![o, 0] ![R, N] inb) w L (ix2 r' j)

/-- Off it, the earlier stores. -/
theorem canon_out (h : r.val < o ∨ o + R ≤ r.val) :
    View.canon ((⟨Rect.unit (s := ⟨2, ![M, N]⟩) ![o, 0] ![R, N] inb, w⟩ : View.Piece (Elt Ideal) ⟨2, ![M, N]⟩ e) :: L) (ix2 r j)
      = View.canon L (ix2 r j) := by
  refine View.canon_cons_of_not_mem _ _ fun hm => ?_
  have h0 : o ≤ r.val ∧ r.val < o + R := (Rect.mem_set_unit (inb := inb)).mp hm 0
  omega

end Canon

/-- The product at an index. -/
theorem prod_apply (H : Vec Ideal S1056x2048 .bf16) (w : Vec Ideal S2048x512 .bf16) (r : Fin 1056) (j : Fin 512) :
    k0_pay6 (F := Ideal) (k0_pay5 H w) (ix2 r j) = ∑ k : Fin 2048, H (ix2 r k) * w (ix2 k j) := by
  pointwise [k0_pay6, k0_pay5]

theorem first_apply (a : BitVec 1) (x : Vec Ideal S16x512 .f32) (r : Fin 16) (j : Fin 512) :
    k0_pay7 (F := Ideal) a x (ix2 r j) = if a = 1#1 then 0 else x (ix2 r j) := by
  obtain rfl | rfl : a = 0#1 ∨ a = 1#1 := by revert a; decide
  · rw [if_neg (by decide)]; pointwise [k0_pay7]
  · rw [if_pos rfl]; pointwise [k0_pay7]

theorem last_apply (a : BitVec 1) (x : Vec Ideal S16x512 .f32) (r : Fin 16) (j : Fin 512) :
    k0_pay8 (F := Ideal) a x (ix2 r j) = if a = 1#1 then 0 else x (ix2 r j) := by
  obtain rfl | rfl : a = 0#1 ∨ a = 1#1 := by revert a; decide
  · rw [if_neg (by decide)]; pointwise [k0_pay8]
  · rw [if_pos rfl]; pointwise [k0_pay8]

/-- The extended product at an index: zero in the first rows and in the last where the words say so. -/
theorem ext_apply (v : View sig .tc .vmem S1056x512 .f32) (H : Vec Ideal S1056x2048 .bf16) (w : Vec Ideal S2048x512 .bf16) (a e : BitVec 1)
    (r : Fin 1056) (j : Fin 512) :
    ext v H w a e (ix2 r j)
      = if r.val < 16 ∧ a = 1#1 ∨ 1040 ≤ r.val ∧ e = 1#1 then 0 else ∑ k : Fin 2048, H (ix2 r k) * w (ix2 k j) := by
  have h1 : ∀ r j, View.canon (ext1 H w) (ix2 r j) = ∑ k : Fin 2048, H (ix2 r k) * w (ix2 k j) := fun r j =>
    (congrFun (View.canon_unit_zero (by decide) _ _) _).trans (prod_apply H w r j)
  have h2 : ∀ (r : Fin 1056) j, View.canon (ext2 v H w a) (ix2 r j)
      = if r.val < 16 ∧ a = 1#1 then 0 else ∑ k : Fin 2048, H (ix2 r k) * w (ix2 k j) := by
    intro r j
    by_cases hr : r.val < 16
    · refine (canon_in (M := 1056) (N := 512) (R := 16) (o := 0) _ _ _ r j ⟨r.val, hr⟩ (Nat.zero_add _).symm).trans ?_
      rw [first_apply]
      simp only [hr, true_and]
      refine if_congr Iff.rfl rfl ?_
      rw [View.readCov_eq_canon']
      refine Eq.trans (congrArg (View.canon (ext1 H w)) (?_ : _ = ix2 r j)) (h1 r j)
      refine funext fun b => Fin.ext ?_
      fin_cases b
      · show 0 + 1 * r.val = r.val; omega
      · show 0 + 1 * j.val = j.val; omega
    · refine (canon_out (M := 1056) (N := 512) (R := 16) (o := 0) _ _ _ r j (Or.inr (by omega))).trans ?_
      rw [if_neg (by tauto)]
      exact h1 r j
  unfold ext
  rw [View.read_writes_junk_eq_canon]
  by_cases hr : 1040 ≤ r.val
  · have hl := r.isLt
    refine (canon_in (M := 1056) (N := 512) (R := 16) (o := 1040) _ _ _ r j ⟨r.val - 1040, by omega⟩ (by show r.val = 1040 + (r.val - 1040); omega)).trans ?_
    rw [last_apply, View.readCov_eq_canon']
    have hn : ¬ r.val < 16 := by omega
    simp only [hr, hn, true_and, false_and, false_or]
    refine if_congr Iff.rfl rfl ?_
    refine Eq.trans (congrArg (View.canon (ext2 v H w a)) (?_ : _ = ix2 r j)) ((h2 r j).trans (if_neg (by tauto)))
    refine funext fun b => Fin.ext ?_
    fin_cases b
    · show 1040 + 1 * (r.val - 1040) = r.val; omega
    · show 0 + 1 * j.val = j.val; omega
  · refine (canon_out (M := 1056) (N := 512) (R := 16) (o := 1040) _ _ _ r j (Or.inl (by omega))).trans ?_
    refine (h2 r j).trans (if_congr ?_ rfl rfl)
    tauto

theorem norm2 (x : Vec Ideal S16x2048 .f32) (g : Vec Ideal S1x2048 .f32) :
    k0_pay2 (F := Ideal) x g = Norm.rows (M := 16) (D := 2048) x (fun k => g (ix2 0 k)) := by
  refine funext fun y => ?_
  obtain ⟨i, j, rfl⟩ : ∃ i j, y = ix2 i j := ⟨y 0, y 1, eq_ix2 y⟩
  pointwise [k0_pay2]
  rfl

theorem norm3 (x : Vec Ideal S1024x2048 .f32) (g : Vec Ideal S1x2048 .f32) :
    k0_pay3 (F := Ideal) x g = Norm.rows (M := 1024) (D := 2048) x (fun k => g (ix2 0 k)) := by
  refine funext fun y => ?_
  obtain ⟨i, j, rfl⟩ : ∃ i j, y = ix2 i j := ⟨y 0, y 1, eq_ix2 y⟩
  pointwise [k0_pay3]
  rfl

theorem norm4 (x : Vec Ideal S16x2048 .f32) (g : Vec Ideal S1x2048 .f32) :
    k0_pay4 (F := Ideal) x g = Norm.rows (M := 16) (D := 2048) x (fun k => g (ix2 0 k)) := by
  refine funext fun y => ?_
  obtain ⟨i, j, rfl⟩ : ∃ i j, y = ix2 i j := ⟨y 0, y 1, eq_ix2 y⟩
  pointwise [k0_pay4]
  rfl

/-- The normalised rows read back, of what the three blocks' rows are. -/
theorem hn_apply (x0 : Vec Ideal S1024x2048 .f32) (x1 x2 : Vec Ideal S16x2048 .f32) (g : Vec Ideal S1x2048 .f32)
    (G : Fin 1056 → Fin 2048 → EReal)
    (h1 : ∀ (r : Fin 16) (s : Fin 1056) k, s.val = r.val → Norm.rows (M := 16) (D := 2048) x1 (fun k => g (ix2 0 k)) (ix2 r k) = G s k)
    (h0 : ∀ (r : Fin 1024) (s : Fin 1056) k, s.val = 16 + r.val → Norm.rows (M := 1024) (D := 2048) x0 (fun k => g (ix2 0 k)) (ix2 r k) = G s k)
    (h2 : ∀ (r : Fin 16) (s : Fin 1056) k, s.val = 1040 + r.val → Norm.rows (M := 16) (D := 2048) x2 (fun k => g (ix2 0 k)) (ix2 r k) = G s k)
    (s : Fin 1056) (k : Fin 2048) : View.canon (hn x0 x1 x2 g) (ix2 s k) = G s k := by
  have hs := s.isLt
  by_cases hb : 1040 ≤ s.val
  · refine (canon_in (M := 1056) (N := 2048) (R := 16) (o := 1040) _ _ _ s k ⟨s.val - 1040, by omega⟩ (by show s.val = 1040 + (s.val - 1040); omega)).trans ?_
    rw [norm4]
    exact h2 _ s k (by show s.val = 1040 + (s.val - 1040); omega)
  refine (canon_out (M := 1056) (N := 2048) (R := 16) (o := 1040) _ _ _ s k (Or.inl (by omega))).trans ?_
  by_cases ha : 16 ≤ s.val
  · refine (canon_in (M := 1056) (N := 2048) (R := 1024) (o := 16) _ _ _ s k ⟨s.val - 16, by omega⟩ (by show s.val = 16 + (s.val - 16); omega)).trans ?_
    rw [norm3]
    exact h0 _ s k (by show s.val = 16 + (s.val - 16); omega)
  refine (canon_out (M := 1056) (N := 2048) (R := 1024) (o := 16) _ _ _ s k (Or.inl (by omega))).trans ?_
  refine (canon_in (M := 1056) (N := 2048) (R := 16) (o := 0) _ _ _ s k ⟨s.val, by omega⟩ (Nat.zero_add _).symm).trans ?_
  rw [norm2]
  exact h1 _ s k rfl

end Cert.FfnInIdeal.Run

end
-- ==== Proof.Project.Conv.lean ====
/-
  THE CHANNEL MIXER'S CONVOLUTION AND GATE, as plain functions: `tap P cw cb T J` is three taps of column `J` of `P` about row `T`, zero
  beyond the ends of a sequence of 8192 rows, plus the bias; `glu u v` is `u · sigmoid(u) · v`; `mix` is the gate of a column of the
  first half with its column of the second.
-/
module

public import proofs.«01_k».proof.Proof.Project.Norm

@[expose] public section

noncomputable section

namespace Cert.Conv

open Idealize.ShloMosaic

/-- The row before. -/
def prev (T : Fin 40960) : Fin 40960 := ⟨T.val - 1, by omega⟩

/-- The row after; the last row's is itself, which no use reads. -/
def next (T : Fin 40960) : Fin 40960 := ⟨min (T.val + 1) 40959, by omega⟩

/-- Three taps and the bias. -/
def tap (P : (⟨2, ![40960, 11264]⟩ : Shape).Idx → EReal) (cw : (⟨2, ![3, 11264]⟩ : Shape).Idx → EReal) (cb : Fin 11264 → EReal)
    (T : Fin 40960) (J : Fin 11264) : EReal :=
  (if T.val % 8192 = 0 then 0 else P (ix2 (prev T) J)) * cw (ix2 0 J) + P (ix2 T J) * cw (ix2 1 J)
    + (if T.val % 8192 = 8191 then 0 else P (ix2 (next T) J)) * cw (ix2 2 J) + cb J

/-- The gate. -/
def glu (u v : EReal) : EReal := u * Ideal.div 1 (1 + Ideal.exp (-u)) * v

/-- Column `j` of the first half, and of the second. -/
def lo (j : Fin 5632) : Fin 11264 := ⟨j.val, by omega⟩
def hi (j : Fin 5632) : Fin 11264 := ⟨5632 + j.val, by omega⟩

/-- The whole. -/
def mix (P : (⟨2, ![40960, 11264]⟩ : Shape).Idx → EReal) (cw : (⟨2, ![3, 11264]⟩ : Shape).Idx → EReal) (cb : Fin 11264 → EReal) :
    (⟨2, ![40960, 5632]⟩ : Shape).Idx → EReal :=
  fun y => glu (tap P cw cb (y 0) (lo (y 1))) (tap P cw cb (y 0) (hi (y 1)))

end Cert.Conv

end
-- ==== Proof.Project.FfnInTiles.lean ====
/-
  ONE POINT'S OUTPUT TILE: what the 64 stores leave, at an index, is the convolution and the gate of the two extended products at that index.
-/
module

public import proofs.«01_k».proof.Proof.Project.FfnInRows
public import proofs.«01_k».proof.Proof.Project.Conv

@[expose] public section

set_option maxRecDepth 16384

noncomputable section

namespace Cert.FfnInIdeal.Run

open Cert.FfnInIdeal Cert.FfnInIdeal.Gen
open Idealize.ShloMosaic Idealize.ShloMosaic.TcCoe
open Idealize.SL.Sem

/-- Three taps and the bias at an index of the tile; the extended product begins sixteen rows earlier. -/
def tileTap (X : S1056x512.Idx → EReal) (W : S3x512.Idx → EReal) (B : S1x512.Idx → EReal) (i : Fin 1024) (j : Fin 512) : EReal :=
  X (ix2 ⟨i.val + 15, by omega⟩ j) * W (ix2 0 j) + X (ix2 ⟨i.val + 16, by omega⟩ j) * W (ix2 1 j)
    + X (ix2 ⟨i.val + 17, by omega⟩ j) * W (ix2 2 j) + B (ix2 0 j)

theorem taps_apply (a0 a1 a2 : FVec Ideal S64x128 .f32) (w0 w1 w2 b : FVec Ideal S1x128 .f32) (i : Fin 64) (j : Fin 128) :
    taps a0 a1 a2 w0 w1 w2 b (ix2 i j)
      = a0 (ix2 i j) * w0 (ix2 0 j) + a1 (ix2 i j) * w1 (ix2 0 j) + a2 (ix2 i j) * w2 (ix2 0 j) + b (ix2 0 j) := by
  pointwise [taps]

theorem gate_apply (u v : FVec Ideal S64x128 .f32) (i : Fin 64) (j : Fin 128) :
    gate u v (ix2 i j) = Conv.glu (u (ix2 i j)) (v (ix2 i j)) := by
  pointwise [gate]
  simp only [zero_sub]
  rfl

/-- A load of a rectangle, at an index. -/
theorem ld_apply {M N R C o p : ℕ} (X : (⟨2, ![M, N]⟩ : Shape).Idx → EReal)
    (inb : ∀ a, (![o, p] : Fin 2 → ℕ) a + (![R, C] : Fin 2 → ℕ) a ≤ (⟨2, ![M, N]⟩ : Shape).size a)
    (i : Fin R) (j : Fin C) (i' : Fin M) (j' : Fin N) (hi : i'.val = o + i.val) (hj : j'.val = p + j.val) :
    View.ld (Val := Elt Ideal) (e' := .f32) X (Rect.unit (s := ⟨2, ![M, N]⟩) ![o, p] ![R, C] inb) (ix2 i j) = X (ix2 i' j') := by
  refine congrArg X (funext fun a => Fin.ext ?_)
  fin_cases a
  · show o + 1 * i.val = i'.val; omega
  · show p + 1 * j.val = j'.val; omega

/-- One segment's tile at an index. -/
theorem seg_apply (X : Vec Ideal S1056x512 .f32) (W : Vec Ideal S3x512 .f32) (B : Vec Ideal S1x512 .f32) (q : Fin 64) (i : Fin 64) (j : Fin 128)
    (y0 : Fin 1024) (y1 : Fin 512) (h0 : y0.val = 64 * (q.val / 4) + i.val) (h1 : y1.val = 128 * (q.val % 4) + j.val) :
    seg X W B q (ix2 i j) = tileTap X W B y0 y1 := by
  unfold seg
  rw [taps_apply]
  unfold tileTap
  refine congrArg₂ (· + ·) (congrArg₂ (· + ·) (congrArg₂ (· + ·) (congrArg₂ (· * ·) ?_ ?_) (congrArg₂ (· * ·) ?_ ?_)) (congrArg₂ (· * ·) ?_ ?_)) ?_
  · exact ld_apply (M := 1056) (N := 512) X _ i j _ _ (by show y0.val + 15 = _; omega) h1
  · exact ld_apply (M := 3) (N := 512) W _ 0 j 0 y1 rfl h1
  · exact ld_apply (M := 1056) (N := 512) X _ i j _ _ (by show y0.val + 16 = _; omega) h1
  · exact ld_apply (M := 3) (N := 512) W _ 0 j 1 y1 rfl h1
  · exact ld_apply (M := 1056) (N := 512) X _ i j _ _ (by show y0.val + 17 = _; omega) h1
  · exact ld_apply (M := 3) (N := 512) W _ 0 j 2 y1 rfl h1
  · exact ld_apply (M := 1) (N := 512) B _ 0 j 0 y1 rfl h1

/-- The stores read back. -/
theorem tiles_apply (X : Vec Ideal S1056x512 .f32) (W : Vec Ideal S3x512 .f32) (B : Vec Ideal S1x512 .f32)
    (X' : Vec Ideal S1056x512 .f32) (W' : Vec Ideal S3x512 .f32) (B' : Vec Ideal S1x512 .f32) (y : S1024x512.Idx) :
    View.canon (tiles X W B X' W' B') y = Conv.glu (tileTap X W B (y 0) (y 1)) (tileTap X' W' B' (y 0) (y 1)) := by
  refine View.canon_apply_of_pieces (Val := Elt Ideal) (e := .bf16) (fun y : S1024x512.Idx => (Conv.glu (tileTap X W B (y 0) (y 1)) (tileTap X' W' B' (y 0) (y 1)) : EReal)) _ ?_ y ?_
  · intro p hp x
    obtain ⟨q, -, rfl⟩ := List.mem_map.mp hp
    obtain ⟨i, j, rfl⟩ : ∃ (i : Fin 64) (j : Fin 128), x = ix2 i j := ⟨x 0, x 1, eq_ix2 (n0 := 64) (n1 := 128) x⟩
    refine (gate_apply _ _ i j).trans ?_
    have h0 : (((Rect.unit (s := S1024x512) ![64 * (q.val / 4), 128 * (q.val % 4)] ![64, 128] (inbO q)).emb (ix2 i j)) 0 : ℕ) = 64 * (q.val / 4) + i.val :=
      ValueKit.rect_emb_unit_val _ _ _ _ _
    have h1 : (((Rect.unit (s := S1024x512) ![64 * (q.val / 4), 128 * (q.val % 4)] ![64, 128] (inbO q)).emb (ix2 i j)) 1 : ℕ) = 128 * (q.val % 4) + j.val :=
      ValueKit.rect_emb_unit_val _ _ _ _ _
    exact congrArg₂ Conv.glu (seg_apply X W B q i j _ _ h0 h1) (seg_apply X' W' B' q i j _ _ h0 h1)
  · have hy0 : (y 0).val < 1024 := (y 0).isLt
    have hy1 : (y 1).val < 512 := (y 1).isLt
    obtain ⟨q, hq⟩ : ∃ q : Fin 64, q.val = 4 * ((y 0).val / 64) + (y 1).val / 128 := ⟨⟨4 * ((y 0).val / 64) + (y 1).val / 128, by omega⟩, rfl⟩
    refine ⟨_, List.mem_map.mpr ⟨q, by simp, rfl⟩, ?_⟩
    refine (Rect.mem_set_unit (inb := inbO q)).mpr fun a => ?_
    fin_cases a
    · show 64 * (q.val / 4) ≤ (y 0).val ∧ (y 0).val < 64 * (q.val / 4) + 64
      omega
    · show 128 * (q.val % 4) ≤ (y 1).val ∧ (y 1).val < 128 * (q.val % 4) + 128
      omega

/-- The extended product as a function of its index. -/
def extP (H : S1056x2048.Idx → EReal) (w : S2048x512.Idx → EReal) (a e : BitVec 1) : S1056x512.Idx → EReal := fun y =>
  if (y 0).val < 16 ∧ a = 1#1 ∨ 1040 ≤ (y 0).val ∧ e = 1#1 then 0 else ∑ k : Fin 2048, H (ix2 (y 0) k) * w (ix2 k (y 1))

theorem ext_eq (v : View sig .tc .vmem S1056x512 .f32) (H : Vec Ideal S1056x2048 .bf16) (w : Vec Ideal S2048x512 .bf16) (a e : BitVec 1) :
    ext v H w a e = extP H w a e := by
  refine funext fun y => ?_
  obtain ⟨i, j, rfl⟩ : ∃ i j, y = ix2 i j := ⟨y 0, y 1, eq_ix2 y⟩
  exact ext_apply v H w a e i j

/-- A point's tile, of the normalised rows it finds and its blocks. -/
def tile (H : Vec Ideal S1056x2048 .bf16) (w : Vec Ideal S2048x512 .bf16) (W : Vec Ideal S3x512 .f32) (B : Vec Ideal S1x512 .f32)
    (w' : Vec Ideal S2048x512 .bf16) (W' : Vec Ideal S3x512 .f32) (B' : Vec Ideal S1x512 .f32) (a e : BitVec 1) : Vec Ideal S1024x512 .bf16 := fun y =>
  Conv.glu (tileTap (extP H w a e) W B (y 0) (y 1)) (tileTap (extP H w' a e) W' B' (y 0) (y 1))

theorem tiles_eq (v v' : View sig .tc .vmem S1056x512 .f32) (H H' : Vec Ideal S1056x2048 .bf16) (w w₁ : Vec Ideal S2048x512 .bf16)
    (W W₁ : Vec Ideal S3x512 .f32) (B B₁ : Vec Ideal S1x512 .f32) (w' w₁' : Vec Ideal S2048x512 .bf16) (W' W₁' : Vec Ideal S3x512 .f32)
    (B' B₁' : Vec Ideal S1x512 .f32) (a e : BitVec 1) (hH : H = H') (hw : w = w₁) (hW : W = W₁) (hB : B = B₁) (hw' : w' = w₁') (hW' : W' = W₁')
    (hB' : B' = B₁') : View.canon (tiles (ext v H w a e) W B (ext v' H w' a e) W' B') = tile H' w₁ W₁ B₁ w₁' W₁' B₁' a e := by
  subst hH hw hW hB hw' hW' hB'
  refine funext fun y => ?_
  rw [tiles_apply, ext_eq, ext_eq]
  rfl

end Cert.FfnInIdeal.Run

end
-- ==== Proof.Project.FfnInPoint.lean ====
/-
  THE POINTS IN ORDER: the first point of a row of blocks normalises its rows and the rows about them into a scratch buffer, the others
  find them there. So at every point the scratch is the normalised rows of the point's block (`held`), and the output's tile is the one
  of those rows and the point's columns (`point`).
-/
module

public import proofs.«01_k».proof.Proof.Project.FfnInTiles
public import Idealize.ShloMosaic.Lib.ValueLayout

@[expose] public section

set_option maxRecDepth 16384

noncomputable section

namespace Cert.FfnInIdeal.Run

open Cert.FfnInIdeal Cert.FfnInIdeal.Gen
open Idealize.ShloMosaic Idealize.ShloMosaic.TcCoe
open Idealize.SL.Sem

/-- The row of the whole array at row `r` of the extended block `i`: sixteen rows before it, its 1024, sixteen after, the first and the
    last block's outer rows being some other rows. -/
def src (i : Fin 40) (r : Fin 1056) : Fin 40960 :=
  ⟨if r.val < 16 then 16 * (64 * i.val - 1) + r.val else if r.val < 1040 then 1024 * i.val + (r.val - 16)
    else 16 * min (64 * (i.val + 1)) 2559 + (r.val - 1040), by split_ifs <;> omega⟩

theorem index : ∀ t : Fin cfg0.N, (win0_0.index t = ![t.val / 11, 0] ∧ win0_1.index t = ![64 * (t.val / 11) - 1, 0]
      ∧ win0_2.index t = ![min (64 * (t.val / 11 + 1)) 2559, 0] ∧ win0_3.index t = ![0, 0])
    ∧ (win0_4.index t = ![0, t.val % 11] ∧ win0_5.index t = ![0, t.val % 11] ∧ win0_6.index t = ![0, t.val % 11])
    ∧ (win0_7.index t = ![0, t.val % 11 + 11] ∧ win0_8.index t = ![0, t.val % 11 + 11] ∧ win0_9.index t = ![0, t.val % 11 + 11])
    ∧ win0_10.index t = ![t.val / 11, t.val % 11] :=
  (by decide +kernel : ∀ t : Fin grid0.N, _)

/-- The words of the first and of the last rows: of a block that begins a sequence, and of one that ends it. -/
theorem words : ∀ t : Fin cfg0.N, ((kernelRun0_A.sl.v11 (grid0.coords t) = 1#1 ↔ t.val / 11 % 8 = 0) ∧ (kernelRun0_A.sl.v23 (grid0.coords t) = 1#1 ↔ t.val / 11 % 8 = 7))
    ∧ (kernelRun0_B.sl.v11 (grid0.coords t) = kernelRun0_A.sl.v11 (grid0.coords t) ∧ kernelRun0_B.sl.v23 (grid0.coords t) = kernelRun0_A.sl.v23 (grid0.coords t)) :=
  (by decide +kernel : ∀ t : Fin grid0.N, _)

variable (m : (ℓ : Loc nD τ sig) → Buf (Elt Ideal) ℓ) (ρ : Dev nD → PrngReg) (c : Dev nD)

/-- The gains as the kernel's one row, and the biases: the arguments', reshaped. -/
theorem gains (k : Fin 2048) : (V m c main_v1 : S1x2048.Idx → EReal) (ix2 0 k) = (m ((c.tc : Thread nD τ).loc main_arg1) : S2048.Idx → EReal) (ix1 k) := by
  have h : (V m c main_v1 : S1x2048.Idx → EReal)
      = shapeCast S1x2048 (m ((c.tc : Thread nD τ).loc main_arg1) : Vec Ideal S2048 .f32) shapeCasts_S2048_S1x2048 := by
    unfold V hostOps0
    after_results
    rfl
  rw [h]
  generalize (m ((c.tc : Thread nD τ).loc main_arg1) : Vec Ideal S2048 .f32) = g
  pointwise

theorem biases (J : Fin 11264) : (V m c main_v0 : S1x11264.Idx → EReal) (ix2 0 J) = (m ((c.tc : Thread nD τ).loc main_arg4) : S11264.Idx → EReal) (ix1 J) := by
  have h : (V m c main_v0 : S1x11264.Idx → EReal)
      = shapeCast S1x11264 (m ((c.tc : Thread nD τ).loc main_arg4) : Vec Ideal S11264 .f32) shapeCasts_S11264_S1x11264 := by
    unfold V hostOps0
    after_results
    rfl
  rw [h]
  exact ValueIdx.shapeCast_a_1a_apply (a := 11264) _ _ _ _

/-- The normalised rows of the whole array. -/
def normed : S40960x2048.Idx → EReal :=
  Norm.rows (M := 40960) (D := 2048) (m ((c.tc : Thread nD τ).loc main_arg0)) (fun k => (m ((c.tc : Thread nD τ).loc main_arg1) : S2048.Idx → EReal) (ix1 k))

/-- Block `i`'s, with the rows about it. -/
def held (i : Fin 40) : Vec Ideal S1056x2048 .bf16 := fun y => normed m c (ix2 (src i (y 0)) (y 1))

/-- A point's block of rows. -/
def blockOf (t : Fin cfg0.N) : Fin 40 := ⟨t.val / 11, by have h : t.val < 440 := t.isLt; omega⟩

/-- What a first point stores to the scratch. -/
theorem held_of_blocks (t : Fin cfg0.N) : View.canon (hn (iblk m c 0 t) (iblk m c 1 t) (iblk m c 2 t) (iblk m c 3 t)) = held m c (blockOf t) := by
  obtain ⟨⟨h0, h1, h2, h3⟩, -⟩ := index t
  have ht : t.val < 440 := t.isLt
  have hg : ∀ k : Fin 2048, (iblk m c 3 t : S1x2048.Idx → EReal) (ix2 0 k) = (m ((c.tc : Thread nD τ).loc main_arg1) : S2048.Idx → EReal) (ix1 k) := fun k => by
    refine Eq.trans (congrArg (V m c main_v1 : S1x2048.Idx → EReal) ?_) (gains m c k)
    blk_ext [h3]
  refine funext fun y => ?_
  obtain ⟨s, k, rfl⟩ : ∃ s k, y = ix2 s k := ⟨y 0, y 1, eq_ix2 y⟩
  refine hn_apply _ _ _ _ (fun s k => normed m c (ix2 (src (blockOf t) s) k)) ?_ ?_ ?_ s k
  · intro r s k hs
    refine Norm.rows_row (M := 40960) (D := 2048) (R := 16) _ _ _ _ _ r (fun k => ?_) hg k
    refine (congrFun (V_main_arg0 m c) _).trans (congrArg (m ((c.tc : Thread nD τ).loc main_arg0)) ?_)
    have hr := r.isLt
    have e : (src (blockOf t) s).val = 16 * (64 * (t.val / 11) - 1) + s.val := if_pos (by omega)
    blk_ext [h1]
  · intro r s k hs
    refine Norm.rows_row (M := 40960) (D := 2048) (R := 1024) _ _ _ _ _ r (fun k => ?_) hg k
    refine (congrFun (V_main_arg0 m c) _).trans (congrArg (m ((c.tc : Thread nD τ).loc main_arg0)) ?_)
    have hr := r.isLt
    have e : (src (blockOf t) s).val = 1024 * (t.val / 11) + (s.val - 16) := (if_neg (by omega)).trans (if_pos (by omega))
    blk_ext [h0]
  · intro r s k hs
    refine Norm.rows_row (M := 40960) (D := 2048) (R := 16) _ _ _ _ _ r (fun k => ?_) hg k
    refine (congrFun (V_main_arg0 m c) _).trans (congrArg (m ((c.tc : Thread nD τ).loc main_arg0)) ?_)
    have hr := r.isLt
    have e : (src (blockOf t) s).val = 16 * min (64 * (t.val / 11 + 1)) 2559 + (s.val - 1040) := (if_neg (by omega)).trans (if_neg (by omega))
    blk_ext [h2]

/-- What the first points leave in the scratch is the three stores. -/
theorem scratchA (t : Fin cfg0.N) (h0 : t.val % 11 = 0) : (outsAt0 m c t.val t.isLt).2 = held m c (blockOf t) := by
  rw [outsAt0_A m c t h0]
  dsimp only
  unfold sout0_A_0
  rw [View.read_writes_junk_eq_canon]
  refine Eq.trans (congrArg View.canon (?_ : _ = hn (iblk m c 0 t) (iblk m c 1 t) (iblk m c 2 t) (iblk m c 3 t))) (held_of_blocks m c t)
  refine (storesA _ _ _ _ _ _ _ _ _ _ _ _ _ _ _ _ _ _ _ _ _ _ _ _ _ _ _ _ _ _ _ _ _ _ _ _ _ _ _ _ _).trans ?_
  rw [load, load, load, load]

/-- At every point the scratch is its block's normalised rows. -/
theorem scratch : ∀ (n : ℕ) (hn : n < cfg0.N), (outsAt0 m c n hn).2 = held m c (blockOf ⟨n, hn⟩)
  | 0, hn => scratchA m c ⟨0, hn⟩ rfl
  | n + 1, hn => by
    by_cases h0 : (n + 1) % 11 = 0
    · exact scratchA m c ⟨n + 1, hn⟩ h0
    · refine (congrArg Prod.snd (outsAt0_B m c ⟨n + 1, hn⟩ h0)).trans ?_
      dsimp only
      unfold sout0_B_0
      refine (scratch n (Nat.lt_of_succ_lt hn)).trans (congrArg (held m c) (Fin.ext ?_))
      show n / 11 = (n + 1) / 11
      omega

/-- At every point the output's tile is the one of those rows. -/
theorem point (t : Fin cfg0.N) : (outsAt0 m c t.val t.isLt).1
    = tile (held m c (blockOf t)) (iblk m c 4 t) (iblk m c 5 t) (iblk m c 6 t) (iblk m c 7 t) (iblk m c 8 t) (iblk m c 9 t)
        (kernelRun0_A.sl.v11 (grid0.coords t)) (kernelRun0_A.sl.v23 (grid0.coords t)) := by
  by_cases h0 : t.val % 11 = 0
  · refine (congrArg Prod.fst (outsAt0_A m c t h0)).trans ?_
    dsimp only
    unfold out0_A_10
    rw [View.read_writes_junk_eq_canon]
    refine (congrArg View.canon (piecesA _ _ _ _ _ _ _ _ _ _ _ _ _ _ _ _ _ _ _ _ _ _ _ _ _ _ _ _ _ _ _ _ _ _ _ _ _ _ _ _ _)).trans ?_
    refine tiles_eq _ _ _ _ _ _ _ _ _ _ _ _ _ _ _ _ _ _ ?_ (load _ _ _ _) (Memref.IsWhole.read_unread _ _) (Memref.IsWhole.read_unread _ _)
      (load _ _ _ _) (Memref.IsWhole.read_unread _ _) (Memref.IsWhole.read_unread _ _)
    rw [load, load, load, load, View.readCov_eq_canon']
    refine Eq.trans (funext fun y => congrArg (View.canon _) (?_ : _ = y)) (held_of_blocks m c t)
    refine funext fun b => Fin.ext ?_
    fin_cases b
    · show 0 + 1 * (y 0).val = (y 0).val; omega
    · show 0 + 1 * (y 1).val = (y 1).val; omega
  · have ht : t.val < cfg0.N := t.isLt
    refine (congrArg Prod.fst (outsAt0_B m c t h0)).trans ?_
    dsimp only
    unfold out0_B_10
    rw [View.read_writes_junk_eq_canon]
    refine (congrArg View.canon (piecesB _ _ _ _ _ _ _ _ _ _ _ _ _ _ _ _ _ _ _ _ _ _ _ _ _ _ _ _ _ _ _ _ _ _ _ _ _ _ _ _ _ _)).trans ?_
    rw [(words t).2.1, (words t).2.2]
    refine tiles_eq _ _ _ _ _ _ _ _ _ _ _ _ _ _ _ _ _ _ ?_ (load _ _ _ _) (Memref.IsWhole.read_unread _ _) (Memref.IsWhole.read_unread _ _)
      (load _ _ _ _) (Memref.IsWhole.read_unread _ _) (Memref.IsWhole.read_unread _ _)
    rw [load, scratch m c (t.val - 1) (Nat.lt_of_le_of_lt (Nat.sub_le _ _) t.isLt)]
    refine congrArg (held m c) (Fin.ext ?_)
    show (t.val - 1) / 11 = t.val / 11
    omega

end Cert.FfnInIdeal.Run

end
-- ==== Proof.Project.FfnInReference.lean ====
/-
  THE CHANNEL MIXER'S INPUT PRODUCT: the reference's run leaves its arguments alone and ends
  with the convolution and gate of `Conv.lean` of the product of the normalised rows.
-/
module

public import proofs.«01_k».proof.Proof.Gen.FfnInReferenceIdeal.Run
public import proofs.«01_k».proof.Proof.Project.Conv
public import proofs.«01_k».proof.Defs
public import Idealize.ShloMosaic.Lib.Pointwise

@[expose] public section

set_option maxRecDepth 16384

noncomputable section

namespace Cert.FfnInReferenceIdeal.Run

open Cert.FfnInReferenceIdeal Cert.FfnInReferenceIdeal.Gen Cert.FfnInReferenceIdeal.Value
open Idealize.ShloMosaic Idealize.ShloMosaic.TcCoe
open Idealize.SL.Sem

variable (m : (ℓ : Loc nD τ sig) → Buf (Elt Ideal) ℓ) (g : Dev nD → PrngReg)

/-- The run leaves the arguments alone, and there is no semaphore. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m g)

/-- The product of the normalised rows, as the reference's term has it. -/
theorem product (x : FVec Ideal S40960x2048 .f32) (g : FVec Ideal S2048 .f32) (w : FVec Ideal S2048x11264 .bf16) :
    Host.dotGeneral dot_S40960x2048_S2048x11264_S40960x11264_1_0_0_1_n_n none (mulf (mulf x
        (broadcastInDim S40960x2048 ![0, 1] bcast_S40960x1_S40960x2048_0_1 (Host.rsqrt (addf (Host.divf (broadcastInDim S40960x1 ![0]
          bcast_S40960_S40960x1_0 (Host.reduceAdd (mulf x x) (constant S_ .f32 0x00000000#32) reducesTo_S40960x2048_S40960_d1 h_S_))
          (broadcastInDim S40960x1 ![] bcast_S_S40960x1 (constant S_ .f32 0x45000000#32)))
          (broadcastInDim S40960x1 ![] bcast_S_S40960x1 (constant S_ .f32 0x358637BD#32))))))
        (broadcastInDim S40960x2048 ![0, 1] bcast_S1x2048_S40960x2048_0_1 (broadcastInDim S1x2048 ![1] bcast_S2048_S1x2048_1 g)))
      (extf .f32 w bitsLt_bf16_f32)
      = Norm.out (M := 40960) (D := 2048) (N := 11264) x (fun k => g (ix1 k)) w := by
  refine funext fun y => ?_
  obtain ⟨i, j, rfl⟩ : ∃ i j, y = ix2 i j := ⟨y 0, y 1, eq_ix2 y⟩
  pointwise
  rfl

theorem sitofp_zero : FloatOps.sitofp (F := Ideal) FTy.f32 0#32 = (0 : EReal) := by
  show (((0#32 : BitVec 32).toInt : ℝ) : EReal) = 0
  simp

/-- The padded rows' taps are the plain ones. -/
theorem before (P : S40960x11264.Idx → EReal) (i : Fin 40960) (J : Fin 11264)
    (pf : 1 ≤ i.val % 8192 → i.val / 8192 * 8192 + (i.val % 8192 - 1) < 40960) :
    (if h : 1 ≤ i.val % 8192 then P (ix2 ⟨i.val / 8192 * 8192 + (i.val % 8192 - 1), pf h⟩ J) else 0)
      = if i.val % 8192 = 0 then 0 else P (ix2 (Conv.prev i) J) := by
  by_cases h : 1 ≤ i.val % 8192
  · rw [dif_pos h, if_neg (by omega)]
    refine congrArg (fun r => P (ix2 r J)) (Fin.ext ?_)
    show i.val / 8192 * 8192 + (i.val % 8192 - 1) = i.val - 1
    omega
  · rw [dif_neg h, if_pos (by omega)]

theorem after (P : S40960x11264.Idx → EReal) (i : Fin 40960) (J : Fin 11264)
    (pf : 1 ≤ 2 + i.val % 8192 ∧ 2 + i.val % 8192 - 1 < 8192 → i.val / 8192 * 8192 + (2 + i.val % 8192 - 1) < 40960) :
    (if h : 1 ≤ 2 + i.val % 8192 ∧ 2 + i.val % 8192 - 1 < 8192 then P (ix2 ⟨i.val / 8192 * 8192 + (2 + i.val % 8192 - 1), pf h⟩ J) else 0)
      = if i.val % 8192 = 8191 then 0 else P (ix2 (Conv.next i) J) := by
  have hi := i.isLt
  by_cases h : 1 ≤ 2 + i.val % 8192 ∧ 2 + i.val % 8192 - 1 < 8192
  · rw [dif_pos h, if_neg (by omega)]
    refine congrArg (fun r => P (ix2 r J)) (Fin.ext ?_)
    show i.val / 8192 * 8192 + (2 + i.val % 8192 - 1) = min (i.val + 1) 40959
    omega
  · rw [dif_neg h, if_pos (by omega)]

theorem tapped (P : S40960x11264.Idx → EReal) (cw : S3x11264.Idx → EReal) (cb : Fin 11264 → EReal) (i : Fin 40960) (J : Fin 11264) :
    (if h : 1 ≤ i.val % 8192 then P (ix2 ⟨i.val / 8192 * 8192 + (i.val % 8192 - 1), by omega⟩ J) else 0) * cw (ix2 0 J)
      + P (ix2 i J) * cw (ix2 1 J)
      + (if h : 1 ≤ 2 + i.val % 8192 ∧ 2 + i.val % 8192 - 1 < 8192 then
          P (ix2 ⟨i.val / 8192 * 8192 + (2 + i.val % 8192 - 1), by omega⟩ J) else 0) * cw (ix2 2 J)
      + cb J = Conv.tap P cw cb i J := by
  rw [before P i J fun _ => by omega, after P i J fun _ => by omega]
  rfl

/-- The reference's value. -/
theorem term (c : Dev nD) : (res_main_v45 m c : S40960x5632.Idx → EReal)
    = Conv.mix (Norm.out (M := 40960) (D := 2048) (N := 11264) (m ((c.tc : Thread nD τ).loc main_arg0))
        (fun k => (m ((c.tc : Thread nD τ).loc main_arg1) : S2048.Idx → EReal) (ix1 k)) (m ((c.tc : Thread nD τ).loc main_arg2)))
      (m ((c.tc : Thread nD τ).loc main_arg3)) (fun J => (m ((c.tc : Thread nD τ).loc main_arg4) : S11264.Idx → EReal) (ix1 J)) := by
  unfold res_main_v45
  generalize m ((c.tc : Thread nD τ).loc main_arg0) = x
  generalize m ((c.tc : Thread nD τ).loc main_arg1) = g
  generalize m ((c.tc : Thread nD τ).loc main_arg2) = w
  generalize m ((c.tc : Thread nD τ).loc main_arg3) = cw
  generalize m ((c.tc : Thread nD τ).loc main_arg4) = cb
  generalize hP : (Host.dotGeneral (F := Ideal) _ _ _ _) = P
  have e : Norm.out (M := 40960) (D := 2048) (N := 11264) x (fun k => (g : S2048.Idx → EReal) (ix1 k)) w = P := (product x g w).symm.trans hP
  rw [e]
  clear e hP
  refine funext fun y => ?_
  obtain ⟨i, j, rfl⟩ : ∃ i j, y = ix2 i j := ⟨y 0, y 1, eq_ix2 y⟩
  have hi := i.isLt
  have hj := j.isLt
  have a1 : i.val / 8192 < 5 := by omega
  have a2 : j.val < 11264 := by omega
  have a3 : 5632 + j.val < 11264 := by omega
  have a4 : i.val % 8192 < 8192 := by omega
  have a5 : i.val % 8192 - 1 < 8192 := by omega
  pointwise
  simp only [sitofp_zero, a1, a2, a3, a4, a5, true_and, and_true, dite_true]
  exact congrArg₂ Conv.glu (tapped P cw (fun J => (cb : S11264.Idx → EReal) (ix1 J)) i (Conv.lo j)) (tapped P cw (fun J => (cb : S11264.Idx → EReal) (ix1 J)) i (Conv.hi j))

end Cert.FfnInReferenceIdeal.Run

end
-- ==== Proof.Project.FfnIn.lean ====
/-
  THE CHANNEL MIXER'S INPUT PRODUCT. The kernel's run and the reference's both end with the convolution and gate of `Conv.lean` of the
  product of the normalised rows with `w`.
-/
module

public import proofs.«01_k».proof.Proof.Project.FfnInPoint
public import proofs.«01_k».proof.Proof.Project.FfnInReference

@[expose] public section

set_option maxRecDepth 16384

noncomputable section

namespace Cert.FfnInIdeal.Run

open Cert.FfnInIdeal Cert.FfnInIdeal.Gen
open Idealize.ShloMosaic Idealize.ShloMosaic.TcCoe
open Idealize.SL.Sem

variable (m : (ℓ : Loc nD τ sig) → Buf (Elt Ideal) ℓ) (ρ : Dev nD → PrngReg) (c : Dev nD)

/-- The product of the normalised rows, and the result, of the argument arrays. -/
def product : (⟨2, ![40960, 11264]⟩ : Shape).Idx → EReal :=
  Norm.out (M := 40960) (D := 2048) (N := 11264) (m ((c.tc : Thread nD τ).loc main_arg0))
    (fun k => (m ((c.tc : Thread nD τ).loc main_arg1) : S2048.Idx → EReal) (ix1 k)) (m ((c.tc : Thread nD τ).loc main_arg2))

def result : S40960x5632.Idx → EReal :=
  Conv.mix (product m c) (m ((c.tc : Thread nD τ).loc main_arg3)) (fun J => (m ((c.tc : Thread nD τ).loc main_arg4) : S11264.Idx → EReal) (ix1 J))

/-- A segment of a block's tile is the segment of the whole: inside the block by the row itself, beside it by the rows about it, and
    beyond the ends of a sequence zero in both. -/
theorem segment (i : Fin 40) (w : S2048x512.Idx → EReal) (W : S3x512.Idx → EReal) (B : S1x512.Idx → EReal) (a e : BitVec 1)
    (ha : a = 1#1 ↔ i.val % 8 = 0) (he : e = 1#1 ↔ i.val % 8 = 7) (y0 : Fin 1024) (y1 : Fin 512) (T : Fin 40960) (J : Fin 11264)
    (hT : T.val = 1024 * i.val + y0.val) (hw : ∀ k, w (ix2 k y1) = (m ((c.tc : Thread nD τ).loc main_arg2) : S2048x11264.Idx → EReal) (ix2 k J))
    (hW : ∀ k, W (ix2 k y1) = (m ((c.tc : Thread nD τ).loc main_arg3) : S3x11264.Idx → EReal) (ix2 k J))
    (hB : B (ix2 0 y1) = (m ((c.tc : Thread nD τ).loc main_arg4) : S11264.Idx → EReal) (ix1 J)) :
    tileTap (extP (held m c i) w a e) W B y0 y1
      = Conv.tap (product m c) (m ((c.tc : Thread nD τ).loc main_arg3)) (fun J => (m ((c.tc : Thread nD τ).loc main_arg4) : S11264.Idx → EReal) (ix1 J)) T J := by
  have hi := i.isLt
  have hy := y0.isLt
  have row : ∀ (r : Fin 1056) (S : Fin 40960), src i r = S →
      (∑ k : Fin 2048, held m c i (ix2 r k) * w (ix2 k y1)) = product m c (ix2 S J) := by
    intro r S hS
    subst hS
    exact Finset.sum_congr rfl fun k _ => congrArg₂ (· * ·) rfl (hw k)
  unfold tileTap Conv.tap
  rw [hW 0, hW 1, hW 2, hB]
  refine congrArg₂ (· + ·) (congrArg₂ (· + ·) (congrArg₂ (· + ·) (congrArg₂ (· * ·) ?_ rfl) (congrArg₂ (· * ·) ?_ rfl)) (congrArg₂ (· * ·) ?_ rfl)) rfl
  · show (if y0.val + 15 < 16 ∧ a = 1#1 ∨ 1040 ≤ y0.val + 15 ∧ e = 1#1 then 0 else _) = _
    by_cases h : T.val % 8192 = 0
    · rw [if_pos h]
      exact if_pos (by rw [ha, he]; omega)
    · rw [if_neg h]
      refine (if_neg (by rw [ha, he]; omega)).trans (row _ _ (Fin.ext ?_))
      show (if y0.val + 15 < 16 then 16 * (64 * i.val - 1) + (y0.val + 15) else if y0.val + 15 < 1040 then 1024 * i.val + (y0.val + 15 - 16)
        else 16 * min (64 * (i.val + 1)) 2559 + (y0.val + 15 - 1040)) = T.val - 1
      split_ifs <;> omega
  · show (if y0.val + 16 < 16 ∧ a = 1#1 ∨ 1040 ≤ y0.val + 16 ∧ e = 1#1 then 0 else _) = _
    rw [if_neg (by omega)]
    refine row _ _ (Fin.ext ?_)
    show (if y0.val + 16 < 16 then 16 * (64 * i.val - 1) + (y0.val + 16) else if y0.val + 16 < 1040 then 1024 * i.val + (y0.val + 16 - 16)
      else 16 * min (64 * (i.val + 1)) 2559 + (y0.val + 16 - 1040)) = T.val
    split_ifs <;> omega
  · show (if y0.val + 17 < 16 ∧ a = 1#1 ∨ 1040 ≤ y0.val + 17 ∧ e = 1#1 then 0 else _) = _
    by_cases h : T.val % 8192 = 8191
    · rw [if_pos h]
      exact if_pos (by rw [ha, he]; omega)
    · rw [if_neg h]
      refine (if_neg (by rw [ha, he]; omega)).trans (row _ _ (Fin.ext ?_))
      show (if y0.val + 17 < 16 then 16 * (64 * i.val - 1) + (y0.val + 17) else if y0.val + 17 < 1040 then 1024 * i.val + (y0.val + 17 - 16)
        else 16 * min (64 * (i.val + 1)) 2559 + (y0.val + 17 - 1040)) = min (T.val + 1) 40959
      split_ifs <;> omega

/-- The output array after all points. -/
theorem final : (dats m 0 c).arrAt 10 cfg0.N = result m c := by
  refine (dats m 0 c).arrAt_eq_of_covers 10 _ (by decide +kernel) fun t hf y => ?_
  blk_simp
  rw [after0_10, point]
  obtain ⟨-, ⟨h4, h5, h6⟩, ⟨h7, h8, h9⟩, h10⟩ := index t
  obtain ⟨⟨wa, we⟩, -⟩ := words t
  have e0 : (((win0_10.blk t).view.emb y) 0 : ℕ) = 1024 * (t.val / 11) + (y 0).val := by blk_simp [h10]; omega
  have e1 : (((win0_10.blk t).view.emb y) 1 : ℕ) = 512 * (t.val % 11) + (y 1).val := by blk_simp [h10]; omega
  refine congrArg₂ Conv.glu (segment m c (blockOf t) _ _ _ _ _ wa we (y 0) (y 1) _ _ e0 (fun k => ?_) (fun k => ?_) ?_)
    (segment m c (blockOf t) _ _ _ _ _ wa we (y 0) (y 1) _ _ e0 (fun k => ?_) (fun k => ?_) ?_)
  · refine (congrFun (V_main_arg2 m c) _).trans (congrArg (m ((c.tc : Thread nD τ).loc main_arg2)) ?_)
    blk_ext [h4, h10, Conv.lo]
  · refine (congrFun (V_main_arg3 m c) _).trans (congrArg (m ((c.tc : Thread nD τ).loc main_arg3)) ?_)
    blk_ext [h5, h10, Conv.lo]
  · refine Eq.trans (congrArg (V m c main_v0 : S1x11264.Idx → EReal) ?_) (biases m c _)
    blk_ext [h6, h10, Conv.lo]
  · refine (congrFun (V_main_arg2 m c) _).trans (congrArg (m ((c.tc : Thread nD τ).loc main_arg2)) ?_)
    blk_ext [h7, h10, Conv.hi]
  · refine (congrFun (V_main_arg3 m c) _).trans (congrArg (m ((c.tc : Thread nD τ).loc main_arg3)) ?_)
    blk_ext [h8, h10, Conv.hi]
  · refine Eq.trans (congrArg (V m c main_v0 : S1x11264.Idx → EReal) ?_) (biases m c _)
    blk_ext [h9, h10, Conv.hi]

/-- The run, with its value. -/
theorem value : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 10).trans (final m c), h.2 c⟩) (θ_run_and (run_main m ρ) (unchanged m ρ))

end Cert.FfnInIdeal.Run

namespace Cert.FfnInReferenceIdeal.Run

open Cert.FfnInReferenceIdeal Cert.FfnInReferenceIdeal.Gen Cert.FfnInReferenceIdeal.Value
open Idealize.ShloMosaic Idealize.ShloMosaic.TcCoe
open Idealize.SL.Sem

/-- The kernel and the reference compute one value. -/
theorem algebraic : Cert.algebraic_FfnInIdeal_FfnInReferenceIdeal := by
  intro m g m' g' _ hagree
  refine ⟨fun c => Cert.FfnInIdeal.Run.result m c, Cert.FfnInIdeal.Run.value m g, ?_⟩
  refine (θ_run defs _ _).mono (fun r h c => ⟨(h c).1.trans ?_, (h c).2⟩) (Value.run m' g')
  refine (term m' c).trans ?_
  rw [(hagree c).1, (hagree c).2.1, (hagree c).2.2.1, (hagree c).2.2.2.1, (hagree c).2.2.2.2]
  rfl

end Cert.FfnInReferenceIdeal.Run

end
-- ==== Proof.lean ====
/-
  THE CLAIMS. The kernel's runs and its frame are `Proof/Flash/KernelFrame.lean`'s and `KernelIdealFrame.lean`'s; the value of its
  run is `KernelIdealRun.lean`'s, that of the reference's `RefValue.lean`'s, and the two are the same function of the arguments. The other calls' are `Proof/Project/`'s.
-/
module

public import proofs.«01_k».proof.Defs
public import proofs.«01_k».proof.Proof.Flash.KernelFrame
public import proofs.«01_k».proof.Proof.Flash.KernelIdealFrame
public import proofs.«01_k».proof.Proof.Flash.KernelIdealRun
public import proofs.«01_k».proof.Proof.Flash.RefValue
public import proofs.«01_k».proof.Proof.Flash.Finite
public import proofs.«01_k».proof.Proof.Project.FfnOut
public import proofs.«01_k».proof.Proof.Project.EvenOut
public import proofs.«01_k».proof.Proof.Project.CrossOut
public import proofs.«01_k».proof.Proof.Project.HyenaOut
public import proofs.«01_k».proof.Proof.Project.EvenIn
public import proofs.«01_k».proof.Proof.Project.CrossIn
public import proofs.«01_k».proof.Proof.Gen.FfnIn.Frame
public import proofs.«01_k».proof.Proof.Project.FfnIn

@[expose] public section

noncomputable section

namespace Cert.Proof

open Idealize.ShloMosaic Idealize.ShloMosaic.TcCoe Idealize.SL.Sem

/-- The reference's frame: its run leaves the arguments alone, and it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The kernel and the reference compute one value of finite queries and keys. -/
theorem algebraic : Cert.algebraic_KernelIdeal_ReferenceIdeal_pre_qk_finite := by
  intro m g m' g' hpre hagree
  have hfin : ∀ c x, ∃ r : ℝ, Cert.KernelIdeal.Run.arrQ m c x = (r : EReal) := fun c x =>
    Cert.Pre_qk_finite.Read.finite _ _ (hpre c) x
  refine ⟨fun c => Cert.Flash.attn (Cert.KernelIdeal.Run.arrQ m c) (Cert.KernelIdeal.Run.arrP m c), Cert.KernelIdeal.Run.value m g hfin, ?_⟩
  refine (θ_run Cert.ReferenceIdeal.defs _ _).mono (fun r h c => ⟨(h c).1.trans ?_, (h c).2⟩) (Cert.ReferenceIdeal.Value.run m' g')
  have h0 : m' ((c.tc : Thread Cert.ReferenceIdeal.nD Cert.ReferenceIdeal.τ).loc Cert.ReferenceIdeal.main_arg0) = Cert.KernelIdeal.Run.arrQ m c := (hagree c).1
  have h1 : m' ((c.tc : Thread Cert.ReferenceIdeal.nD Cert.ReferenceIdeal.τ).loc Cert.ReferenceIdeal.main_arg1) = Cert.KernelIdeal.Run.arrP m c := (hagree c).2
  refine (Cert.ReferenceIdeal.Read.res_eq m' c).trans ?_
  rw [h0, h1]
  exact Cert.ReferenceIdeal.Read.result_eq _ (hfin c)

/-- All claims. -/
theorem claim : Cert.Claim := ⟨Cert.Kernel.Gen.facts, Cert.KernelIdeal.Gen.facts, Cert.ReferenceIdeal.Gen.facts,
  Cert.FfnOut.Gen.facts, Cert.FfnOutIdeal.Gen.facts, Cert.FfnOutReferenceIdeal.Gen.facts,
  Cert.EvenOut.Gen.facts, Cert.EvenOutIdeal.Gen.facts, Cert.EvenOutReferenceIdeal.Gen.facts,
  Cert.CrossOut.Gen.facts, Cert.CrossOutIdeal.Gen.facts, Cert.CrossOutReferenceIdeal.Gen.facts,
  Cert.HyenaOut.Gen.facts, Cert.HyenaOutIdeal.Gen.facts, Cert.HyenaOutReferenceIdeal.Gen.facts,
  Cert.EvenIn.Gen.facts, Cert.EvenInIdeal.Gen.facts, Cert.EvenInReferenceIdeal.Gen.facts,
  Cert.CrossIn.Gen.facts, Cert.CrossInIdeal.Gen.facts, Cert.CrossInReferenceIdeal.Gen.facts,
  Cert.FfnIn.Gen.facts, Cert.FfnInIdeal.Gen.facts, Cert.FfnInReferenceIdeal.Gen.facts,
  Cert.Pre_qk_finite.Read.facts,
  fun m g _ => Cert.Kernel.Run.frame m g,
  fun m g _ => Cert.KernelIdeal.RunAny.frame m g,
  fun m g _ => Cert.KernelIdeal.RunAny.frame m g,
  fun m g _ => frame_reference m g,
  fun m g _ => frame_reference m g,
  fun m g _ => Cert.FfnOut.Gen.frame m g,
  fun m g _ => Cert.FfnOutIdeal.Gen.frame m g,
  fun m g _ => Cert.FfnOutReferenceIdeal.Run.frame m g,
  fun m g _ => Cert.EvenOut.Gen.frame m g,
  fun m g _ => Cert.EvenOutIdeal.Gen.frame m g,
  fun m g _ => Cert.EvenOutReferenceIdeal.Run.frame m g,
  fun m g _ => Cert.CrossOut.Gen.frame m g,
  fun m g _ => Cert.CrossOutIdeal.Gen.frame m g,
  fun m g _ => Cert.CrossOutReferenceIdeal.Run.frame m g,
  fun m g _ => Cert.HyenaOut.Gen.frame m g,
  fun m g _ => Cert.HyenaOutIdeal.Gen.frame m g,
  fun m g _ => Cert.HyenaOutReferenceIdeal.Run.frame m g,
  fun m g _ => Cert.EvenIn.Gen.frame m g,
  fun m g _ => Cert.EvenInIdeal.Gen.frame m g,
  fun m g _ => Cert.EvenInReferenceIdeal.Run.frame m g,
  fun m g _ => Cert.CrossIn.Gen.frame m g,
  fun m g _ => Cert.CrossInIdeal.Gen.frame m g,
  fun m g _ => Cert.CrossInReferenceIdeal.Run.frame m g,
  fun m g _ => Cert.FfnIn.Gen.frame m g,
  fun m g _ => Cert.FfnInIdeal.Gen.frame m g,
  fun m g _ => Cert.FfnInReferenceIdeal.Run.frame m g,
  trivial, algebraic,
  trivial, Cert.FfnOutReferenceIdeal.Run.algebraic,
  trivial, Cert.EvenOutReferenceIdeal.Run.algebraic,
  trivial, Cert.CrossOutReferenceIdeal.Run.algebraic,
  trivial, Cert.HyenaOutReferenceIdeal.Run.algebraic,
  trivial, Cert.EvenInReferenceIdeal.Run.algebraic,
  trivial, Cert.CrossInReferenceIdeal.Run.algebraic,
  trivial, Cert.FfnInReferenceIdeal.Run.algebraic⟩

end Cert.Proof

end
